-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).1 = (fun _ => 1#1)
    ∧ (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2 = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2 = (fun _ => 1#1)

def Pre_Kernel3 [hPre_routed : Cert.Pre_routed.Facts] (m : (ℓ : Loc Cert.Kernel3.nD Cert.Kernel3.τ Cert.Kernel3.sig) → Buf (Elt Bits) ℓ) : Prop :=
  ∀ c : Dev Cert.Kernel3.nD,
    (Cert.Pre_routed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))).1 = (fun _ => 1#1)
    ∧ (Cert.Pre_routed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))).2 = (fun _ => 1#1)

def Pre_Kernel3Ideal [hPre_routed : Cert.Pre_routed.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_routed [hPre_routed : Cert.Pre_routed.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] [hPre_routed : Cert.Pre_routed.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_routed [hReference3Ideal : Cert.Reference3Ideal.Facts] [hPre_routed : Cert.Pre_routed.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_routed m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3) (hPre_routed := hPre_routed)
    ∧ quiescent_Kernel3Ideal (hKernel3Ideal := hKernel3Ideal) (hPre_routed := hPre_routed)
    ∧ quiescent_Reference3Ideal (hReference3Ideal := hReference3Ideal)
    ∧ quiescent_Reference3Ideal_pre_routed (hReference3Ideal := hReference3Ideal) (hPre_routed := hPre_routed)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal) (hPre_routed := hPre_routed)
-- ==== Pre_finite.lean ====
abbrev S20480x1024 : Shape := ⟨2, ![20480, 1024]⟩
abbrev S20480x256 : Shape := ⟨2, ![20480, 256]⟩
abbrev S8x256x256 : Shape := ⟨3, ![8, 256, 256]⟩
abbrev S_ : Shape := ⟨0, ![]⟩

class Facts : Prop where
  bitsLt_bf16_f32 : FTy.bits .bf16 < FTy.bits .f32
  bcast_S_S20480x1024 : S_.BroadcastsInDim S20480x1024 (![] : Fin 0 → Fin S20480x1024.rank)
  bcast_S_S20480x256 : S_.BroadcastsInDim S20480x256 (![] : Fin 0 → Fin S20480x256.rank)
  bcast_S_S8x256x256 : S_.BroadcastsInDim S8x256x256 (![] : Fin 0 → Fin S8x256x256.rank)

variable [Facts]

def fn {F : FTy → Type} [FloatOps F] (main_arg0 : FVec F S20480x1024 .bf16) (main_arg1 : FVec F S20480x256 .bf16) (main_arg2 : FVec F S20480x256 .bf16) (main_arg3 : FVec F S8x256x256 .bf16) (main_arg4 : FVec F S8x256x256 .bf16) : IVec S20480x1024 1 × IVec S20480x256 1 × IVec S8x256x256 1 :=
  let main_v0 : FVec F S20480x1024 .f32 := (extf .f32 · bitsLt_bf16_f32) main_arg0
  let main_v1 : FVec F S20480x1024 .f32 := Host.absf main_v0
  let main_cst : FVec F S_ .f32 := constant S_ .f32 0x7F800000#32
  let main_v2 : FVec F S20480x1024 .f32 := broadcastInDim S20480x1024 ![] bcast_S_S20480x1024 main_cst
  let main_v3 : IVec S20480x1024 1 := cmpf .olt main_v1 main_v2
  let main_v4 : FVec F S20480x256 .f32 := (extf .f32 · bitsLt_bf16_f32) main_arg1
  let main_v5 : FVec F S20480x256 .f32 := Host.absf main_v4
  let main_cst_0 : FVec F S_ .f32 := constant S_ .f32 0x7F800000#32
  let main_v6 : FVec F S20480x256 .f32 := broadcastInDim S20480x256 ![] bcast_S_S20480x256 main_cst_0
  let main_v7 : IVec S20480x256 1 := cmpf .olt main_v5 main_v6
  let main_v8 : FVec F S8x256x256 .f32 := (extf .f32 · bitsLt_bf16_f32) main_arg3
  let main_v9 : FVec F S8x256x256 .f32 := Host.absf main_v8
  let main_cst_1 : FVec F S_ .f32 := constant S_ .f32 0x7F800000#32
  let main_v10 : FVec F S8x256x256 .f32 := broadcastInDim S8x256x256 ![] bcast_S_S8x256x256 main_cst_1
  let main_v11 : IVec S8x256x256 1 := cmpf .olt main_v9 main_v10
  (main_v3, main_v7, main_v11)
-- ==== Pre_routed.lean ====
abbrev S45568x1024 : Shape := ⟨2, ![45568, 1024]⟩
abbrev S45568x128 : Shape := ⟨2, ![45568, 128]⟩
abbrev S178 : Shape := ⟨1, ![178]⟩
abbrev S2x8x1024x3584 : Shape := ⟨4, ![2, 8, 1024, 3584]⟩
abbrev S2x8x3584x1024 : Shape := ⟨4, ![2, 8, 3584, 1024]⟩
abbrev S_ : Shape := ⟨0, ![]⟩
abbrev S177 : Shape := ⟨1, ![177]⟩

class Facts : Prop where
  bcast_S_S178 : S_.BroadcastsInDim S178 (![] : Fin 0 → Fin S178.rank)
  slices_S178_S177_1 : S178.Slices ![1] S177
  bcast_S_S177 : S_.BroadcastsInDim S177 (![] : Fin 0 → Fin S177.rank)
  slices_S178_S177_0 : S178.Slices ![0] S177

variable [Facts]

def fn {F : FTy → Type} [FloatOps F] (main_arg0 : FVec F S45568x1024 .bf16) (main_arg1 : FVec F S45568x128 .f32) (main_arg2 : IVec S178 32) (main_arg3 : IVec S178 32) (main_arg4 : FVec F S2x8x1024x3584 .f32) (main_arg5 : FVec F S2x8x1024x3584 .f32) (main_arg6 : FVec F S2x8x3584x1024 .f32) : IVec S178 1 × IVec S177 1 :=
  let main_c : IVec S_ 32 := constantI S_ 32 0#32
  let main_v0 : IVec S178 32 := broadcastInDim S178 ![] bcast_S_S178 main_c
  let main_v1 : IVec S178 1 := cmpi .eq main_arg3 main_v0
  let main_c_0 : IVec S_ 32 := constantI S_ 32 0#32
  let main_v2 : IVec S178 32 := broadcastInDim S178 ![] bcast_S_S178 main_c_0
  let main_v3 : IVec S178 1 := cmpi .sge main_arg2 main_v2
  let main_c_1 : IVec S_ 32 := constantI S_ 32 8#32
  let main_v4 : IVec S178 32 := broadcastInDim S178 ![] bcast_S_S178 main_c_1
  let main_v5 : IVec S178 1 := cmpi .slt main_arg2 main_v4
  let main_v6 : IVec S178 1 := andi main_v3 main_v5
  let main_v7 : IVec S178 1 := ori main_v1 main_v6
  let main_v8 : IVec S177 32 := (extractStridedSlice S177 ![1] · slices_S178_S177_1) main_arg3
  let main_c_2 : IVec S_ 32 := constantI S_ 32 0#32
  let main_v9 : IVec S177 32 := broadcastInDim S177 ![] bcast_S_S177 main_c_2
  let main_v10 : IVec S177 1 := cmpi .eq main_v8 main_v9
  let main_v11 : IVec S177 32 := (extractStridedSlice S177 ![1] · slices_S178_S177_1) main_arg2
  let main_v12 : IVec S177 32 := (extractStridedSlice S177 ![0] · slices_S178_S177_0) main_arg2
  let main_v13 : IVec S177 1 := cmpi .ne main_v11 main_v12
  let main_v14 : IVec S177 1 := ori main_v10 main_v13
  let main_v15 : IVec S177 32 := (extractStridedSlice S177 ![0] · slices_S178_S177_0) main_arg3
  let main_c_3 : IVec S_ 32 := constantI S_ 32 0#32
  let main_v16 : IVec S177 32 := broadcastInDim S177 ![] bcast_S_S177 main_c_3
  let main_v17 : IVec S177 1 := cmpi .ne main_v15 main_v16
  let main_v18 : IVec S177 1 := ori main_v14 main_v17
  (main_v7, main_v18)
-- ==== Kernel.lean ====
abbrev S20480x1024 : Shape := ⟨2, ![20480, 1024]⟩
abbrev S20480x256 : Shape := ⟨2, ![20480, 256]⟩
abbrev S8x256x256 : Shape := ⟨3, ![8, 256, 256]⟩
abbrev S10x2048x1024 : Shape := ⟨3, ![10, 2048, 1024]⟩
abbrev S10x2048x256 : Shape := ⟨3, ![10, 2048, 256]⟩
abbrev S8x2048x1024 : Shape := ⟨3, ![8, 2048, 1024]⟩
abbrev S1x512x1024 : Shape := ⟨3, ![1, 512, 1024]⟩
abbrev S1x256x256 : Shape := ⟨3, ![1, 256, 256]⟩
abbrev S1x2048x256 : Shape := ⟨3, ![1, 2048, 256]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S1x2048x128 : Shape := ⟨3, ![1, 2048, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S20480x1024, .bf16⟩
  | .hbm, ⟨1, _⟩ => ⟨S20480x256, .bf16⟩
  | .hbm, ⟨2, _⟩ => ⟨S20480x256, .bf16⟩
  | .hbm, ⟨3, _⟩ => ⟨S8x256x256, .bf16⟩
  | .hbm, ⟨4, _⟩ => ⟨S8x256x256, .bf16⟩
  | .hbm, ⟨5, _⟩ => ⟨S10x2048x1024, .bf16⟩
  | .hbm, ⟨6, _⟩ => ⟨S10x2048x256, .bf16⟩
  | .hbm, ⟨7, _⟩ => ⟨S10x2048x256, .bf16⟩
  | .hbm, ⟨8, _⟩ => ⟨S8x2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x256x256, .bf16⟩
  | .local _ .vmem, ⟨3, _⟩ => ⟨S1x256x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x512x1024, .bf16⟩
  | .local _ .vmem, ⟨7, _⟩ => ⟨S1x512x1024, .bf16⟩
  | _, _ => ⟨S20480x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S20480x1024 : Shape := ⟨2, ![20480, 1024]⟩
abbrev S20480x256 : Shape := ⟨2, ![20480, 256]⟩
abbrev S8x256x256 : Shape := ⟨3, ![8, 256, 256]⟩
abbrev S16384x1024 : Shape := ⟨2, ![16384, 1024]⟩
abbrev S8x2048x2x4x128 : Shape := ⟨5, ![8, 2048, 2, 4, 128]⟩
abbrev S16384x256 : Shape := ⟨2, ![16384, 256]⟩
abbrev S8x2048x256 : Shape := ⟨3, ![8, 2048, 256]⟩
abbrev S8x2304x256 : Shape := ⟨3, ![8, 2304, 256]⟩
abbrev S8x2304x2x128 : Shape := ⟨4, ![8, 2304, 2, 128]⟩
abbrev S8x2x2304x2048x4 : Shape := ⟨5, ![8, 2, 2304, 2048, 4]⟩
abbrev S8x2x4x2048x2304 : Shape := ⟨5, ![8, 2, 4, 2048, 2304]⟩
abbrev S_ : Shape := ⟨0, ![]⟩
abbrev S8x2x4x2048 : Shape := ⟨4, ![8, 2, 4, 2048]⟩
abbrev S8x2x4x2048x1 : Shape := ⟨5, ![8, 2, 4, 2048, 1]⟩
abbrev S8x2x128x4x2048 : Shape := ⟨5, ![8, 2, 128, 4, 2048]⟩
abbrev S8x2048x1024 : Shape := ⟨3, ![8, 2048, 1024]⟩

abbrev nBuf : Space → Nat
  | .hbm => 38
  | .vmem => 0
  | .smem => 0
  | _ => 0

abbrev bufTy : (tb : Table) → Fin (tcTables nBuf tb) → BufTy
  | .hbm, ⟨0, _⟩ => ⟨S20480x1024, .bf16⟩
  | .hbm, ⟨1, _⟩ => ⟨S20480x256, .bf16⟩
  | .hbm, ⟨2, _⟩ => ⟨S20480x256, .bf16⟩
  | .hbm, ⟨3, _⟩ => ⟨S8x256x256, .bf16⟩
  | .hbm, ⟨4, _⟩ => ⟨S8x256x256, .bf16⟩
  | .hbm, ⟨5, _⟩ => ⟨S16384x1024, .bf16⟩
  | .hbm, ⟨6, _⟩ => ⟨S16384x1024, .f32⟩
  | .hbm, ⟨7, _⟩ => ⟨S8x2048x2x4x128, .f32⟩
  | .hbm, ⟨8, _⟩ => ⟨S16384x256, .bf16⟩
  | .hbm, ⟨9, _⟩ => ⟨S8x2048x256, .bf16⟩
  | .hbm, ⟨10, _⟩ => ⟨S8x2304x256, .bf16⟩
  | .hbm, ⟨11, _⟩ => ⟨S8x2304x256, .f32⟩
  | .hbm, ⟨12, _⟩ => ⟨S8x2304x2x128, .f32⟩
  | .hbm, ⟨13, _⟩ => ⟨S16384x256, .bf16⟩
  | .hbm, ⟨14, _⟩ => ⟨S8x2048x256, .bf16⟩
  | .hbm, ⟨15, _⟩ => ⟨S8x2304x256, .bf16⟩
  | .hbm, ⟨16, _⟩ => ⟨S8x2304x256, .f32⟩
  | .hbm, ⟨17, _⟩ => ⟨S8x2304x2x128, .f32⟩
  | .hbm, ⟨18, _⟩ => ⟨S8x2x2304x2048x4, .f32⟩
  | .hbm, ⟨19, _⟩ => ⟨S8x2x4x2048x2304, .f32⟩
  | .hbm, ⟨20, _⟩ => ⟨S_, .f32⟩
  | .hbm, ⟨21, _⟩ => ⟨S8x2x4x2048, .f32⟩
  | .hbm, ⟨22, _⟩ => ⟨S_, .f32⟩
  | .hbm, ⟨23, _⟩ => ⟨S8x2x4x2048, .f32⟩
  | .hbm, ⟨24, _⟩ => ⟨S8x2x4x2048, .f32⟩
  | .hbm, ⟨25, _⟩ => ⟨S8x2x4x2048x1, .f32⟩
  | .hbm, ⟨26, _⟩ => ⟨S8x2x4x2048x2304, .f32⟩
  | .hbm, ⟨27, _⟩ => ⟨S8x2x4x2048x2304, .f32⟩
  | .hbm, ⟨28, _⟩ => ⟨S8x2x4x2048x2304, .f32⟩
  | .hbm, ⟨29, _⟩ => ⟨S_, .f32⟩
  | .hbm, ⟨30, _⟩ => ⟨S8x2x4x2048, .f32⟩
  | .hbm, ⟨31, _⟩ => ⟨S8x2x4x2048x1, .f32⟩
  | .hbm, ⟨32, _⟩ => ⟨S8x2x4x2048x2304, .f32⟩
  | .hbm, ⟨33, _⟩ => ⟨S8x2x4x2048x2304, .f32⟩
  | .hbm, ⟨34, _⟩ => ⟨S8x2x128x4x2048, .f32⟩
  | .hbm, ⟨35, _⟩ => ⟨S8x2048x2x4x128, .f32⟩
  | .hbm, ⟨36, _⟩ => ⟨S8x2048x1024, .f32⟩
  | .hbm, ⟨37, _⟩ => ⟨S8x2048x1024, .bf16⟩
  | _, _ => ⟨S20480x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel2.lean ====
abbrev S45568x1024 : Shape := ⟨2, ![45568, 1024]⟩
abbrev S45568x128 : Shape := ⟨2, ![45568, 128]⟩
abbrev S178 : Shape := ⟨1, ![178]⟩
abbrev S2x8x1024x3584 : Shape := ⟨4, ![2, 8, 1024, 3584]⟩
abbrev S2x8x3584x1024 : Shape := ⟨4, ![2, 8, 3584, 1024]⟩
abbrev S256x1024 : Shape := ⟨2, ![256, 1024]⟩
abbrev S256x128 : Shape := ⟨2, ![256, 128]⟩
abbrev S1024x3584 : Shape := ⟨2, ![1024, 3584]⟩
abbrev S3584x1024 : Shape := ⟨2, ![3584, 1024]⟩
abbrev S1 : Shape := ⟨1, ![1]⟩
abbrev S6x64x3584 : Shape := ⟨3, ![6, 64, 3584]⟩
abbrev S6 : Shape := ⟨1, ![6]⟩
abbrev S_ : Shape := ⟨0, ![]⟩
abbrev S1x64x3584 : Shape := ⟨3, ![1, 64, 3584]⟩
abbrev S64x3584 : Shape := ⟨2, ![64, 3584]⟩
abbrev S1x1x1024x3584 : Shape := ⟨4, ![1, 1, 1024, 3584]⟩
abbrev S6x224x1024 : Shape := ⟨3, ![6, 224, 1024]⟩
abbrev S1x224x1024 : Shape := ⟨3, ![1, 224, 1024]⟩
abbrev S224x1024 : Shape := ⟨2, ![224, 1024]⟩
abbrev S1x1x3584x1024 : Shape := ⟨4, ![1, 1, 3584, 1024]⟩
abbrev S256x3584 : Shape := ⟨2, ![256, 3584]⟩
abbrev S256x1 : Shape := ⟨2, ![256, 1]⟩

abbrev nBuf : Space → Nat
  | .hbm => 6
  | .vmem => 12
  | .smem => 2
  | _ => 0

abbrev bufTy : (tb : Table) → Fin (tcTables nBuf tb) → BufTy
  | .hbm, ⟨0, _⟩ => ⟨S45568x1024, .bf16⟩
  | .hbm, ⟨1, _⟩ => ⟨S45568x128, .f32⟩
  | .hbm, ⟨2, _⟩ => ⟨S2x8x1024x3584, .f32⟩
  | .hbm, ⟨3, _⟩ => ⟨S2x8x1024x3584, .f32⟩
  | .hbm, ⟨4, _⟩ => ⟨S2x8x3584x1024, .f32⟩
  | .hbm, ⟨5, _⟩ => ⟨S45568x1024, .bf16⟩
  | .local _ .vmem, ⟨0, _⟩ => ⟨S256x1024, .bf16⟩
  | .local _ .vmem, ⟨1, _⟩ => ⟨S256x1024, .bf16⟩
  | .local _ .vmem, ⟨2, _⟩ => ⟨S256x128, .f32⟩
  | .local _ .vmem, ⟨3, _⟩ => ⟨S256x128, .f32⟩
  | .local _ .vmem, ⟨4, _⟩ => ⟨S256x1024, .bf16⟩
  | .local _ .vmem, ⟨5, _⟩ => ⟨S256x1024, .bf16⟩
  | .local _ .vmem, ⟨6, _⟩ => ⟨S1024x3584, .bf16⟩
  | .local _ .vmem, ⟨7, _⟩ => ⟨S1024x3584, .bf16⟩
  | .local _ .vmem, ⟨8, _⟩ => ⟨S3584x1024, .bf16⟩
  | .local _ .vmem, ⟨9, _⟩ => ⟨S6x64x3584, .f32⟩
  | .local _ .vmem, ⟨10, _⟩ => ⟨S6x64x3584, .f32⟩
  | .local _ .vmem, ⟨11, _⟩ => ⟨S6x224x1024, .f32⟩
  | .local _ .smem, ⟨0, _⟩ => ⟨S178, .i32⟩
  | .local _ .smem, ⟨1, _⟩ => ⟨S178, .i32⟩
  | _, _ => ⟨S45568x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scoped0 : Ref sig .tc := ⟨.vmem, 9, rfl⟩
abbrev cc0_scoped2 : Ref sig .tc := ⟨.vmem, 10, rfl⟩
abbrev cc0_scoped4 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![178], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let v8 : Index := Scalar.indexCast v7
  ![v8.toNat]
def k0_off3 (v4 : BitVec 32) : Fin 4 → Nat :=
  let c0_i32_5 : BitVec 32 := 0#32
  let c0_i32_12_r0 : BitVec 32 := 0#32
  let c0_i32_13_r0 : BitVec 32 := 0#32
  ![0, v4.toNat, 0, 0]
def k0_cond1 (i : grid0.Coords) (v1 : BitVec 32) (v4 : BitVec 32) (v9 : BitVec 32) : BitVec 1 :=
  let c0_i32 : BitVec 32 := 0#32
  let v2 : BitVec 1 := Scalar.cmpi .ne v1 c0_i32
  let arg0 : BitVec 32 := BitVec.ofNat 32 (i 0).val
  let c0_i32_0 : BitVec 32 := 0#32
  let v5 : BitVec 1 := Scalar.cmpi .eq arg0 c0_i32_0
  let v10 : BitVec 1 := Scalar.cmpi .ne v4 v9
  let v11 : BitVec 1 := Scalar.ori v5 v10
  let v12 : BitVec 1 := Scalar.andi v2 v11
  let v13 : BitVec 32 := Scalar.extui v12
  let c0_i32_2 : BitVec 32 := 0#32
  let v14 : BitVec 1 := Scalar.cmpi .ne v13 c0_i32_2
  v14

def k0_off4 (v4 : BitVec 32) : Fin 4 → Nat :=
  let c0_i32_7 : BitVec 32 := 0#32
  let c0_i32_12_r2 : BitVec 32 := 0#32
  let c0_i32_13_r2 : BitVec 32 := 0#32
  ![0, v4.toNat, 0, 0]

def k0_chk1 (i : grid0.Coords) (v1 : BitVec 32) (v4 : BitVec 32) (v9 : BitVec 32) : Prop :=
  (∀ (k0_h1 : k0_cond1 i v1 v4 v9 = 1#1), ∀ a, (k0_off3 v4) a + S1x1x1024x3584.size a ≤ S2x8x1024x3584.size a) ∧
  (∀ (k0_h1 : k0_cond1 i v1 v4 v9 = 1#1), ∀ a, (k0_off4 v4) a + S1x1x3584x1024.size a ≤ S2x8x3584x1024.size a)
theorem k0_off3_inb : ∀ (i : grid0.Coords) (v1 : BitVec 32) (v4 : BitVec 32) (v9 : BitVec 32) (k0_hw1 : k0_chk1 i v1 v4 v9), ∀ (k0_h1 : k0_cond1 i v1 v4 v9 = 1#1), ∀ a, (k0_off3 v4) a + S1x1x1024x3584.size a ≤ S2x8x1024x3584.size a := fun i v1 v4 v9 k0_hw1 k0_h1 => k0_hw1.1 k0_h1
theorem k0_off4_inb : ∀ (i : grid0.Coords) (v1 : BitVec 32) (v4 : BitVec 32) (v9 : BitVec 32) (k0_hw1 : k0_chk1 i v1 v4 v9), ∀ (k0_h1 : k0_cond1 i v1 v4 v9 = 1#1), ∀ a, (k0_off4 v4) a + S1x1x3584x1024.size a ≤ S2x8x3584x1024.size a := fun i v1 v4 v9 k0_hw1 k0_h1 => k0_hw1.2 k0_h1

def k0_cond2 (v1 : BitVec 32) : BitVec 1 :=
  let c0_i32 : BitVec 32 := 0#32
  let v2 : BitVec 1 := Scalar.cmpi .ne v1 c0_i32
  let v15 : BitVec 32 := Scalar.extui v2
  let c0_i32_3 : BitVec 32 := 0#32
  let v16 : BitVec 1 := Scalar.cmpi .ne v15 c0_i32_3
  v16

def k0_cond3 (v1 : BitVec 32) : BitVec 1 :=
  let c0_i32 : BitVec 32 := 0#32
  let v2 : BitVec 1 := Scalar.cmpi .ne v1 c0_i32
  let v_true : BitVec 1 := 1#1
  let v17 : BitVec 1 := Scalar.xori v2 v_true
  let v18 : BitVec 32 := Scalar.extui v17
  let c0_i32_4 : BitVec 32 := 0#32
  let v19 : BitVec 1 := Scalar.cmpi .ne v18 c0_i32_4
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S45568x1024 : Shape := ⟨2, ![45568, 1024]⟩
abbrev S45568x128 : Shape := ⟨2, ![45568, 128]⟩
abbrev S178 : Shape := ⟨1, ![178]⟩
abbrev S2x8x1024x3584 : Shape := ⟨4, ![2, 8, 1024, 3584]⟩
abbrev S2x8x3584x1024 : Shape := ⟨4, ![2, 8, 3584, 1024]⟩
abbrev S178x1 : Shape := ⟨2, ![178, 1]⟩
abbrev S178x256 : Shape := ⟨2, ![178, 256]⟩
abbrev S45568 : Shape := ⟨1, ![45568]⟩
abbrev S_ : Shape := ⟨0, ![]⟩
abbrev S1x45568 : Shape := ⟨2, ![1, 45568]⟩
abbrev S8 : Shape := ⟨1, ![8]⟩
abbrev S8x1 : Shape := ⟨2, ![8, 1]⟩
abbrev S8x45568 : Shape := ⟨2, ![8, 45568]⟩
abbrev S45568x1 : Shape := ⟨2, ![45568, 1]⟩
abbrev S1x8x1024x3584 : Shape := ⟨4, ![1, 8, 1024, 3584]⟩
abbrev S8x1024x3584 : Shape := ⟨3, ![8, 1024, 3584]⟩
abbrev S8x3584x45568 : Shape := ⟨3, ![8, 3584, 45568]⟩
abbrev S8x45568x3584 : Shape := ⟨3, ![8, 45568, 3584]⟩
abbrev S1x8x3584x1024 : Shape := ⟨4, ![1, 8, 3584, 1024]⟩
abbrev S8x3584x1024 : Shape := ⟨3, ![8, 3584, 1024]⟩
abbrev S8x45568x1024 : Shape := ⟨3, ![8, 45568, 1024]⟩
abbrev S8x45568x1 : Shape := ⟨3, ![8, 45568, 1]⟩

abbrev nBuf : Space → Nat
  | .hbm => 61
  | .vmem => 0
  | .smem => 0
  | _ => 0

abbrev bufTy : (tb : Table) → Fin (tcTables nBuf tb) → BufTy
  | .hbm, ⟨0, _⟩ => ⟨S45568x1024, .bf16⟩
  | .hbm, ⟨1, _⟩ => ⟨S45568x128, .f32⟩
  | .hbm, ⟨2, _⟩ => ⟨S178, .i32⟩
  | .hbm, ⟨3, _⟩ => ⟨S178, .i32⟩
  | .hbm, ⟨4, _⟩ => ⟨S2x8x1024x3584, .f32⟩
  | .hbm, ⟨5, _⟩ => ⟨S2x8x1024x3584, .f32⟩
  | .hbm, ⟨6, _⟩ => ⟨S2x8x3584x1024, .f32⟩
  | .hbm, ⟨7, _⟩ => ⟨S45568x1024, .f32⟩
  | .hbm, ⟨8, _⟩ => ⟨S178x1, .i32⟩
  | .hbm, ⟨9, _⟩ => ⟨S178x256, .i32⟩
  | .hbm, ⟨10, _⟩ => ⟨S45568, .i32⟩
  | .hbm, ⟨11, _⟩ => ⟨S178x1, .i32⟩
  | .hbm, ⟨12, _⟩ => ⟨S178x256, .i32⟩
  | .hbm, ⟨13, _⟩ => ⟨S45568, .i32⟩
  | .hbm, ⟨14, _⟩ => ⟨S_, .i32⟩
  | .hbm, ⟨15, _⟩ => ⟨S45568, .i32⟩
  | .hbm, ⟨16, _⟩ => ⟨S45568, .i1⟩
  | .hbm, ⟨17, _⟩ => ⟨S1x45568, .i1⟩
  | .hbm, ⟨18, _⟩ => ⟨S1x45568, .i32⟩
  | .hbm, ⟨19, _⟩ => ⟨S8, .i32⟩
  | .hbm, ⟨20, _⟩ => ⟨S8x1, .i32⟩
  | .hbm, ⟨21, _⟩ => ⟨S8x45568, .i32⟩
  | .hbm, ⟨22, _⟩ => ⟨S8x45568, .i32⟩
  | .hbm, ⟨23, _⟩ => ⟨S8x45568, .i1⟩
  | .hbm, ⟨24, _⟩ => ⟨S8x45568, .i1⟩
  | .hbm, ⟨25, _⟩ => ⟨S8x45568, .i1⟩
  | .hbm, ⟨26, _⟩ => ⟨S45568x1, .f32⟩
  | .hbm, ⟨27, _⟩ => ⟨S45568, .f32⟩
  | .hbm, ⟨28, _⟩ => ⟨S1x45568, .f32⟩
  | .hbm, ⟨29, _⟩ => ⟨S_, .f32⟩
  | .hbm, ⟨30, _⟩ => ⟨S_, .f32⟩
  | .hbm, ⟨31, _⟩ => ⟨S8x45568, .f32⟩
  | .hbm, ⟨32, _⟩ => ⟨S8x45568, .f32⟩
  | .hbm, ⟨33, _⟩ => ⟨S8x45568, .f32⟩
  | .hbm, ⟨34, _⟩ => ⟨S1x8x1024x3584, .f32⟩
  | .hbm, ⟨35, _⟩ => ⟨S8x1024x3584, .f32⟩
  | .hbm, ⟨36, _⟩ => ⟨S8x3584x45568, .f32⟩
  | .hbm, ⟨37, _⟩ => ⟨S8x45568x3584, .f32⟩
  | .hbm, ⟨38, _⟩ => ⟨S8x45568x3584, .f32⟩
  | .hbm, ⟨39, _⟩ => ⟨S8x45568x3584, .f32⟩
  | .hbm, ⟨40, _⟩ => ⟨S_, .f32⟩
  | .hbm, ⟨41, _⟩ => ⟨S8x45568x3584, .f32⟩
  | .hbm, ⟨42, _⟩ => ⟨S8x45568x3584, .f32⟩
  | .hbm, ⟨43, _⟩ => ⟨S_, .f32⟩
  | .hbm, ⟨44, _⟩ => ⟨S8x45568x3584, .f32⟩
  | .hbm, ⟨45, _⟩ => ⟨S8x45568x3584, .f32⟩
  | .hbm, ⟨46, _⟩ => ⟨S8x45568x3584, .f32⟩
  | .hbm, ⟨47, _⟩ => ⟨S1x8x1024x3584, .f32⟩
  | .hbm, ⟨48, _⟩ => ⟨S8x1024x3584, .f32⟩
  | .hbm, ⟨49, _⟩ => ⟨S8x3584x45568, .f32⟩
  | .hbm, ⟨50, _⟩ => ⟨S8x45568x3584, .f32⟩
  | .hbm, ⟨51, _⟩ => ⟨S8x45568x3584, .f32⟩
  | .hbm, ⟨52, _⟩ => ⟨S1x8x3584x1024, .f32⟩
  | .hbm, ⟨53, _⟩ => ⟨S8x3584x1024, .f32⟩
  | .hbm, ⟨54, _⟩ => ⟨S8x45568x1024, .f32⟩
  | .hbm, ⟨55, _⟩ => ⟨S8x45568x1, .f32⟩
  | .hbm, ⟨56, _⟩ => ⟨S8x45568x1024, .f32⟩
  | .hbm, ⟨57, _⟩ => ⟨S8x45568x1024, .f32⟩
  | .hbm, ⟨58, _⟩ => ⟨S_, .f32⟩
  | .hbm, ⟨59, _⟩ => ⟨S45568x1024, .f32⟩
  | .hbm, ⟨60, _⟩ => ⟨S45568x1024, .bf16⟩
  | _, _ => ⟨S45568x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_0 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Kernel3.lean ====
abbrev S45568x1024 : Shape := ⟨2, ![45568, 1024]⟩
abbrev S45568x128 : Shape := ⟨2, ![45568, 128]⟩
abbrev S178 : Shape := ⟨1, ![178]⟩
abbrev S2x8x1024x3584 : Shape := ⟨4, ![2, 8, 1024, 3584]⟩
abbrev S2x8x3584x1024 : Shape := ⟨4, ![2, 8, 3584, 1024]⟩
abbrev S256x1024 : Shape := ⟨2, ![256, 1024]⟩
abbrev S256x128 : Shape := ⟨2, ![256, 128]⟩
abbrev S1024x3584 : Shape := ⟨2, ![1024, 3584]⟩
abbrev S3584x1024 : Shape := ⟨2, ![3584, 1024]⟩
abbrev S1 : Shape := ⟨1, ![1]⟩
abbrev S6x64x3584 : Shape := ⟨3, ![6, 64, 3584]⟩
abbrev S6 : Shape := ⟨1, ![6]⟩
abbrev S_ : Shape := ⟨0, ![]⟩
abbrev S1x64x3584 : Shape := ⟨3, ![1, 64, 3584]⟩
abbrev S64x3584 : Shape := ⟨2, ![64, 3584]⟩
abbrev S1x1x1024x3584 : Shape := ⟨4, ![1, 1, 1024, 3584]⟩
abbrev S6x224x1024 : Shape := ⟨3, ![6, 224, 1024]⟩
abbrev S1x224x1024 : Shape := ⟨3, ![1, 224, 1024]⟩
abbrev S224x1024 : Shape := ⟨2, ![224, 1024]⟩
abbrev S1x1x3584x1024 : Shape := ⟨4, ![1, 1, 3584, 1024]⟩
abbrev S256x3584 : Shape := ⟨2, ![256, 3584]⟩
abbrev S256x1 : Shape := ⟨2, ![256, 1]⟩

abbrev nBuf : Space → Nat
  | .hbm => 6
  | .vmem => 12
  | .smem => 2
  | _ => 0

abbrev bufTy : (tb : Table) → Fin (tcTables nBuf tb) → BufTy
  | .hbm, ⟨0, _⟩ => ⟨S45568x1024, .bf16⟩
  | .hbm, ⟨1, _⟩ => ⟨S45568x128, .f32⟩
  | .hbm, ⟨2, _⟩ => ⟨S2x8x1024x3584, .f32⟩
  | .hbm, ⟨3, _⟩ => ⟨S2x8x1024x3584, .f32⟩
  | .hbm, ⟨4, _⟩ => ⟨S2x8x3584x1024, .f32⟩
  | .hbm, ⟨5, _⟩ => ⟨S45568x1024, .bf16⟩
  | .local _ .vmem, ⟨0, _⟩ => ⟨S256x1024, .bf16⟩
  | .local _ .vmem, ⟨1, _⟩ => ⟨S256x1024, .bf16⟩
  | .local _ .vmem, ⟨2, _⟩ => ⟨S256x128, .f32⟩
  | .local _ .vmem, ⟨3, _⟩ => ⟨S256x128, .f32⟩
  | .local _ .vmem, ⟨4, _⟩ => ⟨S256x1024, .bf16⟩
  | .local _ .vmem, ⟨5, _⟩ => ⟨S256x1024, .bf16⟩
  | .local _ .vmem, ⟨6, _⟩ => ⟨S1024x3584, .bf16⟩
  | .local _ .vmem, ⟨7, _⟩ => ⟨S1024x3584, .bf16⟩
  | .local _ .vmem, ⟨8, _⟩ => ⟨S3584x1024, .bf16⟩
  | .local _ .vmem, ⟨9, _⟩ => ⟨S6x64x3584, .f32⟩
  | .local _ .vmem, ⟨10, _⟩ => ⟨S6x64x3584, .f32⟩
  | .local _ .vmem, ⟨11, _⟩ => ⟨S6x224x1024, .f32⟩
  | .local _ .smem, ⟨0, _⟩ => ⟨S178, .i32⟩
  | .local _ .smem, ⟨1, _⟩ => ⟨S178, .i32⟩
  | _, _ => ⟨S45568x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scoped0 : Ref sig .tc := ⟨.vmem, 9, rfl⟩
abbrev cc0_scoped2 : Ref sig .tc := ⟨.vmem, 10, rfl⟩
abbrev cc0_scoped4 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![178], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let v8 : Index := Scalar.indexCast v7
  ![v8.toNat]
def k0_off3 (v4 : BitVec 32) : Fin 4 → Nat :=
  let c1_i32_5 : BitVec 32 := 1#32
  let c0_i32_12_r0 : BitVec 32 := 0#32
  let c0_i32_13_r0 : BitVec 32 := 0#32
  ![1, v4.toNat, 0, 0]
def k0_cond1 (i : grid0.Coords) (v1 : BitVec 32) (v4 : BitVec 32) (v9 : BitVec 32) : BitVec 1 :=
  let c0_i32 : BitVec 32 := 0#32
  let v2 : BitVec 1 := Scalar.cmpi .ne v1 c0_i32
  let arg0 : BitVec 32 := BitVec.ofNat 32 (i 0).val
  let c0_i32_0 : BitVec 32 := 0#32
  let v5 : BitVec 1 := Scalar.cmpi .eq arg0 c0_i32_0
  let v10 : BitVec 1 := Scalar.cmpi .ne v4 v9
  let v11 : BitVec 1 := Scalar.ori v5 v10
  let v12 : BitVec 1 := Scalar.andi v2 v11
  let v13 : BitVec 32 := Scalar.extui v12
  let c0_i32_2 : BitVec 32 := 0#32
  let v14 : BitVec 1 := Scalar.cmpi .ne v13 c0_i32_2
  v14

def k0_off4 (v4 : BitVec 32) : Fin 4 → Nat :=
  let c1_i32_7 : BitVec 32 := 1#32
  let c0_i32_12_r2 : BitVec 32 := 0#32
  let c0_i32_13_r2 : BitVec 32 := 0#32
  ![1, v4.toNat, 0, 0]

def k0_chk1 (i : grid0.Coords) (v1 : BitVec 32) (v4 : BitVec 32) (v9 : BitVec 32) : Prop :=
  (∀ (k0_h1 : k0_cond1 i v1 v4 v9 = 1#1), ∀ a, (k0_off3 v4) a + S1x1x1024x3584.size a ≤ S2x8x1024x3584.size a) ∧
  (∀ (k0_h1 : k0_cond1 i v1 v4 v9 = 1#1), ∀ a, (k0_off4 v4) a + S1x1x3584x1024.size a ≤ S2x8x3584x1024.size a)
theorem k0_off3_inb : ∀ (i : grid0.Coords) (v1 : BitVec 32) (v4 : BitVec 32) (v9 : BitVec 32) (k0_hw1 : k0_chk1 i v1 v4 v9), ∀ (k0_h1 : k0_cond1 i v1 v4 v9 = 1#1), ∀ a, (k0_off3 v4) a + S1x1x1024x3584.size a ≤ S2x8x1024x3584.size a := fun i v1 v4 v9 k0_hw1 k0_h1 => k0_hw1.1 k0_h1
theorem k0_off4_inb : ∀ (i : grid0.Coords) (v1 : BitVec 32) (v4 : BitVec 32) (v9 : BitVec 32) (k0_hw1 : k0_chk1 i v1 v4 v9), ∀ (k0_h1 : k0_cond1 i v1 v4 v9 = 1#1), ∀ a, (k0_off4 v4) a + S1x1x3584x1024.size a ≤ S2x8x3584x1024.size a := fun i v1 v4 v9 k0_hw1 k0_h1 => k0_hw1.2 k0_h1

def k0_cond2 (v1 : BitVec 32) : BitVec 1 :=
  let c0_i32 : BitVec 32 := 0#32
  let v2 : BitVec 1 := Scalar.cmpi .ne v1 c0_i32
  let v15 : BitVec 32 := Scalar.extui v2
  let c0_i32_3 : BitVec 32 := 0#32
  let v16 : BitVec 1 := Scalar.cmpi .ne v15 c0_i32_3
  v16

def k0_cond3 (v1 : BitVec 32) : BitVec 1 :=
  let c0_i32 : BitVec 32 := 0#32
  let v2 : BitVec 1 := Scalar.cmpi .ne v1 c0_i32
  let v_true : BitVec 1 := 1#1
  let v17 : BitVec 1 := Scalar.xori v2 v_true
  let v18 : BitVec 32 := Scalar.extui v17
  let c0_i32_4 : BitVec 32 := 0#32
  let v19 : BitVec 1 := Scalar.cmpi .ne v18 c0_i32_4
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S45568x1024 : Shape := ⟨2, ![45568, 1024]⟩
abbrev S45568x128 : Shape := ⟨2, ![45568, 128]⟩
abbrev S178 : Shape := ⟨1, ![178]⟩
abbrev S2x8x1024x3584 : Shape := ⟨4, ![2, 8, 1024, 3584]⟩
abbrev S2x8x3584x1024 : Shape := ⟨4, ![2, 8, 3584, 1024]⟩
abbrev S178x1 : Shape := ⟨2, ![178, 1]⟩
abbrev S178x256 : Shape := ⟨2, ![178, 256]⟩
abbrev S45568 : Shape := ⟨1, ![45568]⟩
abbrev S_ : Shape := ⟨0, ![]⟩
abbrev S1x45568 : Shape := ⟨2, ![1, 45568]⟩
abbrev S8 : Shape := ⟨1, ![8]⟩
abbrev S8x1 : Shape := ⟨2, ![8, 1]⟩
abbrev S8x45568 : Shape := ⟨2, ![8, 45568]⟩
abbrev S45568x1 : Shape := ⟨2, ![45568, 1]⟩
abbrev S1x8x1024x3584 : Shape := ⟨4, ![1, 8, 1024, 3584]⟩
abbrev S8x1024x3584 : Shape := ⟨3, ![8, 1024, 3584]⟩
abbrev S8x3584x45568 : Shape := ⟨3, ![8, 3584, 45568]⟩
abbrev S8x45568x3584 : Shape := ⟨3, ![8, 45568, 3584]⟩
abbrev S1x8x3584x1024 : Shape := ⟨4, ![1, 8, 3584, 1024]⟩
abbrev S8x3584x1024 : Shape := ⟨3, ![8, 3584, 1024]⟩
abbrev S8x45568x1024 : Shape := ⟨3, ![8, 45568, 1024]⟩
abbrev S8x45568x1 : Shape := ⟨3, ![8, 45568, 1]⟩

abbrev nBuf : Space → Nat
  | .hbm => 61
  | .vmem => 0
  | .smem => 0
  | _ => 0

abbrev bufTy : (tb : Table) → Fin (tcTables nBuf tb) → BufTy
  | .hbm, ⟨0, _⟩ => ⟨S45568x1024, .bf16⟩
  | .hbm, ⟨1, _⟩ => ⟨S45568x128, .f32⟩
  | .hbm, ⟨2, _⟩ => ⟨S178, .i32⟩
  | .hbm, ⟨3, _⟩ => ⟨S178, .i32⟩
  | .hbm, ⟨4, _⟩ => ⟨S2x8x1024x3584, .f32⟩
  | .hbm, ⟨5, _⟩ => ⟨S2x8x1024x3584, .f32⟩
  | .hbm, ⟨6, _⟩ => ⟨S2x8x3584x1024, .f32⟩
  | .hbm, ⟨7, _⟩ => ⟨S45568x1024, .f32⟩
  | .hbm, ⟨8, _⟩ => ⟨S178x1, .i32⟩
  | .hbm, ⟨9, _⟩ => ⟨S178x256, .i32⟩
  | .hbm, ⟨10, _⟩ => ⟨S45568, .i32⟩
  | .hbm, ⟨11, _⟩ => ⟨S178x1, .i32⟩
  | .hbm, ⟨12, _⟩ => ⟨S178x256, .i32⟩
  | .hbm, ⟨13, _⟩ => ⟨S45568, .i32⟩
  | .hbm, ⟨14, _⟩ => ⟨S_, .i32⟩
  | .hbm, ⟨15, _⟩ => ⟨S45568, .i32⟩
  | .hbm, ⟨16, _⟩ => ⟨S45568, .i1⟩
  | .hbm, ⟨17, _⟩ => ⟨S1x45568, .i1⟩
  | .hbm, ⟨18, _⟩ => ⟨S1x45568, .i32⟩
  | .hbm, ⟨19, _⟩ => ⟨S8, .i32⟩
  | .hbm, ⟨20, _⟩ => ⟨S8x1, .i32⟩
  | .hbm, ⟨21, _⟩ => ⟨S8x45568, .i32⟩
  | .hbm, ⟨22, _⟩ => ⟨S8x45568, .i32⟩
  | .hbm, ⟨23, _⟩ => ⟨S8x45568, .i1⟩
  | .hbm, ⟨24, _⟩ => ⟨S8x45568, .i1⟩
  | .hbm, ⟨25, _⟩ => ⟨S8x45568, .i1⟩
  | .hbm, ⟨26, _⟩ => ⟨S45568x1, .f32⟩
  | .hbm, ⟨27, _⟩ => ⟨S45568, .f32⟩
  | .hbm, ⟨28, _⟩ => ⟨S1x45568, .f32⟩
  | .hbm, ⟨29, _⟩ => ⟨S_, .f32⟩
  | .hbm, ⟨30, _⟩ => ⟨S_, .f32⟩
  | .hbm, ⟨31, _⟩ => ⟨S8x45568, .f32⟩
  | .hbm, ⟨32, _⟩ => ⟨S8x45568, .f32⟩
  | .hbm, ⟨33, _⟩ => ⟨S8x45568, .f32⟩
  | .hbm, ⟨34, _⟩ => ⟨S1x8x1024x3584, .f32⟩
  | .hbm, ⟨35, _⟩ => ⟨S8x1024x3584, .f32⟩
  | .hbm, ⟨36, _⟩ => ⟨S8x3584x45568, .f32⟩
  | .hbm, ⟨37, _⟩ => ⟨S8x45568x3584, .f32⟩
  | .hbm, ⟨38, _⟩ => ⟨S8x45568x3584, .f32⟩
  | .hbm, ⟨39, _⟩ => ⟨S8x45568x3584, .f32⟩
  | .hbm, ⟨40, _⟩ => ⟨S_, .f32⟩
  | .hbm, ⟨41, _⟩ => ⟨S8x45568x3584, .f32⟩
  | .hbm, ⟨42, _⟩ => ⟨S8x45568x3584, .f32⟩
  | .hbm, ⟨43, _⟩ => ⟨S_, .f32⟩
  | .hbm, ⟨44, _⟩ => ⟨S8x45568x3584, .f32⟩
  | .hbm, ⟨45, _⟩ => ⟨S8x45568x3584, .f32⟩
  | .hbm, ⟨46, _⟩ => ⟨S8x45568x3584, .f32⟩
  | .hbm, ⟨47, _⟩ => ⟨S1x8x1024x3584, .f32⟩
  | .hbm, ⟨48, _⟩ => ⟨S8x1024x3584, .f32⟩
  | .hbm, ⟨49, _⟩ => ⟨S8x3584x45568, .f32⟩
  | .hbm, ⟨50, _⟩ => ⟨S8x45568x3584, .f32⟩
  | .hbm, ⟨51, _⟩ => ⟨S8x45568x3584, .f32⟩
  | .hbm, ⟨52, _⟩ => ⟨S1x8x3584x1024, .f32⟩
  | .hbm, ⟨53, _⟩ => ⟨S8x3584x1024, .f32⟩
  | .hbm, ⟨54, _⟩ => ⟨S8x45568x1024, .f32⟩
  | .hbm, ⟨55, _⟩ => ⟨S8x45568x1, .f32⟩
  | .hbm, ⟨56, _⟩ => ⟨S8x45568x1024, .f32⟩
  | .hbm, ⟨57, _⟩ => ⟨S8x45568x1024, .f32⟩
  | .hbm, ⟨58, _⟩ => ⟨S_, .f32⟩
  | .hbm, ⟨59, _⟩ => ⟨S45568x1024, .f32⟩
  | .hbm, ⟨60, _⟩ => ⟨S45568x1024, .bf16⟩
  | _, _ => ⟨S45568x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_0 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Proof.Softmax.lean ====
/- The arithmetic of one attention row at the ideal instance, over two runs of keys: what the kernel computes (a maximum
   and sums taken run by run, and one product with the reciprocal of the row's sum at the end) is what a softmax over all
   the keys followed by the weighted sum of the values computes, when every score is a real number. -/
module

public import Idealize.ShloMosaic.PureOps.Ideal.Laws

@[expose] public section

noncomputable section

namespace Cert.Attn

open Idealize.ShloMosaic

/-- The greatest of finitely many values. -/
def top {n : ℕ} (f : Fin n → EReal) : EReal := (Finset.univ : Finset (Fin n)).fold max ⊥ f

theorem top_eq {n : ℕ} (f : Fin n → EReal) : top f = ⨆ t, f t := by
  unfold top
  rw [← Finset.sup_univ_eq_iSup]
  rfl

/-- The greatest over two runs is the greater of the two runs' greatest. -/
theorem top_append {a b : ℕ} (S : Fin (a + b) → EReal) :
    top S = max (top fun t : Fin a => S (Fin.castAdd b t)) (top fun t : Fin b => S (Fin.natAdd a t)) := by
  simp only [top_eq]
  apply le_antisymm
  · refine iSup_le fun t => ?_
    refine Fin.addCases (fun i => ?_) (fun i => ?_) t
    · exact le_max_of_le_left (le_iSup (fun t : Fin a => S (Fin.castAdd b t)) i)
    · exact le_max_of_le_right (le_iSup (fun t : Fin b => S (Fin.natAdd a t)) i)
  · exact max_le (iSup_le fun i => le_iSup S _) (iSup_le fun i => le_iSup S _)

/-- The greatest of at least one real numbers is a real number. -/
theorem top_coe {n : ℕ} (hn : 0 < n) (s : Fin n → ℝ) : ∃ r : ℝ, top (fun t => ((s t : ℝ) : EReal)) = (r : EReal) := by
  rw [top_eq]
  haveI : Nonempty (Fin n) := ⟨⟨0, hn⟩⟩
  obtain ⟨i, hi⟩ := exists_eq_ciSup_of_finite (f := fun t => ((s t : ℝ) : EReal))
  exact ⟨s i, hi.symm⟩

/-- A real factor that is not negative goes into a finite sum. -/
theorem sum_mul_coe {n : ℕ} (f : Fin n → EReal) (c : ℝ) (hc : 0 ≤ c) : (∑ t, f t) * (c : EReal) = ∑ t, f t * (c : EReal) := by
  have h : ∀ s : Finset (Fin n), (∑ t ∈ s, f t) * (c : EReal) = ∑ t ∈ s, f t * (c : EReal) := by
    intro s
    induction s using Finset.induction_on with
    | empty => simp
    | insert a s ha ih =>
      rw [Finset.sum_insert ha, Finset.sum_insert ha, ← ih,
        EReal.right_distrib_of_nonneg_of_ne_top (by exact_mod_cast hc) (EReal.coe_ne_top c)]
  exact h _

/-- A row's weights before they are divided by their sum. -/
def weight {n : ℕ} (S : Fin n → EReal) (M : EReal) (t : Fin n) : EReal := Ideal.exp (S t - M)

/-- A finite sum of real numbers, as a real number. -/
theorem coe_sum {n : ℕ} (f : Fin n → ℝ) : ((∑ t, f t : ℝ) : EReal) = ∑ t, ((f t : ℝ) : EReal) := by
  have h : ∀ s : Finset (Fin n), ((∑ t ∈ s, f t : ℝ) : EReal) = ∑ t ∈ s, ((f t : ℝ) : EReal) := by
    intro s
    induction s using Finset.induction_on with
    | empty => simp
    | insert a s ha ih => rw [Finset.sum_insert ha, Finset.sum_insert ha, ← ih, EReal.coe_add]
  exact h _

/-- A row of attention over `n` keys with scores `S` and values `V`: the softmax of the scores, weighting the values. -/
def row {n : ℕ} (S V : Fin n → EReal) : EReal :=
  ∑ t, V t * Ideal.div (weight S (top S) t) (∑ u, weight S (top S) u)

/-- The same row as the kernel accumulates it, over two runs of keys. -/
def rowAcc {a b : ℕ} (Sa Va : Fin a → EReal) (Sb Vb : Fin b → EReal) : EReal :=
  (∑ t, weight Sa (max (top Sa) (top Sb)) t * Va t + ∑ t, weight Sb (max (top Sa) (top Sb)) t * Vb t)
    * Ideal.div 1 (∑ t, weight Sa (max (top Sa) (top Sb)) t + ∑ t, weight Sb (max (top Sa) (top Sb)) t)

theorem rowAcc_eq_row {a b : ℕ} (hab : 0 < a + b) (S V : Fin (a + b) → EReal) (s : Fin (a + b) → ℝ) (hs : ∀ t, S t = ((s t : ℝ) : EReal)) :
    rowAcc (fun t : Fin a => S (Fin.castAdd b t)) (fun t => V (Fin.castAdd b t)) (fun t : Fin b => S (Fin.natAdd a t))
      (fun t => V (Fin.natAdd a t)) = row S V := by
  obtain rfl : S = fun t => ((s t : ℝ) : EReal) := funext hs
  obtain ⟨M, hM⟩ := top_coe hab s
  have hmax := top_append (fun t : Fin (a + b) => ((s t : ℝ) : EReal))
  have hw : ∀ t, weight (fun t => ((s t : ℝ) : EReal)) (M : EReal) t = ((Real.exp (s t - M) : ℝ) : EReal) := fun t => by
    unfold weight; rw [← EReal.coe_sub, Ideal.exp_coe]
  have hden : (∑ u, weight (fun t => ((s t : ℝ) : EReal)) (M : EReal) u) = ((∑ u, Real.exp (s u - M) : ℝ) : EReal) := by
    rw [coe_sum]; exact Finset.sum_congr rfl fun t _ => hw t
  have hpos : 0 < ∑ u, Real.exp (s u - M) :=
    Finset.sum_pos (fun t _ => Real.exp_pos _) ⟨⟨0, hab⟩, Finset.mem_univ _⟩
  unfold rowAcc row
  rw [← hmax, hM]
  have hsplit : ∀ g : Fin (a + b) → EReal, ∑ t : Fin a, g (Fin.castAdd b t) + ∑ t : Fin b, g (Fin.natAdd a t) = ∑ t, g t :=
    fun g => (Fin.sum_univ_add g).symm
  rw [show (∑ t : Fin a, weight (fun t : Fin a => ((s (Fin.castAdd b t) : ℝ) : EReal)) (M : EReal) t)
      + (∑ t : Fin b, weight (fun t : Fin b => ((s (Fin.natAdd a t) : ℝ) : EReal)) (M : EReal) t)
      = ∑ u, weight (fun t => ((s t : ℝ) : EReal)) (M : EReal) u from
      hsplit (weight (fun t => ((s t : ℝ) : EReal)) (M : EReal)),
    show (∑ t : Fin a, weight (fun t : Fin a => ((s (Fin.castAdd b t) : ℝ) : EReal)) (M : EReal) t * V (Fin.castAdd b t))
      + (∑ t : Fin b, weight (fun t : Fin b => ((s (Fin.natAdd a t) : ℝ) : EReal)) (M : EReal) t * V (Fin.natAdd a t))
      = ∑ u, weight (fun t => ((s t : ℝ) : EReal)) (M : EReal) u * V u from
      hsplit fun u => weight (fun t => ((s t : ℝ) : EReal)) (M : EReal) u * V u,
    hden, Ideal.div_coe hpos.ne', one_mul, sum_mul_coe _ _ (by positivity)]
  refine Finset.sum_congr rfl fun t _ => ?_
  rw [Ideal.div_coe hpos.ne', mul_comm _ (V t), mul_assoc]

end Cert.Attn

end
-- ==== Proof.Head.lean ====
/- One head of the attention kernel: its eight stores hold the same term of their loads, read here at an index. -/
module

public import proofs.«01_k».proof.Proof.Softmax
public import proofs.«01_k».proof.Proof.Gen.KernelIdeal.Value
public import Idealize.ShloMosaic.Lib.Pointwise
public import Idealize.ShloMosaic.Lib.ValueIdx

@[expose] public section

set_option maxRecDepth 16384

noncomputable section

namespace Cert.KernelIdeal.Attn

open Cert.KernelIdeal Cert.KernelIdeal.Gen Idealize.ShloMosaic Idealize.ShloMosaic.TcCoe Idealize.SL.Sem Cert.Attn

variable (q : Vec Ideal S1x512x128 .bf16) (kc : Vec Ideal S1x256x128 .bf16) (kn : Vec Ideal S1x2048x128 .bf16)
  (vc : Vec Ideal S1x256x128 .bf16) (vn : Vec Ideal S1x2048x128 .bf16)

/-- What a head stores, of its queries, its cached keys and values and its new keys and values. -/
def head : FVec Ideal S1x512x128 .bf16 :=
  k0_pay11 (k0_pay8 q kc kn) (k0_pay9 q kc kn vc vn) (k0_pay10 (F := Ideal))

/-- A query row against the cached keys. -/
def scoreC (r : Fin 512) (t : Fin 256) : EReal := ∑ d : Fin 128, q (ix3 0 r d) * kc (ix3 0 t d)

/-- A query row against the new keys. -/
def scoreN (r : Fin 512) (t : Fin 2048) : EReal := ∑ d : Fin 128, q (ix3 0 r d) * kn (ix3 0 t d)

theorem pay3_apply (i : S512x256.Idx) : k0_pay3 (F := Ideal) q kc i = scoreC q kc (i 0) (i 1) := by
  unfold k0_pay3 k0_pay2
  pointwise
  rfl

theorem pay4_apply (i : S512x2048.Idx) : k0_pay4 (F := Ideal) q kn i = scoreN q kn (i 0) (i 1) := by
  unfold k0_pay4 k0_pay2
  pointwise
  rfl

/-- The greatest score of a row. -/
def rowTop (r : Fin 512) : EReal := max (top (scoreC q kc r)) (top (scoreN q kn r))

theorem negInf : Ideal.ofBits FTy.f32 0xFF800000#32 = ⊥ := by
  simp [Ideal.ofBits, Ideal.ieee]

theorem pay5_apply (i : S512x1.Idx) : k0_pay5 (F := Ideal) q kc kn i = rowTop q kc kn (i 0) := by
  unfold k0_pay5
  have hy : k0_pay3 (F := Ideal) q kc = fun i => scoreC q kc (i 0) (i 1) := funext (pay3_apply q kc)
  have hz : k0_pay4 (F := Ideal) q kn = fun i => scoreN q kn (i 0) (i 1) := funext (pay4_apply q kn)
  rw [hy, hz]
  pointwise
  rw [negInf]
  rfl

theorem pay6_apply (i : S512x256.Idx) :
    k0_pay6 (F := Ideal) q kc kn i = weight (scoreC q kc (i 0)) (rowTop q kc kn (i 0)) (i 1) := by
  unfold k0_pay6
  have hy : k0_pay3 (F := Ideal) q kc = fun i => scoreC q kc (i 0) (i 1) := funext (pay3_apply q kc)
  have hz : k0_pay5 (F := Ideal) q kc kn = fun i => rowTop q kc kn (i 0) := funext (pay5_apply q kc kn)
  rw [hy, hz]
  pointwise
  rfl

theorem pay7_apply (i : S512x2048.Idx) :
    k0_pay7 (F := Ideal) q kc kn i = weight (scoreN q kn (i 0)) (rowTop q kc kn (i 0)) (i 1) := by
  unfold k0_pay7
  have hy : k0_pay4 (F := Ideal) q kn = fun i => scoreN q kn (i 0) (i 1) := funext (pay4_apply q kn)
  have hz : k0_pay5 (F := Ideal) q kc kn = fun i => rowTop q kc kn (i 0) := funext (pay5_apply q kc kn)
  rw [hy, hz]
  pointwise
  rfl

theorem pay8_apply (i : S512x1.Idx) :
    k0_pay8 (F := Ideal) q kc kn i
      = ∑ t, weight (scoreC q kc (i 0)) (rowTop q kc kn (i 0)) t + ∑ t, weight (scoreN q kn (i 0)) (rowTop q kc kn (i 0)) t := by
  unfold k0_pay8
  have hy : k0_pay6 (F := Ideal) q kc kn = fun i => weight (scoreC q kc (i 0)) (rowTop q kc kn (i 0)) (i 1) :=
    funext (pay6_apply q kc kn)
  have hz : k0_pay7 (F := Ideal) q kc kn = fun i => weight (scoreN q kn (i 0)) (rowTop q kc kn (i 0)) (i 1) :=
    funext (pay7_apply q kc kn)
  rw [hy, hz]
  pointwise

theorem pay9_apply (i : S512x128.Idx) :
    k0_pay9 (F := Ideal) q kc kn vc vn i
      = ∑ t, weight (scoreC q kc (i 0)) (rowTop q kc kn (i 0)) t * vc (ix3 0 t (i 1))
        + ∑ t, weight (scoreN q kn (i 0)) (rowTop q kc kn (i 0)) t * vn (ix3 0 t (i 1)) := by
  unfold k0_pay9
  have hy : k0_pay6 (F := Ideal) q kc kn = fun i => weight (scoreC q kc (i 0)) (rowTop q kc kn (i 0)) (i 1) :=
    funext (pay6_apply q kc kn)
  have hz : k0_pay7 (F := Ideal) q kc kn = fun i => weight (scoreN q kn (i 0)) (rowTop q kc kn (i 0)) (i 1) :=
    funext (pay7_apply q kc kn)
  rw [hy, hz]
  pointwise

/-- A head's store at row `r` and lane `d`: the row of attention, accumulated over the cached and then the new keys. -/
theorem head_apply (i : S1x512x128.Idx) :
    head q kc kn vc vn i
      = rowAcc (scoreC q kc (i 1)) (fun t => vc (ix3 0 t (i 2))) (scoreN q kn (i 1)) (fun t => vn (ix3 0 t (i 2))) := by
  unfold head k0_pay11 k0_pay10
  have hy : k0_pay8 (F := Ideal) q kc kn = fun i => _ := funext (pay8_apply q kc kn)
  have hz : k0_pay9 (F := Ideal) q kc kn vc vn = fun i => _ := funext (pay9_apply q kc kn vc vn)
  rw [hy, hz]
  pointwise
  rfl

/-- The eight stores, the same term of each one's loads. -/
theorem piece1 : k0_pay22 (k0_pay17 q kc kn) (k0_pay18 q kc kn vc) (k0_pay20 q kc kn) (k0_pay21 q kc kn) vn = head q kc kn vc vn := rfl
theorem piece2 : k0_pay30 (k0_pay25 q kn) (k0_pay26 q kc kn) (k0_pay28 q kc kn) (k0_pay29 q kc kn vc) vn = head q kc kn vc vn := rfl
theorem piece3 : k0_pay37 (k0_pay33 q kn) (k0_pay34 q kc kn) (k0_pay35 q kc kn) (k0_pay36 q kc kn) vc vn = head q kc kn vc vn := rfl
theorem piece4 : k0_pay42 (k0_pay39 q kc) (k0_pay40 q kn) (k0_pay41 q kc) vc vn = head q kc kn vc vn := rfl
theorem piece5 : k0_pay45 (k0_pay43 q) (k0_pay44 q kc) kn vc vn = head q kc kn vc vn := rfl
theorem piece6 : k0_pay47 (k0_pay46 q kc kn vc vn) = head q kc kn vc vn := rfl
theorem piece7 : k0_pay1 (k0_pay53 q kc kn vc) (k0_pay55 q kc kn vn) (k0_pay56 q kc kn) = head q kc kn vc vn := rfl

end Cert.KernelIdeal.Attn

end
-- ==== Proof.Block.lean ====
/- The attention kernel's block: its eight heads' stores as one function of the block's index. -/
module

public import proofs.«01_k».proof.Proof.Head
public import Idealize.ShloMosaic.Lib.Pipeline.ValueKit.Point

@[expose] public section

set_option maxRecDepth 16384

noncomputable section

namespace Cert.KernelIdeal.Attn

open Cert.KernelIdeal Cert.KernelIdeal.Gen Idealize.ShloMosaic Idealize.ShloMosaic.TcCoe Idealize.SL.Sem Cert.Attn

/-- Lane `d` of the query head that lane `l` of 1024 belongs to. -/
def qLane (l : Fin 1024) (d : Fin 128) : Fin 1024 := ⟨l.val / 128 * 128 + d.val, by omega⟩
/-- Lane `d` of the key head that serves lane `l` of 1024: four query heads to a key head. -/
def kLane (l : Fin 1024) (d : Fin 128) : Fin 256 := ⟨l.val / 512 * 128 + d.val, by omega⟩
/-- The lane of the values that lane `l` of the result is a weighted sum of. -/
def vLane (l : Fin 1024) : Fin 256 := kLane l ⟨l.val % 128, by omega⟩

variable (x0 : Vec Ideal S1x512x1024 .bf16) (x1 x2 : Vec Ideal S1x256x256 .bf16) (x3 x4 : Vec Ideal S1x2048x256 .bf16)

/-- A block of the result, index by index. -/
def blockAt (y : S1x512x1024.Idx) : EReal :=
  rowAcc (fun t : Fin 256 => ∑ d : Fin 128, x0 (ix3 0 (y 1) (qLane (y 2) d)) * x1 (ix3 0 t (kLane (y 2) d)))
    (fun t => x2 (ix3 0 t (vLane (y 2))))
    (fun t : Fin 2048 => ∑ d : Fin 128, x0 (ix3 0 (y 1) (qLane (y 2) d)) * x3 (ix3 0 t (kLane (y 2) d)))
    (fun t => x4 (ix3 0 t (vLane (y 2))))

/-- Head `n` of the block stores its lanes of it: the queries' lanes start at `o = 128 n`, the keys' at `g = 128 (n / 4)`. -/
theorem head_block (n o g : ℕ) (ho : o = 128 * n) (hg : g = 128 * (n / 4)) (inbq inbk inbn)
    (x : S1x512x128.Idx) :
    head (View.ld x0 (Rect.unit (s := S1x512x1024) ![0, 0, o] S1x512x128.size inbq))
        (View.ld x1 (Rect.unit (s := S1x256x256) ![0, 0, g] S1x256x128.size inbk))
        (View.ld x3 (Rect.unit (s := S1x2048x256) ![0, 0, g] S1x2048x128.size inbn))
        (View.ld x2 (Rect.unit (s := S1x256x256) ![0, 0, g] S1x256x128.size inbk))
        (View.ld x4 (Rect.unit (s := S1x2048x256) ![0, 0, g] S1x2048x128.size inbn)) x
      = blockAt x0 x1 x2 x3 x4 ((Rect.unit (s := S1x512x1024) ![0, 0, o] S1x512x128.size inbq).emb x) := by
  have h2 : (x 2).val < 128 := (x 2).isLt
  have e1 : (((Rect.unit (s := S1x512x1024) ![0, 0, o] S1x512x128.size inbq).emb x) 1 : Fin 512) = x 1 :=
    Fin.ext ((ValueKit.rect_emb_unit_val (s := S1x512x1024) ![0, 0, o] S1x512x128.size inbq x (1 : Fin 3)).trans (Nat.zero_add _))
  have e2 : ((((Rect.unit (s := S1x512x1024) ![0, 0, o] S1x512x128.size inbq).emb x) 2 : Fin 1024) : ℕ) = o + (x 2).val :=
    ValueKit.rect_emb_unit_val (s := S1x512x1024) ![0, 0, o] S1x512x128.size inbq x (2 : Fin 3)
  rw [head_apply]
  unfold blockAt scoreC scoreN
  rw [e1]
  generalize (((Rect.unit (s := S1x512x1024) ![0, 0, o] S1x512x128.size inbq).emb x) 2 : Fin 1024) = l at e2 ⊢
  have hq : ∀ d : Fin 128, View.ld x0 (Rect.unit (s := S1x512x1024) ![0, 0, o] S1x512x128.size inbq) (ix3 0 (x 1) d)
      = x0 (ix3 0 (x 1) (qLane l d)) := fun d => congrArg x0 (by
    funext a; apply Fin.ext; refine (ValueKit.rect_emb_unit_val _ _ _ _ a).trans ?_
    match a with
    | ⟨0, _⟩ => rfl
    | ⟨1, _⟩ => exact Nat.zero_add _
    | ⟨2, _⟩ => show o + d.val = l.val / 128 * 128 + d.val; omega)
  have hk : ∀ {s : ℕ} (X : Vec Ideal ⟨3, ![1, s, 256]⟩ .bf16) (inb) (t : Fin s) (d : Fin 128),
      View.ld X (Rect.unit (s := ⟨3, ![1, s, 256]⟩) ![0, 0, g] ![1, s, 128] inb) (ix3 0 t d)
        = X (ix3 0 t (kLane l d)) := fun {s} X inb t d => congrArg X (by
    funext a; apply Fin.ext
    refine (ValueKit.rect_emb_unit_val (s := ⟨3, ![1, s, 256]⟩) ![0, 0, g] ![1, s, 128] inb (ix3 0 t d) a).trans ?_
    match a with
    | ⟨0, _⟩ => rfl
    | ⟨1, _⟩ => exact Nat.zero_add _
    | ⟨2, _⟩ => show g + d.val = l.val / 512 * 128 + d.val; omega)
  have hv : (x 2 : Fin 128) = ⟨l.val % 128, by omega⟩ := Fin.ext (by show (x 2).val = l.val % 128; omega)
  have hvl : kLane l (x 2) = vLane l := congrArg (kLane l) hv
  have hk1 : ∀ t d, View.ld x1 (Rect.unit (s := S1x256x256) ![0, 0, g] S1x256x128.size inbk) (ix3 0 t d) = x1 (ix3 0 t (kLane l d)) := hk x1 _
  have hk2 : ∀ t d, View.ld x2 (Rect.unit (s := S1x256x256) ![0, 0, g] S1x256x128.size inbk) (ix3 0 t d) = x2 (ix3 0 t (kLane l d)) := hk x2 _
  have hk3 : ∀ t d, View.ld x3 (Rect.unit (s := S1x2048x256) ![0, 0, g] S1x2048x128.size inbn) (ix3 0 t d) = x3 (ix3 0 t (kLane l d)) := hk x3 _
  have hk4 : ∀ t d, View.ld x4 (Rect.unit (s := S1x2048x256) ![0, 0, g] S1x2048x128.size inbn) (ix3 0 t d) = x4 (ix3 0 t (kLane l d)) := hk x4 _
  rw [← hvl]
  congr 1
  · funext t; exact Finset.sum_congr rfl fun d _ => by rw [hq, hk1]
  · funext t; exact hk2 t (x 2)
  · funext t; exact Finset.sum_congr rfl fun d _ => by rw [hq, hk3]
  · funext t; exact hk4 t (x 2)

/-- What the body leaves in the result's block. -/
theorem out_apply (y : S1x512x1024.Idx) : out0_5 x0 x1 x2 x3 x4 y = blockAt x0 x1 x2 x3 x4 y := by
  unfold out0_5
  refine View.canon_apply_of_pieces (Val := Elt Ideal) (blockAt x0 x1 x2 x3 x4) _ ?_ y (cover0_5 _ _ _ _ _ _ _ _ y)
  intro p hp
  simp only [List.mem_cons, List.not_mem_nil, or_false] at hp
  rcases hp with rfl | rfl | rfl | rfl | rfl | rfl | rfl | rfl
  · exact fun x => (congrFun (piece7 _ _ _ _ _) x).trans (head_block x0 x1 x2 x3 x4 7 896 128 rfl rfl _ _ _ x)
  · exact fun x => (congrFun (piece6 _ _ _ _ _) x).trans (head_block x0 x1 x2 x3 x4 6 768 128 rfl rfl _ _ _ x)
  · exact fun x => (congrFun (piece5 _ _ _ _ _) x).trans (head_block x0 x1 x2 x3 x4 5 640 128 rfl rfl _ _ _ x)
  · exact fun x => (congrFun (piece4 _ _ _ _ _) x).trans (head_block x0 x1 x2 x3 x4 4 512 128 rfl rfl _ _ _ x)
  · exact fun x => (congrFun (piece3 _ _ _ _ _) x).trans (head_block x0 x1 x2 x3 x4 3 384 0 rfl rfl _ _ _ x)
  · exact fun x => (congrFun (piece2 _ _ _ _ _) x).trans (head_block x0 x1 x2 x3 x4 2 256 0 rfl rfl _ _ _ x)
  · exact fun x => (congrFun (piece1 _ _ _ _ _) x).trans (head_block x0 x1 x2 x3 x4 1 128 0 rfl rfl _ _ _ x)
  · exact head_block x0 x1 x2 x3 x4 0 0 0 rfl rfl _ _ _

end Cert.KernelIdeal.Attn

end
-- ==== Proof.Array.lean ====
/- The attention kernel's result array, index by index, of its arguments. -/
module

public import proofs.«01_k».proof.Proof.Block

@[expose] public section

set_option maxRecDepth 16384

noncomputable section

namespace Cert.KernelIdeal.Attn

open Cert.KernelIdeal Cert.KernelIdeal.Gen Idealize.ShloMosaic Idealize.ShloMosaic.TcCoe Idealize.SL.Sem Cert.Attn
open Idealize.ShloMosaic.Pipeline (Dat)

variable (m : (ℓ : Loc nD τ sig) → Buf (Elt Ideal) ℓ) (ρ : Dev nD → PrngReg)

/-- Row `4096 + 2048 b + r` of a token array: row `r` of batch `b` of the part the call works on. -/
def tok (b : Fin 8) (r : Fin 2048) : Fin 20480 := ⟨4096 + (b.val * 2048 + r.val), by omega⟩

/-- The result of attention at batch `b`, row `r` and lane `l`, of the queries, keys, values and the cached keys and values. -/
def attn (x0 : FVec Ideal S20480x1024 .bf16) (x1 x2 : FVec Ideal S20480x256 .bf16) (x3 x4 : FVec Ideal S8x256x256 .bf16)
    (b : Fin 8) (r : Fin 2048) (l : Fin 1024) : EReal :=
  rowAcc (fun t : Fin 256 => ∑ d : Fin 128, x0 (ix2 (tok b r) (qLane l d)) * x3 (ix3 b t (kLane l d)))
    (fun t => x4 (ix3 b t (vLane l)))
    (fun t : Fin 2048 => ∑ d : Fin 128, x0 (ix2 (tok b r) (qLane l d)) * x1 (ix2 (tok b t) (kLane l d)))
    (fun t => x2 (ix2 (tok b t) (vLane l)))

/-- The result array. -/
def result (c : Dev nD) : Buf (Elt Ideal) ((c : Thread nD τ).loc main_v3) := fun i : S8x2048x1024.Idx =>
  attn (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1) (i 2)

/-- The windows' block indices at a grid point. -/
theorem idx : ∀ t : Fin cfg0.N,
    win0_0.index t = ![t.val / 4 + 2, t.val % 4, 0] ∧ win0_1.index t = ![t.val / 4, 0, 0] ∧ win0_2.index t = ![t.val / 4, 0, 0]
      ∧ win0_3.index t = ![t.val / 4 + 2, 0, 0] ∧ win0_4.index t = ![t.val / 4 + 2, 0, 0] ∧ win0_5.index t = ![t.val / 4, t.val % 4, 0] :=
  (by decide +kernel : ∀ t : Fin grid0.N,
    win0_0.index t = ![t.val / 4 + 2, t.val % 4, 0] ∧ win0_1.index t = ![t.val / 4, 0, 0] ∧ win0_2.index t = ![t.val / 4, 0, 0]
      ∧ win0_3.index t = ![t.val / 4 + 2, 0, 0] ∧ win0_4.index t = ![t.val / 4 + 2, 0, 0] ∧ win0_5.index t = ![t.val / 4, t.val % 4, 0])

theorem point_lt (t : Fin cfg0.N) : t.val < 32 := lt_of_lt_of_eq t.isLt N_0

/-- The blocks the body reads, at a grid point, of the argument arrays. -/
theorem q_read (c : Dev nD) (t : Fin cfg0.N) (p : Fin 512) (l : Fin 1024) (b : Fin 8) (r : Fin 2048)
    (hb : b.val = t.val / 4) (hr : r.val = t.val % 4 * 512 + p.val) :
    iblk m c 0 t (ix3 (0 : Fin 1) p l) = m ((c : Thread nD τ).loc main_arg0) (ix2 (tok b r) l) := by
  have ht := point_lt t
  unfold tok
  blk_ext! [iblk, V, idx t, hb, hr]

theorem k_read (c : Dev nD) (t : Fin cfg0.N) (p : Fin 2048) (l : Fin 256) (b : Fin 8) (hb : b.val = t.val / 4) :
    iblk m c 3 t (ix3 (0 : Fin 1) p l) = m ((c : Thread nD τ).loc main_arg1) (ix2 (tok b p) l) := by
  have ht := point_lt t
  unfold tok
  blk_ext! [iblk, V, idx t, hb]

theorem v_read (c : Dev nD) (t : Fin cfg0.N) (p : Fin 2048) (l : Fin 256) (b : Fin 8) (hb : b.val = t.val / 4) :
    iblk m c 4 t (ix3 (0 : Fin 1) p l) = m ((c : Thread nD τ).loc main_arg2) (ix2 (tok b p) l) := by
  have ht := point_lt t
  unfold tok
  blk_ext! [iblk, V, idx t, hb]

theorem kc_read (c : Dev nD) (t : Fin cfg0.N) (p : Fin 256) (l : Fin 256) (b : Fin 8) (hb : b.val = t.val / 4) :
    iblk m c 1 t (ix3 (0 : Fin 1) p l) = m ((c : Thread nD τ).loc main_arg3) (ix3 b p l) := by
  have ht := point_lt t
  blk_ext! [iblk, V_main_arg3, idx t, hb]

theorem vc_read (c : Dev nD) (t : Fin cfg0.N) (p : Fin 256) (l : Fin 256) (b : Fin 8) (hb : b.val = t.val / 4) :
    iblk m c 2 t (ix3 (0 : Fin 1) p l) = m ((c : Thread nD τ).loc main_arg4) (ix3 b p l) := by
  have ht := point_lt t
  blk_ext! [iblk, V_main_arg4, idx t, hb]

/-- The body's block of the result at a grid point, of the argument arrays. -/
theorem block_attn (c : Dev nD) (t : Fin cfg0.N) (p : Fin 512) (l : Fin 1024) (b : Fin 8) (r : Fin 2048)
    (hb : b.val = t.val / 4) (hr : r.val = t.val % 4 * 512 + p.val) :
    blockAt (iblk m c 0 t) (iblk m c 1 t) (iblk m c 2 t) (iblk m c 3 t) (iblk m c 4 t) (ix3 (0 : Fin 1) p l)
      = result m c (ix3 b r l) := by
  unfold result blockAt attn
  have h0 := fun l => q_read m c t p l b r hb hr
  have h1 := fun t' l => kc_read m c t t' l b hb
  have h2 := fun t' l => vc_read m c t t' l b hb
  have h3 := fun t' l => k_read m c t t' l b hb
  have h4 := fun t' l => v_read m c t t' l b hb
  refine congr (congr (congr (congrArg rowAcc ?_) ?_) ?_) ?_
  · exact funext fun t' => Finset.sum_congr rfl fun d _ => congrArg₂ (· * ·) (h0 _) (h1 _ _)
  · exact funext fun t' => h2 _ _
  · exact funext fun t' => Finset.sum_congr rfl fun d _ => congrArg₂ (· * ·) (h0 _) (h3 _ _)
  · exact funext fun t' => h4 _ _

theorem final (c : Dev nD) : (dats m 0 c).arrAt 5 cfg0.N = result m c := by
  refine (dats m 0 c).arrAt_eq_of_covers 5 (result m c) (by decide +kernel) fun t _ y => ?_
  have ht := point_lt t
  show (dats m 0 c).after 5 t _ = _
  rw [after0_5]
  refine (out_apply _ _ _ _ _ _).trans ?_
  have e : ∀ (z : S1x512x1024.Idx), z = ix3 (0 : Fin 1) (z 1) (z 2) := fun z => by
    funext a
    match a with
    | ⟨0, _⟩ => exact Subsingleton.elim (α := Fin 1) _ _
    | ⟨1, _⟩ => rfl
    | ⟨2, _⟩ => rfl
  refine (congrArg (blockAt _ _ _ _ _) (e _)).trans ?_
  have hy : (y 1).val < 512 := (y 1).isLt
  refine (block_attn m c t _ _ ⟨t.val / 4, by omega⟩ ⟨t.val % 4 * 512 + (y 1).val, by omega⟩ rfl rfl).trans ?_
  refine congrArg (result m c) ?_
  blk_ext [idx t]

end Cert.KernelIdeal.Attn

end
-- ==== Proof.Ref.lean ====
/- The reference's result at an index: a row of attention over all 2304 keys. -/
module

public import proofs.«01_k».proof.Proof.Softmax
public import proofs.«01_k».proof.Proof.Gen.ReferenceIdeal.Read
public import Idealize.ShloMosaic.Lib.Pointwise
public import Idealize.ShloMosaic.Lib.ValueIdx

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.SL.Sem Cert.Attn

variable (x0 : (⟨S20480x1024, .bf16⟩ : BufTy).Contents (Elt Ideal)) (x1 x2 : (⟨S20480x256, .bf16⟩ : BufTy).Contents (Elt Ideal))
  (x3 x4 : (⟨S8x256x256, .bf16⟩ : BufTy).Contents (Elt Ideal))

/-- The scores of a query row against all the keys. -/
def scores (b : Fin 8) (g : Fin 2) (h : Fin 4) (r : Fin 2048) (t : Fin 2304) : EReal :=
  val_main_v14 (F := Ideal) x0 x1 x3 (ix5 b g h r t)

theorem negInf : Ideal.ofBits FTy.f32 0xFF800000#32 = ⊥ := by
  simp [Ideal.ofBits, Ideal.ieee]

theorem max_apply (i : S8x2x4x2048.Idx) :
    val_main_v17 (F := Ideal) x0 x1 x3 i = top (scores x0 x1 x3 (i 0) (i 1) (i 2) (i 3)) := by
  rw [val_main_v17_apply, val_main_v16_apply]
  unfold val_main_v15 val_main_cst val_main_cst_0 scores
  generalize val_main_v14 (F := Ideal) x0 x1 x3 = y
  pointwise
  rw [negInf, bot_sup_eq]
  rfl

theorem exp_apply (b : Fin 8) (g : Fin 2) (h : Fin 4) (r : Fin 2048) (t : Fin 2304) :
    val_main_v21 (F := Ideal) x0 x1 x3 (ix5 b g h r t)
      = weight (scores x0 x1 x3 b g h r) (top (scores x0 x1 x3 b g h r)) t := by
  rw [val_main_v21_apply, val_main_v20_apply, val_main_v19_apply, val_main_v18_apply, max_apply]
  rfl

theorem div_apply (b : Fin 8) (g : Fin 2) (h : Fin 4) (r : Fin 2048) (t : Fin 2304) :
    val_main_v25 (F := Ideal) x0 x1 x3 (ix5 b g h r t)
      = Ideal.div (weight (scores x0 x1 x3 b g h r) (top (scores x0 x1 x3 b g h r)) t)
          (∑ u, weight (scores x0 x1 x3 b g h r) (top (scores x0 x1 x3 b g h r)) u) := by
  rw [val_main_v25_apply, val_main_v24_apply, val_main_v23_apply, val_main_v22_apply, exp_apply]
  have hz : (val_main_cst_1 (F := Ideal)) (Shape.Idx.first h_S_) = 0 := by unfold val_main_cst_1; pointwise
  rw [hz, zero_add]
  refine congrArg _ (Finset.sum_congr rfl fun u _ => ?_)
  refine (congrArg (val_main_v21 (F := Ideal) x0 x1 x3) ?_).trans (exp_apply x0 x1 x3 b g h r u)
  funext a
  match a with
  | ⟨0, _⟩ => rfl
  | ⟨1, _⟩ => rfl
  | ⟨2, _⟩ => rfl
  | ⟨3, _⟩ => rfl
  | ⟨4, _⟩ => rfl

/-- The keys (and, of the other arguments, the values) side by side: 256 cached ones, then the 2048 new ones. -/
def keys (xn : (⟨S20480x256, .bf16⟩ : BufTy).Contents (Elt Ideal)) (xc : (⟨S8x256x256, .bf16⟩ : BufTy).Contents (Elt Ideal))
    (b : Fin 8) (t : Fin 2304) (l : Fin 256) : EReal :=
  if h : t.val < 256 then xc (ix3 b ⟨t.val, h⟩ l) else xn (ix2 ⟨4096 + (b.val * 2048 + (t.val - 256)), by omega⟩ l)

theorem keys_apply (b : Fin 8) (t : Fin 2304) (l : Fin 256) : val_main_v5 (F := Ideal) x1 x3 (ix3 b t l) = keys x1 x3 b t l := by
  unfold val_main_v5 val_main_v4 val_main_v3 keys
  pointwise

/-- The values' array is the keys' of the other two arguments. -/
theorem vals_apply (i : S8x2304x2x128.Idx) : val_main_v12 (F := Ideal) x2 x4 i = val_main_v7 (F := Ideal) x2 x4 i := rfl

theorem key_head (b : Fin 8) (t : Fin 2304) (g : Fin 2) (d : Fin 128) :
    val_main_v7 (F := Ideal) x1 x3 (ix4 b t g d) = keys x1 x3 b t ⟨g.val * 128 + d.val, by omega⟩ := by
  rw [val_main_v7_apply, val_main_v6_apply, ← keys_apply]
  refine congrArg (val_main_v5 (F := Ideal) x1 x3) ?_
  funext a
  apply Fin.ext
  match a with
  | ⟨0, _⟩ => show (((b.val * 2304 + t.val) * 2 + g.val) * 128 + d.val) / 589824 = b.val; omega
  | ⟨1, _⟩ => show (((b.val * 2304 + t.val) * 2 + g.val) * 128 + d.val) / 256 % 2304 = t.val; omega
  | ⟨2, _⟩ => show (((b.val * 2304 + t.val) * 2 + g.val) * 128 + d.val) % 256 = g.val * 128 + d.val; omega

theorem query_head (b : Fin 8) (r : Fin 2048) (g : Fin 2) (h : Fin 4) (d : Fin 128) :
    val_main_v2 (F := Ideal) x0 (ix5 b r g h d)
      = x0 (ix2 ⟨4096 + (b.val * 2048 + r.val), by omega⟩ ⟨(g.val * 4 + h.val) * 128 + d.val, by omega⟩) := by
  rw [val_main_v2_apply, val_main_v1_apply, val_main_v0_apply]
  refine congrArg x0 ?_
  funext a
  apply Fin.ext
  match a with
  | ⟨0, _⟩ =>
    show 4096 + ((((b.val * 2048 + r.val) * 2 + g.val) * 4 + h.val) * 128 + d.val) / 1024 = 4096 + (b.val * 2048 + r.val); omega
  | ⟨1, _⟩ =>
    show ((((b.val * 2048 + r.val) * 2 + g.val) * 4 + h.val) * 128 + d.val) % 1024 = (g.val * 4 + h.val) * 128 + d.val; omega

theorem score_apply (b : Fin 8) (g : Fin 2) (h : Fin 4) (r : Fin 2048) (t : Fin 2304) :
    scores x0 x1 x3 b g h r t
      = ∑ d : Fin 128, x0 (ix2 ⟨4096 + (b.val * 2048 + r.val), by omega⟩ ⟨(g.val * 4 + h.val) * 128 + d.val, by omega⟩)
          * keys x1 x3 b t ⟨g.val * 128 + d.val, by omega⟩ := by
  unfold scores
  rw [val_main_v14_apply, val_main_v13_apply]
  refine Finset.sum_congr rfl fun d _ => ?_
  rw [mul_comm, ← query_head x0, ← key_head x1 x3]
  refine congrArg₂ (· * ·) (congrArg (val_main_v2 (F := Ideal) x0) ?_) (congrArg (val_main_v7 (F := Ideal) x1 x3) ?_)
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
    | ⟨3, _⟩ => rfl

/-- The reference's result: at batch `b`, row `r` and lane `l`, the row of attention of the query head lane `l` is in. -/
theorem ref_apply (b : Fin 8) (r : Fin 2048) (l : Fin 1024) :
    val_main_v29 (F := Ideal) x0 x1 x2 x3 x4 (ix3 b r l)
      = row (fun t : Fin 2304 => ∑ d : Fin 128, x0 (ix2 ⟨4096 + (b.val * 2048 + r.val), by omega⟩ ⟨l.val / 128 * 128 + d.val, by omega⟩)
          * keys x1 x3 b t ⟨l.val / 512 * 128 + d.val, by omega⟩)
        (fun t => keys x2 x4 b t ⟨l.val / 512 * 128 + l.val % 128, by omega⟩) := by
  have hidx : idx_main_v27 (idx_main_v28 (ix3 b r l))
      = ix5 b (⟨l.val / 512, by omega⟩ : Fin 2) (⟨l.val % 128, by omega⟩ : Fin 128) (⟨l.val / 128 % 4, by omega⟩ : Fin 4) r := by
    funext a
    apply Fin.ext
    match a with
    | ⟨0, _⟩ => show ((b.val * 2048 + r.val) * 1024 + l.val) / 2097152 = b.val; omega
    | ⟨1, _⟩ => show ((b.val * 2048 + r.val) * 1024 + l.val) / 512 % 2 = l.val / 512; omega
    | ⟨2, _⟩ => show ((b.val * 2048 + r.val) * 1024 + l.val) % 128 = l.val % 128; omega
    | ⟨3, _⟩ => show ((b.val * 2048 + r.val) * 1024 + l.val) / 128 % 4 = l.val / 128 % 4; omega
    | ⟨4, _⟩ => show ((b.val * 2048 + r.val) * 1024 + l.val) / 1024 % 2048 = r.val; omega
  rw [val_main_v29_apply, val_main_v28_apply, val_main_v27_apply, hidx]
  refine (val_main_v26_apply x0 x1 x2 x3 x4 _).trans ?_
  have hs : scores x0 x1 x3 b ⟨l.val / 512, by omega⟩ ⟨l.val / 128 % 4, by omega⟩ r
      = fun t : Fin 2304 => ∑ d : Fin 128, x0 (ix2 ⟨4096 + (b.val * 2048 + r.val), by omega⟩ ⟨l.val / 128 * 128 + d.val, by omega⟩)
          * keys x1 x3 b t ⟨l.val / 512 * 128 + d.val, by omega⟩ := by
    funext t
    rw [score_apply]
    refine Finset.sum_congr rfl fun d _ => ?_
    have e : (⟨(l.val / 512 * 4 + l.val / 128 % 4) * 128 + d.val, by omega⟩ : Fin 1024) = ⟨l.val / 128 * 128 + d.val, by omega⟩ :=
      Fin.ext (by show (l.val / 512 * 4 + l.val / 128 % 4) * 128 + d.val = l.val / 128 * 128 + d.val; omega)
    exact congrArg (fun z => x0 (ix2 _ z) * _) e
  rw [← hs]
  unfold row
  refine Finset.sum_congr rfl fun t _ => ?_
  rw [← div_apply, vals_apply]
  show _ = keys x2 x4 b t ⟨l.val / 512 * 128 + l.val % 128, _⟩ * _
  rw [← key_head x2 x4 b t ⟨l.val / 512, by omega⟩ ⟨l.val % 128, by omega⟩]
  refine congrArg₂ (· * ·) (congrArg (val_main_v7 (F := Ideal) x2 x4) ?_) (congrArg (val_main_v25 (F := Ideal) x0 x1 x3) ?_)
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl
    | ⟨4, _⟩ => rfl

end Cert.ReferenceIdeal.Attn

end
-- ==== Proof.Equal.lean ====
/- At finite queries and keys the attention kernel's result is the reference's. -/
module

public import proofs.«01_k».proof.Proof.Array
public import proofs.«01_k».proof.Proof.Ref
public import proofs.«01_k».proof.Pre_finite

@[expose] public section

set_option maxRecDepth 16384

noncomputable section

namespace Cert.Attn

open Idealize.ShloMosaic Idealize.SL.Sem
open Cert.KernelIdeal (S20480x1024 S20480x256 S8x256x256)

/-- The precondition's side conditions. -/
theorem finiteFacts : Cert.Pre_finite.Facts where
  bitsLt_bf16_f32 := by decide
  bcast_S_S20480x1024 := by decide
  bcast_S_S20480x256 := by decide
  bcast_S_S8x256x256 := by decide

/-- An entry whose absolute value is below plus infinity is a real number. -/
theorem real_of_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x with
  | bot => exfalso; revert h; simp [Ideal.cmp]
  | top => exfalso; revert h; simp [Ideal.cmp]
  | coe r => exact ⟨r, rfl⟩

/-- Every entry is a real number. -/
def Reals {S : Shape} (x : S.Idx → EReal) : Prop := ∃ r : S.Idx → ℝ, ∀ i, x i = (r i : EReal)

theorem reals_of {S : Shape} (x : S.Idx → EReal)
    (h : ∀ i, Ideal.cmp .olt (max (x i) (-(x i))) (Ideal.ofBits .f32 0x7F800000#32) = 1#1) : Reals x := by
  choose r hr using fun i => real_of_lt (x i) (h i)
  exact ⟨r, hr⟩

variable (x0 : FVec Ideal S20480x1024 .bf16) (x1 x2 : FVec Ideal S20480x256 .bf16) (x3 x4 : FVec Ideal S8x256x256 .bf16)

theorem reals_q (h : (@Cert.Pre_finite.fn finiteFacts Ideal _ x0 x1 x2 x3 x4).1 = fun _ => 1#1) : Reals (S := S20480x1024) x0 :=
  reals_of _ fun i => congrFun h i

theorem reals_k (h : (@Cert.Pre_finite.fn finiteFacts Ideal _ x0 x1 x2 x3 x4).2.1 = fun _ => 1#1) : Reals (S := S20480x256) x1 :=
  reals_of _ fun i => congrFun h i

theorem reals_kc (h : (@Cert.Pre_finite.fn finiteFacts Ideal _ x0 x1 x2 x3 x4).2.2 = fun _ => 1#1) : Reals (S := S8x256x256) x3 :=
  reals_of _ fun i => congrFun h i

/-- The keys of a batch, old and new, are real numbers when both arrays' entries are. -/
theorem reals_keys (h1 : Reals (S := S20480x256) x1) (h3 : Reals (S := S8x256x256) x3) (b : Fin 8) (t : Fin 2304) (l : Fin 256) :
    ∃ r : ℝ, Cert.ReferenceIdeal.Attn.keys x1 x3 b t l = (r : EReal) := by
  obtain ⟨r1, h1⟩ := h1
  obtain ⟨r3, h3⟩ := h3
  unfold Cert.ReferenceIdeal.Attn.keys
  split
  · exact ⟨_, h3 _⟩
  · exact ⟨_, h1 _⟩

/-- A score is a real number. -/
theorem real_dot {n : ℕ} (f g : Fin n → EReal) (hf : ∀ d, ∃ r : ℝ, f d = (r : EReal)) (hg : ∀ d, ∃ r : ℝ, g d = (r : EReal)) :
    ∃ r : ℝ, ∑ d, f d * g d = (r : EReal) := by
  choose rf hf using hf
  choose rg hg using hg
  refine ⟨∑ d, rf d * rg d, ?_⟩
  rw [coe_sum]
  refine Finset.sum_congr rfl fun d _ => ?_
  rw [hf, hg, EReal.coe_mul]

/-- The keys at a position of the cached part. -/
theorem keys_old (y1 : FVec Ideal S20480x256 .bf16) (y3 : FVec Ideal S8x256x256 .bf16) (b : Fin 8) (t : Fin 256) (l : Fin 256) :
    Cert.ReferenceIdeal.Attn.keys y1 y3 b (Fin.castAdd 2048 t) l = y3 (ix3 b t l) := by
  unfold Cert.ReferenceIdeal.Attn.keys
  exact dif_pos t.isLt

/-- The keys at a position of the new part. -/
theorem keys_new (y1 : FVec Ideal S20480x256 .bf16) (y3 : FVec Ideal S8x256x256 .bf16) (b : Fin 8) (t : Fin 2048) (l : Fin 256) :
    Cert.ReferenceIdeal.Attn.keys y1 y3 b (Fin.natAdd 256 t) l = y1 (ix2 (Cert.KernelIdeal.Attn.tok b t) l) := by
  unfold Cert.ReferenceIdeal.Attn.keys
  refine (dif_neg (show ¬ (256 + t.val < 256) by omega)).trans ?_
  unfold Cert.KernelIdeal.Attn.tok
  refine congrArg y1 (congrArg (fun z => ix2 z l) (Fin.ext ?_))
  show 4096 + (b.val * 2048 + (256 + t.val - 256)) = 4096 + (b.val * 2048 + t.val)
  omega

/-- The kernel's attention is the reference's, index by index. -/
theorem attn_eq (h0 : Reals (S := S20480x1024) x0) (h1 : Reals (S := S20480x256) x1) (h3 : Reals (S := S8x256x256) x3)
    (b : Fin 8) (r : Fin 2048) (l : Fin 1024) :
    Cert.KernelIdeal.Attn.attn x0 x1 x2 x3 x4 b r l = Cert.ReferenceIdeal.Read.val_main_v29 (F := Ideal) x0 x1 x2 x3 x4 (ix3 b r l) := by
  rw [Cert.ReferenceIdeal.Attn.ref_apply]
  obtain ⟨r0, h0⟩ := h0
  choose s hs using fun t : Fin (256 + 2048) =>
    real_dot (fun d : Fin 128 => x0 (ix2 (⟨4096 + (b.val * 2048 + r.val), by omega⟩ : Fin 20480) (⟨l.val / 128 * 128 + d.val, by omega⟩ : Fin 1024)))
      (fun d => Cert.ReferenceIdeal.Attn.keys x1 x3 b t ⟨l.val / 512 * 128 + d.val, by omega⟩)
      (fun d => ⟨_, h0 _⟩) (fun d => reals_keys x1 x3 h1 h3 b t _)
  refine Eq.trans ?_ (rowAcc_eq_row (by omega) _ (fun t : Fin (256 + 2048) => Cert.ReferenceIdeal.Attn.keys x2 x4 b t ⟨l.val / 512 * 128 + l.val % 128, by omega⟩) s hs)
  unfold Cert.KernelIdeal.Attn.attn
  refine congr (congr (congr (congrArg rowAcc ?_) ?_) ?_) ?_
  · exact funext fun t => Finset.sum_congr rfl fun d _ => congrArg (_ * ·) (keys_old x1 x3 b t _).symm
  · exact funext fun t => (keys_old x2 x4 b t _).symm
  · exact funext fun t => Finset.sum_congr rfl fun d _ => congrArg (_ * ·) (keys_new x1 x3 b t _).symm
  · exact funext fun t => (keys_new x2 x4 b t _).symm

end Cert.Attn

end
-- ==== Proof.GmmStep.lean ====
module

public import Idealize.ShloMosaic.Lib.Transfers
public import Idealize.ShloMosaic.Lib.Ring
public import Idealize.ShloMosaic.Lib.Exec.Context
public import Idealize.ShloMosaic.PureOps

/-!
Streaming one matrix through a ring of six staging slots, as two rules: one for starting the copy
of the next band of rows into its slot, one for waiting for the oldest band and storing it, rounded
to `bf16`, in its place.
-/

@[expose] public section

noncomputable section

namespace Cert.GmmStep

open Idealize.ShloMosaic Idealize.ShloMosaic.TcCoe
open Idealize.SL
open Idealize.SL.RA Idealize.SL.Sem Idealize.SL.ProofMode
open Idealize.SL.BI (sProp bigSep)
open scoped Idealize.SL.BI
open Idealize.SL.BI.BIBase Idealize.SL.BI.Laws
open Idealize.ShloMosaic.Transfers

variable {nD : Nat} {τ : Topo} {sig : RefSig} {Λ₀ : Labels} {F : FTy → Type} [FloatOps F]
variable {U : Type} [URA U] [CountersIn U]

local notation "𝕄" => MT nD τ sig Unit (Elt F) ℕ U ℕ

/-- The shape of a matrix of `n` rows of `C`. -/
abbrev Mat (n C : ℕ) : Shape := ⟨2, ![n, C]⟩
/-- The shape of six staging slots of `r` rows of `C`. -/
abbrev Ring (r C : ℕ) : Shape := ⟨3, ![6, r, C]⟩
/-- The shape of one staging slot. -/
abbrev One (r C : ℕ) : Shape := ⟨3, ![1, r, C]⟩

variable {r C n : ℕ}

theorem slot_inb (s : Fin 6) : ∀ a, (![s.val, 0, 0] : Fin 3 → ℕ) a + (![1, r, C] : Fin 3 → ℕ) a ≤ (Ring r C).size a
  | ⟨0, _⟩ => s.isLt
  | ⟨1, _⟩ => (Nat.zero_add r).le
  | ⟨2, _⟩ => (Nat.zero_add C).le

/-- The rectangle of slot `s`. -/
abbrev slotR (r C : ℕ) (s : Fin 6) : Rect (Ring r C) := Rect.unit (s := Ring r C) ![s.val, 0, 0] ![1, r, C] (slot_inb s)

variable (A : Memref sig .tc .vmem (Ring r C) .f32) (σ : DmaSems sig ⟨1, ![6]⟩)
variable (B : Memref sig .tc .hbm (Mat n C) .f32) (D : Memref sig .tc .vmem (Mat n C) .bf16)
variable (hq : (One r C).Squeezes (Mat r C)) (hq1 : (⟨1, ![1]⟩ : Shape).Squeezes ⟨0, ![]⟩)

/-- Slot `s` of the ring. -/
abbrev slotM (s : Fin 6) : Memref sig .tc .vmem (Mat r C) .f32 := (A.slice (slotR r C s) (fun _ => rfl)).squeeze (Mat r C) hq

theorem sem_inb (s : Fin 6) : ∀ a, (![s.val] : Fin 1 → ℕ) a + (![1] : Fin 1 → ℕ) a ≤ (⟨1, ![6]⟩ : Shape).size a
  | ⟨0, _⟩ => s.isLt

/-- The semaphore of slot `s`. -/
abbrev semM (s : Fin 6) : DmaSem sig :=
  ((σ.slice (Rect.unit (s := ⟨1, ![6]⟩) ![s.val] ![1] (sem_inb s))).squeeze ⟨0, ![]⟩ hq1).sem

variable (c : Dev nD) (fs : Buf (Elt F) (B.view.loc (c.tc : Thread nD τ))) (q : Fin 6 → PosShare TreeShare)

/-- What slot `s` is when it is free: its elements at any contents, the slot's share of the source, its
    semaphore at zero. -/
def free (s : Fin 6) : sProp 𝕄 :=
  iprop((∃ f, (slotM A hq s).view.loc c.tc ↦[(slotM A hq s).view.set]{fullShare} f)
    ∗ (B.view.loc c.tc ↦{q s} fs) ∗ semVal (c.tc, .dma (semM σ hq1 s)) 0)

/-- What slot `s` is while band `k` is on its way to it, or there and not yet waited for. -/
def busy (s : Fin 6) (k : ℕ) : sProp 𝕄 :=
  iprop(∃ (I : Finset (Idx (B.view.loc (c.tc : Thread nD τ)))) (f' : Buf (Elt F) ((slotM A hq s).view.loc (c.tc : Thread nD τ))) (N : ℕ),
    ⌜N = (slotM A hq s).view.dmaCredit⌝
    ∗ ⌜∀ (y : (Mat r C).Idx) (x : (Mat n C).Idx), (x 0).val = r * k + (y 0).val → (x 1).val = (y 1).val →
        (slotM A hq s).view.read (Elt F) f' y = B.view.read (Elt F) fs x⌝
    ∗ Flight (countersEmb (U := U)) (c.tc : Thread nD τ) (.dma (semM σ hq1 s)) () N
        iprop(((slotM A hq s).view.loc c.tc ↦[(slotM A hq s).view.set]{fullShare} f') ∗ (B.view.loc c.tc ↦[I]{q s} fs))
    ∗ (B.view.loc c.tc ↦[Finset.univ \ I]{q s} fs))

/-- The band slot `s` carries once `i` copies are started and `j` are waited for. -/
def held (i j : ℕ) (s : Fin 6) : Option ℕ :=
  if j + (s.val + 6 - j % 6) % 6 < i then some (j + (s.val + 6 - j % 6) % 6) else none

/-- Slot `s`, free or carrying a band. -/
def slot (s : Fin 6) : Option ℕ → sProp 𝕄
  | none => free A σ B hq hq1 c fs q s
  | some k => busy A σ B hq hq1 c fs q s k

/-- The state of the stream once `i` copies are started, `j` are waited for and `d` bands are stored. -/
def St (R : sProp 𝕄) (i j d : ℕ) : sProp 𝕄 :=
  iprop(R ∗ (bigSep Finset.univ fun s : Fin 6 => slot A σ B hq hq1 c fs q s (held i j s))
    ∗ (∃ W, owes (c.tc : Thread nD τ) 0 W)
    ∗ (∃ g, ⌜∀ x : (Mat n C).Idx, (x 0).val < r * d →
          D.view.read (Elt F) g x = FloatOps.truncf .bf16 (by decide) (B.view.read (Elt F) fs x)⌝
        ∗ D.view.loc c.tc ↦{fullShare} g))

theorem held_issue {i j : ℕ} (h : j ≤ i) (h' : i < j + 6) (s : Fin 6) :
    held (i + 1) j s = if s = ⟨i % 6, Nat.mod_lt _ (by decide)⟩ then some i else held i j s := by
  have := s.isLt
  unfold held
  by_cases e : s = ⟨i % 6, Nat.mod_lt _ (by decide)⟩
  · have e' : s.val = i % 6 := congrArg Fin.val e
    rw [if_pos e, if_pos (by omega)]
    congr 1; omega
  · have e' : s.val ≠ i % 6 := fun h => e (Fin.ext h)
    rw [if_neg e]
    congr 1
    apply propext; constructor <;> intro <;> omega

theorem held_issue_none {i j : ℕ} (h : j ≤ i) (h' : i < j + 6) :
    held i j ⟨i % 6, Nat.mod_lt _ (by decide)⟩ = none := by
  unfold held
  rw [if_neg]
  simp only
  omega

theorem held_consume {i j : ℕ} (h : j < i) (h' : i ≤ j + 6) (s : Fin 6) :
    held i (j + 1) s = if s = ⟨j % 6, Nat.mod_lt _ (by decide)⟩ then none else held i j s := by
  have := s.isLt
  unfold held
  by_cases e : s = ⟨j % 6, Nat.mod_lt _ (by decide)⟩
  · have e' : s.val = j % 6 := congrArg Fin.val e
    rw [if_pos e, if_neg (by omega)]
  · have e' : s.val ≠ j % 6 := fun h => e (Fin.ext h)
    have e2 : j + 1 + (s.val + 6 - (j + 1) % 6) % 6 = j + (s.val + 6 - j % 6) % 6 := by omega
    rw [if_neg e, e2]

theorem held_consume_some {i j : ℕ} (h : j < i) :
    held i j ⟨j % 6, Nat.mod_lt _ (by decide)⟩ = some j := by
  unfold held
  have : (j % 6 + 6 - j % 6) % 6 = 0 := by omega
  simp only [this, Nat.add_zero]
  rw [if_pos h]

theorem band_inb {i : ℕ} (h : r * i + r ≤ n) : ∀ a, (![r * i, 0] : Fin 2 → ℕ) a + (![r, C] : Fin 2 → ℕ) a ≤ (Mat n C).size a
  | ⟨0, _⟩ => h
  | ⟨1, _⟩ => (Nat.zero_add C).le

/-- Band `i` of a matrix. -/
abbrev bandR (n C : ℕ) {r : ℕ} (i : ℕ) (h : r * i + r ≤ n) : Rect (Mat n C) :=
  Rect.unit (s := Mat n C) ![r * i, 0] ![r, C] (band_inb h)

variable {defs : Defs nD τ sig (Elt F) Λ₀} {𝒱 : Variants} {α : Type}

/-- The remainder of `n` modulo six, as a slot. -/
abbrev sl (n : ℕ) : Fin 6 := ⟨n % 6, Nat.mod_lt _ (by decide)⟩

theorem slots_take (i j s : ℕ) :
    (bigSep Finset.univ fun s : Fin 6 => slot (U := U) (τ := τ) A σ B hq hq1 c fs q s (held i j s))
      = iprop(slot A σ B hq hq1 c fs q (sl s) (held i j (sl s))
          ∗ bigSep (Finset.univ.erase (sl s)) fun s : Fin 6 => slot A σ B hq hq1 c fs q s (held i j s)) :=
  BI.bigSep_univ_split (sl s)

theorem slots_put (i j i' j' s : ℕ) (o : Option ℕ) (h : ∀ t, held i' j' t = if t = sl s then o else held i j t) :
    iprop(slot (U := U) (τ := τ) A σ B hq hq1 c fs q (sl s) o
          ∗ bigSep (Finset.univ.erase (sl s)) fun s : Fin 6 => slot A σ B hq hq1 c fs q s (held i j s))
      = (bigSep Finset.univ fun s : Fin 6 => slot A σ B hq hq1 c fs q s (held i' j' s)) := by
  rw [slots_take A σ B hq hq1 c fs q i' j' s, h, if_pos rfl]
  congr 1
  refine BI.bigSep_congr fun t ht => ?_
  rw [h, if_neg (Finset.ne_of_mem_erase ht)]

theorem slot_set (s : Fin 6) : (slotM A hq s).view.set = A.view.setOn (slotR r C s).set := by
  show (View.reshape _ _ _).set = _
  rw [View.set_reshape, View.set_slice]
  rfl

/-- Starting the copy of the next band into its slot. -/
theorem issue (hrC : 0 < (Mat r C).numel) {R : sProp 𝕄} {i j d : ℕ} (hb : r * i + r ≤ n) (h : j ≤ i) (h' : i < j + 6)
    {hsrc : (B.slice (bandR n C i hb) (fun _ => rfl)).view.WordExact}
    {hdst : (slotM A hq (sl i)).view.WordExact}
    {hsem : DmaTarget.Typed (nD := nD) (τ := τ) (p := .tc) .hbm (.dma (semM σ hq1 (sl i)))
      (.here (slotM A hq (sl i)))}
    {K : PUnit → Prog (TpuEff nD τ sig (Elt F) Λ₀ .tc) α} {Q : α → sProp 𝕄}
    (hk : St A σ B D hq hq1 c fs q R (i + 1) j d ⊢ wp frame (wpE defs 𝒱 c.tc none) Set.univ (K ⟨⟩) Q) :
    St A σ B D hq hq1 c fs q R i j d ⊢ wp frame (wpE defs 𝒱 c.tc none) Set.univ
      (.op (.enqueueDmaAs (p := .tc) (B.slice (bandR n C i hb) (fun _ => rfl)) (.here (slotM A hq (sl i))) .same
        (.dma (semM σ hq1 (sl i))) hsrc hdst hsem) K) Q := by
  unfold St
  rw [slots_take A σ B hq hq1 c fs q i j i, held_issue_none h h']
  rw [St, ← slots_put A σ B hq hq1 c fs q i j (i + 1) j i (some i) (held_issue h h')] at hk
  simp only [slot] at hk ⊢
  unfold free
  iintro ⟨HR, ⟨⟨⟨%f, Hd⟩, Hs, Hv⟩, Hrest⟩, HW, HD⟩
  ihave Hs2 := (pointsTo_split_subset (Finset.subset_univ (B.slice (bandR n C i hb) (fun _ => rfl)).view.set)).1 $$ Hs
  icases Hs2 with ⟨Hs, Hs'⟩
  iapply (wp_dmaLocal (countersEmb (U := U)) 𝒱 c.tc none () _ rfl (View.dmaCredit_pos _ hrC) (Finset.Subset.refl _)) $$ [Hs Hd Hv]
  · isplitl [Hs]; · iexact Hs
    isplitl [Hd] <;> iassumption
  iintro HF
  iapply hk
  isplitl [HR]; · iexact HR
  isplitr [HW HD]
  · isplitr [Hrest]
    · unfold busy
      iexists _, _, _
      isplitr
      · ipureintro; rfl
      isplitr
      rotate_left
      · isplitl [HF]; · iexact HF
        iexact Hs'
      · ipureintro
        intro y x h0 h1
        rw [View.read_write_univ]
        show B.view.read (Elt F) fs ((bandR n C i hb).emb y) = _
        congr 1
        funext a
        match a with
        | ⟨0, _⟩ => exact Fin.ext (by show r * i + 1 * (y 0).val = (x 0).val; omega)
        | ⟨1, _⟩ => exact Fin.ext (by show 0 + 1 * (y 1).val = (x 1).val; omega)
    · iexact Hrest
  isplitl [HW] <;> iassumption

/-- The stream's state after waiting for band `j`: its slot holds that band. -/
def Mid (R : sProp 𝕄) (i j : ℕ) : sProp 𝕄 :=
  iprop(R ∗ ((∃ f', ⌜∀ (y : (Mat r C).Idx) (x : (Mat n C).Idx), (x 0).val = r * j + (y 0).val → (x 1).val = (y 1).val →
          (slotM A hq (sl j)).view.read (Elt F) f' y = B.view.read (Elt F) fs x⌝
        ∗ ((slotM A hq (sl j)).view.loc c.tc ↦[(slotM A hq (sl j)).view.set]{fullShare} f'))
      ∗ (B.view.loc c.tc ↦{q (sl j)} fs) ∗ semVal (c.tc, .dma (semM σ hq1 (sl j))) 0)
    ∗ (bigSep (Finset.univ.erase (sl j)) fun s : Fin 6 => slot A σ B hq hq1 c fs q s (held i j s))
    ∗ (∃ W, owes (c.tc : Thread nD τ) 0 W)
    ∗ (∃ g, ⌜∀ x : (Mat n C).Idx, (x 0).val < r * j →
          D.view.read (Elt F) g x = FloatOps.truncf .bf16 (by decide) (B.view.read (Elt F) fs x)⌝
        ∗ D.view.loc c.tc ↦{fullShare} g))

/-- Waiting for the oldest band. -/
theorem wait {R : sProp 𝕄} {i j : ℕ} (h : j < i)
    {sp : Space} {s' : Shape} {e' : EltTy} {srcw : Memref sig .tc sp s' e'}
    {hsrc : srcw.view.WordExact} {hdst : (slotM A hq (sl j)).view.WordExact}
    {K : PUnit → Prog (TpuEff nD τ sig (Elt F) Λ₀ .tc) α} {Q : α → sProp 𝕄}
    (hk : Mid A σ B D hq hq1 c fs q R i j ⊢ wp frame (wpE defs 𝒱 c.tc none) Set.univ (K ⟨⟩) Q) :
    St A σ B D hq hq1 c fs q R i j j ⊢ wp frame (wpE defs 𝒱 c.tc none) Set.univ
      (.op (.waitDma2 (semM σ hq1 (sl j)) srcw (slotM A hq (sl j)) hsrc hdst) K) Q := by
  unfold St
  rw [slots_take A σ B hq hq1 c fs q i j j, held_consume_some h]
  unfold Mid at hk
  simp only [slot] at hk ⊢
  unfold busy
  iintro ⟨HR, ⟨⟨%I, %f, %N, %hN, %hf, HF, Hs⟩, Hrest⟩, ⟨%W, HW⟩, HD⟩
  iapply (wp_waitLocal (countersEmb (U := U)) 𝒱 c.tc none () hN.symm) $$ [HF HW]
  · isplitl [HF] <;> iassumption
  iintro ⟨⟨HS, HB⟩, Hv, HW⟩
  iapply hk
  isplitl [HR]; · iexact HR
  isplitl [HS HB Hs Hv]
  · isplitl [HS]
    · iexists _
      isplitr
      · ipureintro; exact hf
      · iexact HS
    isplitr [Hv]
    · iapply (pointsTo_split_subset (Finset.subset_univ I)).2
      isplitl [HB] <;> iassumption
    · iexact Hv
  isplitl [Hrest]; · iexact Hrest
  isplitl [HW]
  · iexists _; iexact HW
  · iexact HD

/-- Loading the band just waited for; its slot is free again. -/
theorem load {R : sProp 𝕄} {i j : ℕ} (h : j < i) (h' : i ≤ j + 6)
    {hl : A.view.LoadsAt (slotR r C (sl j)).toLoadRect}
    {K : ((slotR r C (sl j)).shape.Idx → Elt F .f32) → Prog (TpuEff nD τ sig (Elt F) Λ₀ .tc) α} {Q : α → sProp 𝕄}
    (hk : ∀ v : (slotR r C (sl j)).shape.Idx → Elt F .f32,
      (∀ (y : (Mat r C).Idx) (x : (Mat n C).Idx), (x 0).val = r * j + (y 0).val → (x 1).val = (y 1).val →
        v (Shape.reshapeEquiv hq.numel_eq y) = B.view.read (Elt F) fs x) →
      St A σ B D hq hq1 c fs q R i (j + 1) j ⊢ wp frame (wpE defs 𝒱 c.tc none) Set.univ (K v) Q) :
    Mid A σ B D hq hq1 c fs q R i j ⊢ wp frame (wpE defs 𝒱 c.tc none) Set.univ
      (.op (.load A (slotR r C (sl j)).toLoadRect hl) K) Q := by
  rw [St, ← slots_put A σ B hq hq1 c fs q i j i (j + 1) j none (held_consume h h')] at hk
  simp only [slot] at hk
  unfold Mid
  simp only [slot]
  iintro ⟨HR, ⟨⟨%f, %hf, HS⟩, HB, Hv⟩, Hrest, HW, HD⟩
  iapply (wp_load 𝒱 c.tc none Set.univ (m := A) (S := (slotM A hq (sl j)).view.set)
    (slot_set A hq (sl j)).ge) $$ [HS]
  · iexact HS
  iintro HS
  iapply (hk _ hf)
  isplitl [HR]; · iexact HR
  isplitr [HW HD]
  · isplitr [Hrest]
    · unfold free
      isplitl [HS]
      · iexists _; iexact HS
      isplitl [HB] <;> iassumption
    · iexact Hrest
  isplitl [HW] <;> iassumption

/-- Loading the band's place, of which nothing is used. -/
theorem peek {R : sProp 𝕄} {i j d k : ℕ} (hb : r * k + r ≤ n)
    {hl : D.view.LoadsAt (bandR n C k hb).toLoadRect}
    {K : ((bandR n C k hb).shape.Idx → Elt F .bf16) → Prog (TpuEff nD τ sig (Elt F) Λ₀ .tc) α} {Q : α → sProp 𝕄}
    (hk : ∀ v, St A σ B D hq hq1 c fs q R i j d ⊢ wp frame (wpE defs 𝒱 c.tc none) Set.univ (K v) Q) :
    St A σ B D hq hq1 c fs q R i j d ⊢ wp frame (wpE defs 𝒱 c.tc none) Set.univ
      (.op (.load D (bandR n C k hb).toLoadRect hl) K) Q := by
  unfold St at hk ⊢
  iintro ⟨HR, Hs, HW, ⟨%g, %hg, HD⟩⟩
  iapply (wp_load 𝒱 c.tc none Set.univ (m := D) (S := Finset.univ) (Finset.subset_univ _)) $$ [HD]
  · iexact HD
  iintro HD
  iapply hk
  isplitl [HR]; · iexact HR
  isplitl [Hs]; · iexact Hs
  isplitl [HW]; · iexact HW
  iexists _
  isplitr
  · ipureintro; exact hg
  · iexact HD

/-- Storing the band, rounded, in its place. -/
theorem store {R : sProp 𝕄} {i j d : ℕ} (hb : r * d + r ≤ n) {w : (bandR n C d hb).shape.Idx → Elt F .bf16}
    {hx : (D.access (bandR n C d hb)).Stores Finset.univ}
    {hm : (Finset.univ : Finset (bandR n C d hb).shape.Idx) = Finset.univ ∨ ∀ a, (bandR n C d hb).stride a = 1}
    {K : PUnit → Prog (TpuEff nD τ sig (Elt F) Λ₀ .tc) α} {Q : α → sProp 𝕄}
    {v : (One r C).Idx → Elt F .f32} (hs : (One r C).ShapeCasts (Mat r C)) (hs' : (Mat r C).ShapeCasts (Mat r C))
    (hv : ∀ (y : (Mat r C).Idx) (x : (Mat n C).Idx), (x 0).val = r * d + (y 0).val → (x 1).val = (y 1).val →
      v (Shape.reshapeEquiv hq.numel_eq y) = B.view.read (Elt F) fs x)
    (he : w = shapeCast (Mat r C) (truncf .bf16 (shapeCast (Mat r C) (v : FVec F (One r C) .f32) hs) (by decide)) hs')
    (hk : St A σ B D hq hq1 c fs q R i j (d + 1) ⊢ wp frame (wpE defs 𝒱 c.tc none) Set.univ (K ⟨⟩) Q) :
    St A σ B D hq hq1 c fs q R i j d ⊢ wp frame (wpE defs 𝒱 c.tc none) Set.univ
      (.op (.store D (bandR n C d hb) w Finset.univ hx hm) K) Q := by
  have hw : ∀ (y : (Mat r C).Idx) (x : (Mat n C).Idx), (x 0).val = r * d + (y 0).val → (x 1).val = (y 1).val →
      w y = FloatOps.truncf .bf16 (by decide) (B.view.read (Elt F) fs x) := by
    intro y x h0 h1
    rw [← hv y x h0 h1, he]
    unfold shapeCast
    rw [Shape.reshapeEquiv_self]
    rfl
  unfold St at hk ⊢
  iintro ⟨HR, Hs, HW, ⟨%g, %hg, HD⟩⟩
  iapply (wp_store 𝒱 c.tc none Set.univ (m := D) (S := Finset.univ) (Finset.subset_univ _)) $$ [HD]
  · iexact HD
  iintro HD
  iapply hk
  isplitl [HR]; · iexact HR
  isplitl [Hs]; · iexact Hs
  isplitl [HW]; · iexact HW
  iexists _
  isplitr
  rotate_left
  · iexact HD
  ipureintro
  intro x hx
  by_cases hlt : (x 0).val < r * d
  · rw [← hg x hlt]
    refine View.read_slice_write_of_not_mem _ _ _ _ ?_
    intro hm
    obtain ⟨y, -, rfl⟩ := Finset.mem_map.mp hm
    have e : (((bandR n C d hb).emb y) 0).val = r * d + (y 0).val := by
      show r * d + 1 * (y 0).val = _; omega
    omega
  · have h0 : (x 0).val - r * d < r := by rw [Nat.mul_add, Nat.mul_one] at hx; omega
    let y : (Mat r C).Idx := fun a => match a with
      | ⟨0, _⟩ => ⟨(x 0).val - r * d, h0⟩
      | ⟨1, _⟩ => x 1
    have ex : (bandR n C d hb).emb y = x := by
      funext a
      match a with
      | ⟨0, _⟩ => exact Fin.ext (by show r * d + 1 * ((x 0).val - r * d) = (x 0).val; omega)
      | ⟨1, _⟩ => exact Fin.ext (by show 0 + 1 * (x 1).val = (x 1).val; omega)
    rw [← hw y x (by show (x 0).val = r * d + ((x 0).val - r * d); omega) rfl]
    conv_lhs => rw [← ex]
    exact View.read_slice_write_emb _ _ _ (Finset.mem_univ y)

/-- A ring at rest: its buffer at any contents, its semaphores at zero. -/
def Idle : sProp 𝕄 :=
  iprop((∃ f, A.view.loc (c.tc : Thread nD τ) ↦{fullShare} f)
    ∗ (bigSep Finset.univ fun s : Fin 6 => semVal (c.tc, .dma (semM σ hq1 s)) 0))

/-- The share of the source each slot has. -/
abbrev dl (s : Fin 6) : PosShare TreeShare := dealOf fullShare Finset.univ s

theorem held_start (s : Fin 6) : held 0 0 s = none := by
  unfold held; rw [if_neg (Nat.not_lt_zero _)]

theorem held_end (s : Fin 6) : held 16 16 s = none := by
  unfold held; rw [if_neg (by omega)]

/-- The elements of slot `b`. -/
abbrev slotI (b : Fin 6) : Finset (Idx (A.view.loc (c.tc : Thread nD τ))) := (slotM A hq b).view.set

theorem slot_disjoint (b b' : Fin 6) (h : b ≠ b') : Disjoint (slotI (τ := τ) A hq c b) (slotI A hq c b') := by
  unfold slotI
  rw [slot_set, slot_set]
  refine View.disjoint_setOn _ (Finset.disjoint_left.mpr fun x hx hx' => h ?_)
  have e := (Rect.mem_set_unit.mp hx) 0
  have e' := (Rect.mem_set_unit.mp hx') 0
  have e1 : b.val ≤ (x 0).val ∧ (x 0).val < b.val + 1 := e
  have e2 : b'.val ≤ (x 0).val ∧ (x 0).val < b'.val + 1 := e'
  exact Fin.ext (by omega)

theorem slot_cover (hA : A.IsWhole) :
    Finset.univ.biUnion (slotI (τ := τ) A hq c) = Finset.univ := by
  refine Finset.eq_univ_of_forall fun z => ?_
  have hz : z ∈ A.view.set := by rw [hA.set_eq_univ]; exact Finset.mem_univ z
  obtain ⟨x, -, rfl⟩ := Finset.mem_map.mp hz
  obtain ⟨b, hb⟩ : ∃ b : Fin 6, b.val = (x 0).val := ⟨⟨(x 0).val, (x 0).isLt⟩, rfl⟩
  refine Finset.mem_biUnion.mpr ⟨b, Finset.mem_univ _, ?_⟩
  unfold slotI
  rw [slot_set]
  refine Finset.mem_map_of_mem _ ?_
  refine Rect.mem_set_unit.mpr fun a => ?_
  match a with
  | ⟨0, _⟩ => exact (⟨hb.le, by omega⟩ : b.val ≤ (x 0).val ∧ (x 0).val < b.val + 1)
  | ⟨1, _⟩ => exact (⟨Nat.zero_le _, (x 1).isLt.trans_eq (Nat.zero_add _).symm⟩ : 0 ≤ (x 1).val ∧ (x 1).val < 0 + r)
  | ⟨2, _⟩ => exact (⟨Nat.zero_le _, (x 2).isLt.trans_eq (Nat.zero_add _).symm⟩ : 0 ≤ (x 2).val ∧ (x 2).val < 0 + C)

theorem slots_free_eq {i j : ℕ} (h : ∀ s, held i j s = none) :
    (bigSep Finset.univ fun s : Fin 6 => slot (U := U) (τ := τ) A σ B hq hq1 c fs dl s (held i j s))
      = iprop((bigSep Finset.univ fun s : Fin 6 =>
            iprop(∃ f, A.view.loc (c.tc : Thread nD τ) ↦[(slotM A hq s).view.set]{fullShare} f))
          ∗ (B.view.loc c.tc ↦{fullShare} fs)
          ∗ (bigSep Finset.univ fun s : Fin 6 => semVal (c.tc, .dma (semM σ hq1 s)) 0)) := by
  rw [pointsTo_deal (Finset.univ : Finset (Fin 6)) ⟨0, Finset.mem_univ _⟩ fullShare,
    ← BI.bigSep_sep', ← BI.bigSep_sep']
  refine BI.bigSep_congr fun s _ => ?_
  rw [h]
  rfl

theorem slots_some (f : Buf (Elt F) (A.view.loc (c.tc : Thread nD τ))) :
    (bigSep Finset.univ fun s : Fin 6 => (A.view.loc (c.tc : Thread nD τ) ↦[slotI A hq c s]{fullShare} f : sProp 𝕄))
      ⊢ (bigSep Finset.univ fun s : Fin 6 => (iprop(∃ f, A.view.loc (c.tc : Thread nD τ) ↦[slotI A hq c s]{fullShare} f) : sProp 𝕄)) :=
  BI.bigSep_mono fun s _ => by
    show (A.view.loc (c.tc : Thread nD τ) ↦[slotI A hq c s]{fullShare} f : sProp 𝕄) ⊢ iprop(∃ f, A.view.loc (c.tc : Thread nD τ) ↦[slotI A hq c s]{fullShare} f)
    iintro H; iexists f; iexact H

/-- Starting a stream. -/
theorem St_start (hA : A.IsWhole) {R : sProp 𝕄} :
    iprop(R ∗ Idle A σ hq1 c ∗ (B.view.loc c.tc ↦{fullShare} fs) ∗ (∃ W, owes (c.tc : Thread nD τ) 0 W)
      ∗ (∃ g, D.view.loc (c.tc : Thread nD τ) ↦{fullShare} g))
      ⊢ St (U := U) A σ B D hq hq1 c fs dl R 0 0 0 := by
  unfold St
  rw [slots_free_eq A σ B hq hq1 c fs held_start]
  unfold Idle
  iintro ⟨HR, ⟨⟨%f, HA⟩, HS⟩, HB, HW, ⟨%g, HD⟩⟩
  isplitl [HR]; · iexact HR
  isplitl [HA HS HB]
  · isplitl [HA]
    · ihave HA2 := (Entails.of_eq (Ring.pointsTo_blocks (slotI A hq c) (slot_disjoint A hq c) (slot_cover A hq c hA) f)) $$ HA
      iapply (slots_some A hq c f) $$ HA2
    isplitl [HB] <;> iassumption
  isplitl [HW]; · iexact HW
  iexists g
  isplitr
  · ipureintro; intro x hx; exact absurd hx (by omega)
  · iexact HD

/-- Ending a stream: the matrix is stored, rounded. -/
theorem St_finish (hA : A.IsWhole) (hn : r * 16 = n) {R : sProp 𝕄} :
    St (U := U) A σ B D hq hq1 c fs dl R 16 16 16
      ⊢ iprop(R ∗ Idle A σ hq1 c ∗ (B.view.loc c.tc ↦{fullShare} fs) ∗ (∃ W, owes (c.tc : Thread nD τ) 0 W)
        ∗ (∃ g, ⌜∀ x : (Mat n C).Idx, D.view.read (Elt F) g x = FloatOps.truncf .bf16 (by decide) (B.view.read (Elt F) fs x)⌝
          ∗ D.view.loc (c.tc : Thread nD τ) ↦{fullShare} g)) := by
  unfold St
  rw [slots_free_eq A σ B hq hq1 c fs held_end]
  unfold Idle
  iintro ⟨HR, ⟨HA, HB, HS⟩, HW, ⟨%g, %hg, HD⟩⟩
  isplitl [HR]; · iexact HR
  isplitl [HA HS]
  · isplitl [HA]
    · iapply (Ring.pointsTo_blocks_join_exists (slotI A hq c) (slot_disjoint A hq c) (slot_cover A hq c hA)
        (Classical.arbitrary _)) $$ HA
    · iexact HS
  isplitl [HB]; · iexact HB
  isplitl [HW]; · iexact HW
  iexists g
  isplitr
  · ipureintro; intro x; exact hg x (by rw [hn]; exact (x 0).isLt)
  · iexact HD

theorem owns_whole {sp : Space} {s : Shape} {e : EltTy} {m : Memref sig .tc sp s e} (h : m.IsWhole) (X : s.Idx → Elt F e) :
    (owns (c.tc : Thread nD τ) m fullShare X : sProp 𝕄)
      = iprop(∃ f, ⌜m.view.read (Elt F) f = X⌝ ∗ (m.view.loc (c.tc : Thread nD τ) ↦{fullShare} f)) := by
  unfold owns
  rw [h.set_eq_univ]

/-- Loading from a buffer whose contents are known. -/
theorem own_load {cs : CoreSpace} {s : Shape} {e : EltTy} {m : Memref sig .tc cs s e} {r : Rect s} {hl : m.view.LoadsAt r.toLoadRect}
    {k : (r.shape.Idx → Elt F e) → Prog (TpuEff nD τ sig (Elt F) Λ₀ .tc) α} {X : s.Idx → Elt F e} {Q : α → sProp 𝕄} (hm : m.IsWhole) :
    (owns (c.tc : Thread nD τ) m fullShare X : sProp 𝕄)
      ⊢ iprop((owns (c.tc : Thread nD τ) m fullShare X -∗ wp frame (wpE defs 𝒱 c.tc none) Set.univ (k (fun j => X (r.emb j))) Q)
        -∗ wp frame (wpE defs 𝒱 c.tc none) Set.univ (.op (.load m r.toLoadRect hl) k) Q) := by
  rw [owns_whole c hm]
  iintro ⟨%f, %hf, H⟩ Hk
  subst hf
  iapply (wp_load 𝒱 c.tc none Set.univ (m := m) (S := Finset.univ) (Finset.subset_univ _)) $$ H
  iintro H
  iapply Hk
  iexists f
  isplitr
  · ipureintro; rfl
  · iexact H

/-- Storing over the whole of a buffer. -/
theorem own_store {cs : CoreSpace} {s : Shape} {e : EltTy} {m : Memref sig .tc cs s e} {off : Fin s.rank → ℕ}
    {inb : ∀ a, off a + s.size a ≤ s.size a} {w : s.Idx → Elt F e}
    {hx : (m.access (Rect.unit (s := s) off s.size inb)).Stores Finset.univ}
    {hw : (Finset.univ : Finset (Rect.unit (s := s) off s.size inb).shape.Idx) = Finset.univ ∨ ∀ a, (Rect.unit (s := s) off s.size inb).stride a = 1}
    {k : PUnit → Prog (TpuEff nD τ sig (Elt F) Λ₀ .tc) α} {X : s.Idx → Elt F e} {Q : α → sProp 𝕄} (hm : m.IsWhole)
    (hz : ∀ a, off a = 0) :
    (owns (c.tc : Thread nD τ) m fullShare X : sProp 𝕄)
      ⊢ iprop((owns (c.tc : Thread nD τ) m fullShare w -∗ wp frame (wpE defs 𝒱 c.tc none) Set.univ (k ⟨⟩) Q)
        -∗ wp frame (wpE defs 𝒱 c.tc none) Set.univ (.op (.store m (Rect.unit (s := s) off s.size inb) w Finset.univ hx hw) k) Q) := by
  rw [owns_whole c hm, owns_whole c hm]
  iintro ⟨%f, %hf, H⟩ Hk
  iapply (wp_store 𝒱 c.tc none Set.univ (m := m) (S := Finset.univ) (Finset.subset_univ _)) $$ [H]
  · iexact H
  iintro H
  iapply Hk
  iexists _
  isplitr
  rotate_left
  · iexact H
  ipureintro
  funext x
  have e : (Rect.unit (s := s) off s.size inb).emb x = x := by
    funext a; exact Fin.ext (by show off a + 1 * (x a).val = (x a).val; rw [hz a]; omega)
  conv_lhs => rw [← e]
  exact View.read_slice_write_emb _ _ _ (Finset.mem_univ x)

/-- Starting a stream into a buffer of any contents. -/
theorem St_start' (hA : A.IsWhole) (hD : D.IsWhole) {R : sProp 𝕄} {X : (Mat n C).Idx → Elt F .bf16} :
    iprop(R ∗ Idle A σ hq1 c ∗ (B.view.loc c.tc ↦{fullShare} fs) ∗ (∃ W, owes (c.tc : Thread nD τ) 0 W)
      ∗ owns (c.tc : Thread nD τ) D fullShare X)
      ⊢ St (U := U) A σ B D hq hq1 c fs dl R 0 0 0 := by
  refine .trans ?_ (St_start A σ B D hq hq1 c fs hA)
  rw [owns_whole c hD]
  iintro ⟨HR, HI, HB, HW, ⟨%g, %hg, HD⟩⟩
  isplitl [HR]; · iexact HR
  isplitl [HI]; · iexact HI
  isplitl [HB]; · iexact HB
  isplitl [HW]; · iexact HW
  iexists g; iexact HD

/-- Ending a stream: the buffer holds the matrix, rounded. -/
theorem St_finish' (hA : A.IsWhole) (hD : D.IsWhole) (hn : r * 16 = n) {R : sProp 𝕄} :
    St (U := U) A σ B D hq hq1 c fs dl R 16 16 16
      ⊢ iprop(R ∗ Idle A σ hq1 c ∗ (B.view.loc c.tc ↦{fullShare} fs) ∗ (∃ W, owes (c.tc : Thread nD τ) 0 W)
        ∗ owns (c.tc : Thread nD τ) D fullShare (fun x => FloatOps.truncf .bf16 (by decide) (B.view.read (Elt F) fs x))) := by
  refine (St_finish A σ B D hq hq1 c fs hA hn).trans ?_
  rw [owns_whole c hD]
  iintro ⟨HR, HI, HB, HW, ⟨%g, %hg, HD⟩⟩
  isplitl [HR]; · iexact HR
  isplitl [HI]; · iexact HI
  isplitl [HB]; · iexact HB
  isplitl [HW]; · iexact HW
  iexists g
  isplitr
  · ipureintro; exact funext hg
  · iexact HD

end Cert.GmmStep
-- ==== Proof.GmmRun.lean ====
module

public import proofs.«01_k».proof.Proof.GmmStep
public import proofs.«01_k».proof.Proof.Gen.Kernel2Ideal.Skeleton

@[expose] public section

set_option maxRecDepth 65536

noncomputable section

namespace Cert.Kernel2Ideal.Gmm

open Cert.Kernel2Ideal Cert.Kernel2Ideal.Gen Idealize.ShloMosaic Idealize.ShloMosaic.TcCoe
open Idealize.SL
open Idealize.SL.RA Idealize.SL.Sem Idealize.SL.ProofMode
open Idealize.SL.BI (sProp bigSep)
open scoped Idealize.SL.BI
open Idealize.SL.BI.BIBase Idealize.SL.BI.Laws

variable {F : FTy → Type} [FloatOps F] {U : Type} [URA U] [CountersIn U]

local notation "𝕄" => MT nD τ sig Unit (Elt F) ℕ U ℕ

/-- The matrix of one expert in a stack of them. -/
abbrev blk3 (arg5 : Memref sig .tc .hbm S2x8x1024x3584 .f32) (v4 : BitVec 32)
    (h : ∀ a, (k0_off3 v4) a + S1x1x1024x3584.size a ≤ S2x8x1024x3584.size a) : Memref sig .tc .hbm S1024x3584 .f32 :=
  (arg5.slice (Rect.unit (s := S2x8x1024x3584) (k0_off3 v4) S1x1x1024x3584.size h) (fun _ => rfl)).squeeze S1024x3584 squeezes_S1x1x1024x3584_S1024x3584

/-- The down projection's matrix of one expert. -/
abbrev blk4 (arg7 : Memref sig .tc .hbm S2x8x3584x1024 .f32) (v4 : BitVec 32)
    (h : ∀ a, (k0_off4 v4) a + S1x1x3584x1024.size a ≤ S2x8x3584x1024.size a) : Memref sig .tc .hbm S3584x1024 .f32 :=
  (arg7.slice (Rect.unit (s := S2x8x3584x1024) (k0_off4 v4) S1x1x3584x1024.size h) (fun _ => rfl)).squeeze S3584x1024 squeezes_S1x1x3584x1024_S3584x1024

/-- One expert's matrix, rounded. -/
abbrev cut3 (arg5 : Memref sig .tc .hbm S2x8x1024x3584 .f32) (v4 : BitVec 32)
    (h : ∀ a, (k0_off3 v4) a + S1x1x1024x3584.size a ≤ S2x8x1024x3584.size a) (c : Dev nD)
    (w : Buf (Elt F) (arg5.view.loc (c.tc : Thread nD τ))) : S1024x3584.Idx → Elt F .bf16 :=
  fun x => FloatOps.truncf .bf16 (by decide) ((blk3 arg5 v4 h).view.read (Elt F) w x)

/-- One expert's down projection, rounded. -/
abbrev cut4 (arg7 : Memref sig .tc .hbm S2x8x3584x1024 .f32) (v4 : BitVec 32)
    (h : ∀ a, (k0_off4 v4) a + S1x1x3584x1024.size a ≤ S2x8x3584x1024.size a) (c : Dev nD)
    (w : Buf (Elt F) (arg7.view.loc (c.tc : Thread nD τ))) : S3584x1024.Idx → Elt F .bf16 :=
  fun x => FloatOps.truncf .bf16 (by decide) ((blk4 arg7 v4 h).view.read (Elt F) w x)

/-- What is said of the three weight buffers' contents. -/
abbrev Said (F : FTy → Type) [FloatOps F] : Type :=
  (S1024x3584.Idx → Elt F .bf16) → (S1024x3584.Idx → Elt F .bf16) → (S3584x1024.Idx → Elt F .bf16) → Prop

section

variable (i : grid0.Coords) (arg1 : Memref sig .tc .smem S178 .i32) (harg1 : arg1.IsWhole) (arg2 : Memref sig .tc .smem S178 .i32) (harg2 : arg2.IsWhole) (arg3 : Memref sig .tc .vmem S256x1024 .bf16) (harg3 : arg3.IsWhole) (arg4 : Memref sig .tc .vmem S256x128 .f32) (harg4 : arg4.IsWhole) (arg5 : Memref sig .tc .hbm S2x8x1024x3584 .f32) (harg5 : arg5.IsWhole) (arg6 : Memref sig .tc .hbm S2x8x1024x3584 .f32) (harg6 : arg6.IsWhole) (arg7 : Memref sig .tc .hbm S2x8x3584x1024 .f32) (harg7 : arg7.IsWhole) (arg8 : Memref sig .tc .vmem S256x1024 .bf16) (harg8 : arg8.IsWhole) (arg9 : Memref sig .tc .vmem S1024x3584 .bf16) (harg9 : arg9.IsWhole) (arg10 : Memref sig .tc .vmem S1024x3584 .bf16) (harg10 : arg10.IsWhole) (arg11 : Memref sig .tc .vmem S3584x1024 .bf16) (harg11 : arg11.IsWhole) (alloca_r0 : Memref sig .tc .vmem S6x64x3584 .f32) (halloca_r0 : alloca_r0.IsWhole) (v20_r0 : DmaSems sig S6) (alloca_r1 : Memref sig .tc .vmem S6x64x3584 .f32) (halloca_r1 : alloca_r1.IsWhole) (v20_r1 : DmaSems sig S6) (alloca_r2 : Memref sig .tc .vmem S6x224x1024 .f32) (halloca_r2 : alloca_r2.IsWhole) (v20_r2 : DmaSems sig S6)
variable {v1 v4 v9 : BitVec 32}

/-- The three weight buffers, of contents of which `S` is said. -/
def scr (c : Dev nD) (S : Said F) : sProp 𝕄 :=
  iprop(∃ x y z, ⌜S x y z⌝ ∗ owns (c.tc : Thread nD τ) arg9 fullShare x ∗ owns (c.tc : Thread nD τ) arg10 fullShare y
    ∗ owns (c.tc : Thread nD τ) arg11 fullShare z)

/-- The three rings at rest. -/
def idles (c : Dev nD) : sProp 𝕄 :=
  iprop(GmmStep.Idle alloca_r0 v20_r0 squeezes_S1_S_ c ∗ GmmStep.Idle alloca_r1 v20_r1 squeezes_S1_S_ c
    ∗ GmmStep.Idle alloca_r2 v20_r2 squeezes_S1_S_ c)

/-- The three stacks of weights. -/
def wts (c : Dev nD) (w5 : Buf (Elt F) (arg5.view.loc (c.tc : Thread nD τ)))
    (w6 : Buf (Elt F) (arg6.view.loc (c.tc : Thread nD τ)))
    (w7 : Buf (Elt F) (arg7.view.loc (c.tc : Thread nD τ))) : sProp 𝕄 :=
  iprop((arg5.view.loc (c.tc : Thread nD τ) ↦{fullShare} w5) ∗ (arg6.view.loc (c.tc : Thread nD τ) ↦{fullShare} w6)
    ∗ (arg7.view.loc (c.tc : Thread nD τ) ↦{fullShare} w7))

/-- What the streams work on. -/
def Work (c : Dev nD) (w5 : Buf (Elt F) (arg5.view.loc (c.tc : Thread nD τ)))
    (w6 : Buf (Elt F) (arg6.view.loc (c.tc : Thread nD τ)))
    (w7 : Buf (Elt F) (arg7.view.loc (c.tc : Thread nD τ))) (S : Said F) : sProp 𝕄 :=
  iprop(idles alloca_r0 v20_r0 alloca_r1 v20_r1 alloca_r2 v20_r2 c ∗ wts arg5 arg6 arg7 c w5 w6 w7
    ∗ (∃ W, owes (c.tc : Thread nD τ) 0 W) ∗ scr arg9 arg10 arg11 c S)

include harg9 harg10 harg11 halloca_r0 halloca_r1 halloca_r2 in
set_option maxHeartbeats 400000 in
/-- The streams' branch: it leaves the three buffers holding the expert's matrices. -/
theorem branch {defs : Defs nD τ sig (Elt F) Λ₀} {𝒱 : Variants} (c : Dev nD)
    (w5 : Buf (Elt F) (arg5.view.loc (c.tc : Thread nD τ)))
    (w6 : Buf (Elt F) (arg6.view.loc (c.tc : Thread nD τ)))
    (w7 : Buf (Elt F) (arg7.view.loc (c.tc : Thread nD τ))) (h3) (h4)
    {R : sProp 𝕄} {S S' : Said F} (hS : S' (cut3 arg5 v4 h3 c w5) (cut3 arg6 v4 h3 c w6) (cut4 arg7 v4 h4 c w7))
    {Q : PUnit → sProp 𝕄} {X : sProp 𝕄} {prog : Prog (TpuEff nD τ sig (Elt F) Λ₀ .tc) PUnit}
    (hp : ∀ (P R1 R2 R3 : sProp 𝕄)
      (e0 : P ⊢ GmmStep.St alloca_r0 v20_r0 (blk3 arg5 v4 h3) arg9 squeezes_S1x64x3584_S64x3584 squeezes_S1_S_ c w5 GmmStep.dl R1 0 0 0)
      (e1 : GmmStep.St alloca_r0 v20_r0 (blk3 arg5 v4 h3) arg9 squeezes_S1x64x3584_S64x3584 squeezes_S1_S_ c w5 GmmStep.dl R1 16 16 16
        ⊢ GmmStep.St alloca_r1 v20_r1 (blk3 arg6 v4 h3) arg10 squeezes_S1x64x3584_S64x3584 squeezes_S1_S_ c w6 GmmStep.dl R2 0 0 0)
      (e2 : GmmStep.St alloca_r1 v20_r1 (blk3 arg6 v4 h3) arg10 squeezes_S1x64x3584_S64x3584 squeezes_S1_S_ c w6 GmmStep.dl R2 16 16 16
        ⊢ GmmStep.St alloca_r2 v20_r2 (blk4 arg7 v4 h4) arg11 squeezes_S1x224x1024_S224x1024 squeezes_S1_S_ c w7 GmmStep.dl R3 0 0 0)
      (e3 : GmmStep.St alloca_r2 v20_r2 (blk4 arg7 v4 h4) arg11 squeezes_S1x224x1024_S224x1024 squeezes_S1_S_ c w7 GmmStep.dl R3 16 16 16 ⊢ X),
      P ⊢ wp frame (wpE defs 𝒱 c.tc none) Set.univ prog Q)
    (hQ : iprop(R ∗ Work arg5 arg6 arg7 arg9 arg10 arg11 alloca_r0 v20_r0 alloca_r1 v20_r1 alloca_r2 v20_r2 c w5 w6 w7 S') ⊢ X) :
    iprop(R ∗ Work arg5 arg6 arg7 arg9 arg10 arg11 alloca_r0 v20_r0 alloca_r1 v20_r1 alloca_r2 v20_r2 c w5 w6 w7 S)
      ⊢ wp frame (wpE defs 𝒱 c.tc none) Set.univ prog Q := by
  refine hp _
    iprop(R ∗ GmmStep.Idle alloca_r1 v20_r1 squeezes_S1_S_ c ∗ GmmStep.Idle alloca_r2 v20_r2 squeezes_S1_S_ c
      ∗ (arg6.view.loc (c.tc : Thread nD τ) ↦{fullShare} w6) ∗ (arg7.view.loc (c.tc : Thread nD τ) ↦{fullShare} w7)
      ∗ (∃ y, owns (c.tc : Thread nD τ) arg10 fullShare y) ∗ (∃ z, owns (c.tc : Thread nD τ) arg11 fullShare z))
    iprop(R ∗ GmmStep.Idle alloca_r0 v20_r0 squeezes_S1_S_ c ∗ GmmStep.Idle alloca_r2 v20_r2 squeezes_S1_S_ c
      ∗ (arg5.view.loc (c.tc : Thread nD τ) ↦{fullShare} w5) ∗ (arg7.view.loc (c.tc : Thread nD τ) ↦{fullShare} w7)
      ∗ (owns (c.tc : Thread nD τ) arg9 fullShare (cut3 arg5 v4 h3 c w5)) ∗ (∃ z, owns (c.tc : Thread nD τ) arg11 fullShare z))
    iprop(R ∗ GmmStep.Idle alloca_r0 v20_r0 squeezes_S1_S_ c ∗ GmmStep.Idle alloca_r1 v20_r1 squeezes_S1_S_ c
      ∗ (arg5.view.loc (c.tc : Thread nD τ) ↦{fullShare} w5) ∗ (arg6.view.loc (c.tc : Thread nD τ) ↦{fullShare} w6)
      ∗ (owns (c.tc : Thread nD τ) arg9 fullShare (cut3 arg5 v4 h3 c w5)) ∗ (owns (c.tc : Thread nD τ) arg10 fullShare (cut3 arg6 v4 h3 c w6)))
    ?_ ?_ ?_ ?_
  · unfold Work idles wts scr
    iintro ⟨HR, ⟨I0, I1, I2⟩, ⟨H5, H6, H7⟩, HW, ⟨%x, %y, %z, %hs, H9, H10, H11⟩⟩
    iapply (GmmStep.St_start' alloca_r0 v20_r0 (blk3 arg5 v4 h3) arg9 _ _ c w5 halloca_r0 harg9 (X := x))
    isplitr [I0 H5 HW H9]
    · isplitl [HR]; · iexact HR
      isplitl [I1]; · iexact I1
      isplitl [I2]; · iexact I2
      isplitl [H6]; · iexact H6
      isplitl [H7]; · iexact H7
      isplitl [H10]
      · iexists y; iexact H10
      · iexists z; iexact H11
    isplitl [I0]; · iexact I0
    isplitl [H5]; · iexact H5
    isplitl [HW]; · iexact HW
    iexact H9
  · refine (GmmStep.St_finish' alloca_r0 v20_r0 (blk3 arg5 v4 h3) arg9 _ _ c w5 halloca_r0 harg9 (by decide)).trans ?_
    iintro ⟨⟨HR, I1, I2, H6, H7, ⟨%y, H10⟩, H11⟩, I0, H5, HW, H9⟩
    iapply (GmmStep.St_start' alloca_r1 v20_r1 (blk3 arg6 v4 h3) arg10 _ _ c w6 halloca_r1 harg10 (X := y))
    isplitr [I1 H6 HW H10]
    · isplitl [HR]; · iexact HR
      isplitl [I0]; · iexact I0
      isplitl [I2]; · iexact I2
      isplitl [H5]; · iexact H5
      isplitl [H7]; · iexact H7
      isplitl [H9]; · iexact H9
      iexact H11
    isplitl [I1]; · iexact I1
    isplitl [H6]; · iexact H6
    isplitl [HW]; · iexact HW
    iexact H10
  · refine (GmmStep.St_finish' alloca_r1 v20_r1 (blk3 arg6 v4 h3) arg10 _ _ c w6 halloca_r1 harg10 (by decide)).trans ?_
    iintro ⟨⟨HR, I0, I2, H5, H7, H9, ⟨%z, H11⟩⟩, I1, H6, HW, H10⟩
    iapply (GmmStep.St_start' alloca_r2 v20_r2 (blk4 arg7 v4 h4) arg11 _ _ c w7 halloca_r2 harg11 (X := z))
    isplitr [I2 H7 HW H11]
    · isplitl [HR]; · iexact HR
      isplitl [I0]; · iexact I0
      isplitl [I1]; · iexact I1
      isplitl [H5]; · iexact H5
      isplitl [H6]; · iexact H6
      isplitl [H9]; · iexact H9
      iexact H10
    isplitl [I2]; · iexact I2
    isplitl [H7]; · iexact H7
    isplitl [HW]; · iexact HW
    iexact H11
  · refine (GmmStep.St_finish' alloca_r2 v20_r2 (blk4 arg7 v4 h4) arg11 _ _ c w7 halloca_r2 harg11 (by decide)).trans (.trans ?_ hQ)
    unfold Work idles wts scr
    iintro ⟨⟨HR, I0, I1, H5, H6, H9, H10⟩, I2, H7, HW, H11⟩
    isplitl [HR]; · iexact HR
    isplitl [I0 I1 I2]
    · isplitl [I0]; · iexact I0
      isplitl [I1]; · iexact I1
      iexact I2
    isplitl [H5 H6 H7]
    · isplitl [H5]; · iexact H5
      isplitl [H6]; · iexact H6
      iexact H7
    isplitl [HW]; · iexact HW
    iexists _, _, _
    isplitr
    rotate_left
    · isplitl [H9]; · iexact H9
      isplitl [H10]; · iexact H10
      iexact H11
    · ipureintro; exact hS

theorem cond3_iff : k0_cond3 v1 = 1#1 ↔ ¬ k0_cond2 v1 = 1#1 := by
  show Scalar.cmpi .ne (Scalar.extui (Scalar.xori (Scalar.cmpi .ne v1 0#32) 1#1) : BitVec 32) 0#32 = 1#1
    ↔ ¬ Scalar.cmpi .ne (Scalar.extui (Scalar.cmpi .ne v1 0#32) : BitVec 32) 0#32 = 1#1
  generalize Scalar.cmpi .ne v1 0#32 = b
  revert b
  decide

/-- The column of gates the body reads. -/
abbrev gate (x4 : S256x128.Idx → Elt F .f32) : Vec F S256x1 .f32 :=
  fun j => x4 ((Rect.unit (s := S256x128) ![0, 0] S256x1.size inb_S256x128_S256x1_0_0).emb j)

theorem emb_full {d : Fin 2 → ℕ} {inb : ∀ a, (![0, 0] : Fin 2 → ℕ) a + d a ≤ (⟨2, d⟩ : Shape).size a} (j : (⟨2, d⟩ : Shape).Idx) :
    (Rect.unit (s := ⟨2, d⟩) ![0, 0] d inb).emb j = j := by
  funext a
  match a with
  | ⟨0, _⟩ => exact Fin.ext (by show 0 + 1 * (j 0).val = (j 0).val; omega)
  | ⟨1, _⟩ => exact Fin.ext (by show 0 + 1 * (j 1).val = (j 1).val; omega)

include harg3 harg4 harg8 harg9 harg10 harg11 in
set_option maxHeartbeats 400000 in
/-- The rows' branches: the block is the expert's layer of its rows, or zero. -/
theorem rows {defs : Defs nD τ sig (Elt F) Λ₀} {𝒱 : Variants} (c : Dev nD) {S : Said F}
    (x3 : S256x1024.Idx → Elt F .bf16) (x4 : S256x128.Idx → Elt F .f32) (out : S256x1024.Idx → Elt F .bf16)
    (hpos : k0_cond2 v1 = 1#1 → ∀ x y z, S x y z → k0_pay2 x3 x y z (gate x4) = out)
    (hneg : ¬ k0_cond2 v1 = 1#1 → k0_pay3 = out)
    {R : sProp 𝕄} {Q : PUnit → sProp 𝕄}
    (hQ : iprop(R ∗ owns (c.tc : Thread nD τ) arg3 fullShare x3 ∗ owns (c.tc : Thread nD τ) arg4 fullShare x4
      ∗ owns (c.tc : Thread nD τ) arg8 fullShare out ∗ scr arg9 arg10 arg11 c S) ⊢ Q ⟨⟩) :
    iprop(R ∗ owns (c.tc : Thread nD τ) arg3 fullShare x3 ∗ owns (c.tc : Thread nD τ) arg4 fullShare x4
      ∗ (∃ y, owns (c.tc : Thread nD τ) arg8 fullShare y) ∗ scr arg9 arg10 arg11 c S)
    ⊢ wp frame (wpE defs 𝒱 c.tc none) Set.univ (do
      if k0_h2 : k0_cond2 v1 = 1#1 then do
        let v20 : Vec F S256x1024 .bf16 ← Prog.lift (.load arg3 (Rect.unit (s := S256x1024) ![0, 0] S256x1024.size inb_S256x1024_S256x1024_0_0).toLoadRect (View.loadsAt_vmem h_S256x1024))
        let v21 : Vec F S1024x3584 .bf16 ← Prog.lift (.load arg9 (Rect.unit (s := S1024x3584) ![0, 0] S1024x3584.size inb_S1024x3584_S1024x3584_0_0).toLoadRect (View.loadsAt_vmem h_S1024x3584))
        let v25 : Vec F S1024x3584 .bf16 ← Prog.lift (.load arg10 (Rect.unit (s := S1024x3584) ![0, 0] S1024x3584.size inb_S1024x3584_S1024x3584_0_0).toLoadRect (View.loadsAt_vmem h_S1024x3584))
        let v29 : Vec F S3584x1024 .bf16 ← Prog.lift (.load arg11 (Rect.unit (s := S3584x1024) ![0, 0] S3584x1024.size inb_S3584x1024_S3584x1024_0_0).toLoadRect (View.loadsAt_vmem h_S3584x1024))
        let v31 : Vec F S256x1 .f32 ← Prog.lift (.load arg4 (Rect.unit (s := S256x128) ![0, 0] S256x1.size inb_S256x128_S256x1_0_0).toLoadRect (View.loadsAt_vmem h_S256x1))
        let v35 : Vec F S256x1024 .bf16 ← Prog.lift (.load arg8 (Rect.unit (s := S256x1024) ![0, 0] S256x1024.size inb_S256x1024_S256x1024_0_0).toLoadRect (View.loadsAt_vmem h_S256x1024))
        Prog.lift (.store arg8 (Rect.unit (s := S256x1024) ![0, 0] S256x1024.size inb_S256x1024_S256x1024_0_0) (k0_pay2 v20 v21 v25 v29 v31) Finset.univ (View.stores_vmem h_S256x1024 (harg8.storeExact_slice rfl _ packedbf16_S256x1024_S256x1024_0_0) (fun _ => rfl)) (.inl rfl))
        pure ⟨⟩
      else do
        pure ⟨⟩
      if k0_h3 : k0_cond3 v1 = 1#1 then do
        let v21 : Vec F S256x1024 .bf16 ← Prog.lift (.load arg8 (Rect.unit (s := S256x1024) ![0, 0] S256x1024.size inb_S256x1024_S256x1024_0_0).toLoadRect (View.loadsAt_vmem h_S256x1024))
        Prog.lift (.store arg8 (Rect.unit (s := S256x1024) ![0, 0] S256x1024.size inb_S256x1024_S256x1024_0_0) (k0_pay3 (F := F)) Finset.univ (View.stores_vmem h_S256x1024 (harg8.storeExact_slice rfl _ packedbf16_S256x1024_S256x1024_0_0) (fun _ => rfl)) (.inl rfl))
        pure ⟨⟩
      else do
        pure ⟨⟩
      pure ⟨⟩) Q := by
  by_cases h2 : k0_cond2 v1 = 1#1
  · have h3 : ¬ k0_cond3 v1 = 1#1 := fun h => cond3_iff.mp h h2
    refine exec_dif_pos _ _ _ _ _ _ _ h2 ?_
    unfold scr
    iintro ⟨HR, H3, H4, ⟨%y, H8⟩, ⟨%a, %b, %d, %hs, H9, H10, H11⟩⟩
    iapply (GmmStep.own_load c harg3) $$ H3
    iintro H3
    iapply (GmmStep.own_load c harg9) $$ H9
    iintro H9
    iapply (GmmStep.own_load c harg10) $$ H10
    iintro H10
    iapply (GmmStep.own_load c harg11) $$ H11
    iintro H11
    iapply (GmmStep.own_load c harg4) $$ H4
    iintro H4
    iapply (GmmStep.own_load c harg8) $$ H8
    iintro H8
    simp only [emb_full]
    iapply (GmmStep.own_store c harg8 (by decide)) $$ H8
    iintro H8
    have hp := hpos h2 a b d hs
    subst hp
    iapply (exec_dif_neg _ _ _ _ _ _ _ h3 (hQ.trans (le_wp_ret _ _ _ _ _)))
    isplitl [HR]; · iexact HR
    isplitl [H3]; · iexact H3
    isplitl [H4]; · iexact H4
    isplitl [H8]; · iexact H8
    unfold scr
    iexists a, b, d
    isplitr
    · ipureintro; exact hs
    isplitl [H9]; · iexact H9
    isplitl [H10]; · iexact H10
    iexact H11
  · have h3 : k0_cond3 v1 = 1#1 := cond3_iff.mpr h2
    refine exec_dif_neg _ _ _ _ _ _ _ h2 ?_
    refine exec_dif_pos _ _ _ _ _ _ _ h3 ?_
    iintro ⟨HR, H3, H4, ⟨%y, H8⟩, HS⟩
    iapply (GmmStep.own_load c harg8) $$ H8
    iintro H8
    iapply (GmmStep.own_store c harg8 (by decide)) $$ H8
    iintro H8
    have hp := hneg h2
    subst hp
    iapply (hQ.trans (le_wp_ret _ _ _ _ _))
    isplitl [HR]; · iexact HR
    isplitl [H3]; · iexact H3
    isplitl [H4]; · iexact H4
    isplitl [H8]; · iexact H8
    iexact HS

theorem word {defs : Defs nD τ sig (Elt F) Λ₀} {𝒱 : Variants} (c : Dev nD) {s : Shape} {e : EltTy} {m : Memref sig .tc .smem s e}
    {r : Rect s} {h1 : r.shape.numel = 1} {hp : e.packing = 1} {q : PosShare TreeShare} {f : Buf (Elt F) (m.view.loc (c.tc : Thread nD τ))}
    {v : Elt F e} (hv : (m.access r).read (Elt F) f (Shape.Idx.first (h1.symm ▸ Nat.one_pos)) = v)
    {α : Type} {k : Elt F e → Prog (TpuEff nD τ sig (Elt F) Λ₀ .tc) α} {R : sProp 𝕄} {Q : α → sProp 𝕄}
    (h : iprop((m.view.loc (c.tc : Thread nD τ) ↦{q} f) ∗ R) ⊢ wp frame (wpE defs 𝒱 c.tc none) Set.univ (k v) Q) :
    iprop((m.view.loc (c.tc : Thread nD τ) ↦{q} f) ∗ R) ⊢ wp frame (wpE defs 𝒱 c.tc none) Set.univ (smemLoad m r h1 hp >>= k) Q := by
  subst hv
  iintro ⟨H, HR⟩
  iapply (wp_smemLoadElt 𝒱 c.tc none Set.univ (m := m) (r := r) (hw := View.loads_smem_one hp h1)
    (x := Shape.Idx.first (h1.symm ▸ Nat.one_pos)) (k := k) (S := Finset.univ) (Finset.subset_univ _)) $$ [H]
  · iexact H
  iintro H
  iapply h
  isplitl [H]; · iexact H
  iexact HR

end

end Cert.Kernel2Ideal.Gmm
-- ==== Proof.GmmBody.lean ====
module

public import proofs.«01_k».proof.Proof.GmmRun

@[expose] public section

set_option maxRecDepth 65536

noncomputable section

namespace Cert.Kernel2Ideal.Gmm

open Cert.Kernel2Ideal Cert.Kernel2Ideal.Gen Idealize.ShloMosaic Idealize.ShloMosaic.TcCoe
open Idealize.SL
open Idealize.SL.RA Idealize.SL.Sem Idealize.SL.ProofMode
open Idealize.SL.BI (sProp bigSep)
open scoped Idealize.SL.BI
open Idealize.SL.BI.BIBase Idealize.SL.BI.Laws

variable {F : FTy → Type} [FloatOps F] {U : Type} [URA U] [CountersIn U]

local notation "𝕄" => MT nD τ sig Unit (Elt F) ℕ U ℕ

section

variable (i : grid0.Coords) (arg1 : Memref sig .tc .smem S178 .i32) (harg1 : arg1.IsWhole) (arg2 : Memref sig .tc .smem S178 .i32) (harg2 : arg2.IsWhole) (arg3 : Memref sig .tc .vmem S256x1024 .bf16) (harg3 : arg3.IsWhole) (arg4 : Memref sig .tc .vmem S256x128 .f32) (harg4 : arg4.IsWhole) (arg5 : Memref sig .tc .hbm S2x8x1024x3584 .f32) (harg5 : arg5.IsWhole) (arg6 : Memref sig .tc .hbm S2x8x1024x3584 .f32) (harg6 : arg6.IsWhole) (arg7 : Memref sig .tc .hbm S2x8x3584x1024 .f32) (harg7 : arg7.IsWhole) (arg8 : Memref sig .tc .vmem S256x1024 .bf16) (harg8 : arg8.IsWhole) (arg9 : Memref sig .tc .vmem S1024x3584 .bf16) (harg9 : arg9.IsWhole) (arg10 : Memref sig .tc .vmem S1024x3584 .bf16) (harg10 : arg10.IsWhole) (arg11 : Memref sig .tc .vmem S3584x1024 .bf16) (harg11 : arg11.IsWhole) (alloca_r0 : Memref sig .tc .vmem S6x64x3584 .f32) (halloca_r0 : alloca_r0.IsWhole) (v20_r0 : DmaSems sig S6) (alloca_r1 : Memref sig .tc .vmem S6x64x3584 .f32) (halloca_r1 : alloca_r1.IsWhole) (v20_r1 : DmaSems sig S6) (alloca_r2 : Memref sig .tc .vmem S6x224x1024 .f32) (halloca_r2 : alloca_r2.IsWhole) (v20_r2 : DmaSems sig S6)
variable {v1 v4 v9 : BitVec 32}

set_option maxHeartbeats 400000 in
/-- The body at one tile. -/
theorem body {defs : Defs nD τ sig (Elt F) Λ₀} {𝒱 : Variants} (c : Dev nD)
    (w5 : Buf (Elt F) (arg5.view.loc (c.tc : Thread nD τ)))
    (w6 : Buf (Elt F) (arg6.view.loc (c.tc : Thread nD τ)))
    (w7 : Buf (Elt F) (arg7.view.loc (c.tc : Thread nD τ))) {S S' : Said F}
    (x3 : S256x1024.Idx → Elt F .bf16) (x4 : S256x128.Idx → Elt F .f32) (out : S256x1024.Idx → Elt F .bf16)
    {q1 q2 : PosShare TreeShare} {f1 : Buf (Elt F) (arg1.view.loc (c.tc : Thread nD τ))}
    {f2 : Buf (Elt F) (arg2.view.loc (c.tc : Thread nD τ))}
    (hv1 : (arg2.access (Rect.unit (s := S178) (k0_off1 i) S1.size (k0_off1_inb i))).read (Elt F) f2
      (Shape.Idx.first (numel1_S1.symm ▸ Nat.one_pos)) = v1)
    (hv4 : (arg1.access (Rect.unit (s := S178) (k0_off1 i) S1.size (k0_off1_inb i))).read (Elt F) f1
      (Shape.Idx.first (numel1_S1.symm ▸ Nat.one_pos)) = v4)
    (hv9 : (arg1.access (Rect.unit (s := S178) (k0_off2 i) S1.size (k0_off2_inb i))).read (Elt F) f1
      (Shape.Idx.first (numel1_S1.symm ▸ Nat.one_pos)) = v9)
    (hc : k0_chk1 i v1 v4 v9)
    (hload : k0_cond1 i v1 v4 v9 = 1#1 → ∀ h3 h4, S' (cut3 arg5 v4 h3 c w5) (cut3 arg6 v4 h3 c w6) (cut4 arg7 v4 h4 c w7))
    (hkeep : ¬ k0_cond1 i v1 v4 v9 = 1#1 → ∀ x y z, S x y z → S' x y z)
    (hpos : k0_cond2 v1 = 1#1 → ∀ x y z, S' x y z → k0_pay2 x3 x y z (gate x4) = out)
    (hneg : ¬ k0_cond2 v1 = 1#1 → k0_pay3 = out)
    {R : sProp 𝕄} {Q : PUnit → sProp 𝕄}
    (hQ : iprop((arg2.view.loc (c.tc : Thread nD τ) ↦{q2} f2) ∗ (arg1.view.loc (c.tc : Thread nD τ) ↦{q1} f1) ∗ R
      ∗ owns (c.tc : Thread nD τ) arg3 fullShare x3 ∗ owns (c.tc : Thread nD τ) arg4 fullShare x4
      ∗ owns (c.tc : Thread nD τ) arg8 fullShare out
      ∗ Work arg5 arg6 arg7 arg9 arg10 arg11 alloca_r0 v20_r0 alloca_r1 v20_r1 alloca_r2 v20_r2 c w5 w6 w7 S') ⊢ Q ⟨⟩) :
    iprop((arg2.view.loc (c.tc : Thread nD τ) ↦{q2} f2) ∗ (arg1.view.loc (c.tc : Thread nD τ) ↦{q1} f1) ∗ R
      ∗ owns (c.tc : Thread nD τ) arg3 fullShare x3 ∗ owns (c.tc : Thread nD τ) arg4 fullShare x4
      ∗ (∃ y, owns (c.tc : Thread nD τ) arg8 fullShare y)
      ∗ Work arg5 arg6 arg7 arg9 arg10 arg11 alloca_r0 v20_r0 alloca_r1 v20_r1 alloca_r2 v20_r2 c w5 w6 w7 S)
    ⊢ wp frame (wpE defs 𝒱 c.tc none) Set.univ (cc0_moe_gmm i arg1 harg1 arg2 harg2 arg3 harg3 arg4 harg4 arg5 harg5 arg6 harg6 arg7 harg7 arg8 harg8 arg9 harg9 arg10 harg10 arg11 harg11 alloca_r0 halloca_r0 v20_r0 alloca_r1 halloca_r1 v20_r1 alloca_r2 halloca_r2 v20_r2) Q := by
  rw [cc0_moe_gmm_eq_skeleton]; unfold cc0_moe_gmm_skel
  refine word c hv1 ?_
  refine .trans (by iintro ⟨H2, H1, H⟩; isplitl [H1]; · iexact H1
                    isplitl [H2]; · iexact H2
                    iexact H) (word c hv4 (word c hv9 ?_) : iprop((arg1.view.loc (c.tc : Thread nD τ) ↦{q1} f1)
      ∗ (arg2.view.loc (c.tc : Thread nD τ) ↦{q2} f2) ∗ R
      ∗ owns (c.tc : Thread nD τ) arg3 fullShare x3 ∗ owns (c.tc : Thread nD τ) arg4 fullShare x4
      ∗ (∃ y, owns (c.tc : Thread nD τ) arg8 fullShare y)
      ∗ Work arg5 arg6 arg7 arg9 arg10 arg11 alloca_r0 v20_r0 alloca_r1 v20_r1 alloca_r2 v20_r2 c w5 w6 w7 S) ⊢ _)
  refine exec_assume _ _ _ _ _ _ hc ?_
  have hrest : iprop((iprop((arg1.view.loc (c.tc : Thread nD τ) ↦{q1} f1)
      ∗ (arg2.view.loc (c.tc : Thread nD τ) ↦{q2} f2) ∗ R
      ∗ owns (c.tc : Thread nD τ) arg3 fullShare x3 ∗ owns (c.tc : Thread nD τ) arg4 fullShare x4
      ∗ (∃ y, owns (c.tc : Thread nD τ) arg8 fullShare y)))
      ∗ Work arg5 arg6 arg7 arg9 arg10 arg11 alloca_r0 v20_r0 alloca_r1 v20_r1 alloca_r2 v20_r2 c w5 w6 w7 S') ⊢ wp frame (wpE defs 𝒱 c.tc none) Set.univ (do
      if k0_h2 : k0_cond2 v1 = 1#1 then do
        let v20 : Vec F S256x1024 .bf16 ← Prog.lift (.load arg3 (Rect.unit (s := S256x1024) ![0, 0] S256x1024.size inb_S256x1024_S256x1024_0_0).toLoadRect (View.loadsAt_vmem h_S256x1024))
        let v21 : Vec F S1024x3584 .bf16 ← Prog.lift (.load arg9 (Rect.unit (s := S1024x3584) ![0, 0] S1024x3584.size inb_S1024x3584_S1024x3584_0_0).toLoadRect (View.loadsAt_vmem h_S1024x3584))
        let v25 : Vec F S1024x3584 .bf16 ← Prog.lift (.load arg10 (Rect.unit (s := S1024x3584) ![0, 0] S1024x3584.size inb_S1024x3584_S1024x3584_0_0).toLoadRect (View.loadsAt_vmem h_S1024x3584))
        let v29 : Vec F S3584x1024 .bf16 ← Prog.lift (.load arg11 (Rect.unit (s := S3584x1024) ![0, 0] S3584x1024.size inb_S3584x1024_S3584x1024_0_0).toLoadRect (View.loadsAt_vmem h_S3584x1024))
        let v31 : Vec F S256x1 .f32 ← Prog.lift (.load arg4 (Rect.unit (s := S256x128) ![0, 0] S256x1.size inb_S256x128_S256x1_0_0).toLoadRect (View.loadsAt_vmem h_S256x1))
        let v35 : Vec F S256x1024 .bf16 ← Prog.lift (.load arg8 (Rect.unit (s := S256x1024) ![0, 0] S256x1024.size inb_S256x1024_S256x1024_0_0).toLoadRect (View.loadsAt_vmem h_S256x1024))
        Prog.lift (.store arg8 (Rect.unit (s := S256x1024) ![0, 0] S256x1024.size inb_S256x1024_S256x1024_0_0) (k0_pay2 v20 v21 v25 v29 v31) Finset.univ (View.stores_vmem h_S256x1024 (harg8.storeExact_slice rfl _ packedbf16_S256x1024_S256x1024_0_0) (fun _ => rfl)) (.inl rfl))
        pure ⟨⟩
      else do
        pure ⟨⟩
      if k0_h3 : k0_cond3 v1 = 1#1 then do
        let v21 : Vec F S256x1024 .bf16 ← Prog.lift (.load arg8 (Rect.unit (s := S256x1024) ![0, 0] S256x1024.size inb_S256x1024_S256x1024_0_0).toLoadRect (View.loadsAt_vmem h_S256x1024))
        Prog.lift (.store arg8 (Rect.unit (s := S256x1024) ![0, 0] S256x1024.size inb_S256x1024_S256x1024_0_0) (k0_pay3 (F := F)) Finset.univ (View.stores_vmem h_S256x1024 (harg8.storeExact_slice rfl _ packedbf16_S256x1024_S256x1024_0_0) (fun _ => rfl)) (.inl rfl))
        pure ⟨⟩
      else do
        pure ⟨⟩
      pure ⟨⟩) Q := by
    refine .trans ?_ (rows arg3 harg3 arg4 harg4 arg8 harg8 arg9 harg9 arg10 harg10 arg11 harg11 c x3 x4 out hpos hneg
      (S := S') (R := iprop((arg1.view.loc (c.tc : Thread nD τ) ↦{q1} f1) ∗ (arg2.view.loc (c.tc : Thread nD τ) ↦{q2} f2) ∗ R
        ∗ idles alloca_r0 v20_r0 alloca_r1 v20_r1 alloca_r2 v20_r2 c ∗ wts arg5 arg6 arg7 c w5 w6 w7
        ∗ (∃ W, owes (c.tc : Thread nD τ) 0 W))) (.trans ?_ hQ))
    · unfold Work
      iintro ⟨⟨H1, H2, HR, H3, H4, H8⟩, HI, HW, HO, HS⟩
      isplitr [H3 H4 H8 HS]
      · isplitl [H1]; · iexact H1
        isplitl [H2]; · iexact H2
        isplitl [HR]; · iexact HR
        isplitl [HI]; · iexact HI
        isplitl [HW]; · iexact HW
        iexact HO
      isplitl [H3]; · iexact H3
      isplitl [H4]; · iexact H4
      isplitl [H8]; · iexact H8
      iexact HS
    · unfold Work
      iintro ⟨⟨H1, H2, HR, HI, HW, HO⟩, H3, H4, H8, HS⟩
      isplitl [H2]; · iexact H2
      isplitl [H1]; · iexact H1
      isplitl [HR]; · iexact HR
      isplitl [H3]; · iexact H3
      isplitl [H4]; · iexact H4
      isplitl [H8]; · iexact H8
      isplitl [HI]; · iexact HI
      isplitl [HW]; · iexact HW
      isplitl [HO]; · iexact HO
      iexact HS
  by_cases h1 : k0_cond1 i v1 v4 v9 = 1#1
  · refine exec_dif_pos _ _ _ _ _ _ _ h1 ?_
    refine .trans (?g1) (branch arg5 arg6 arg7 arg9 harg9 arg10 harg10 arg11 harg11 alloca_r0 halloca_r0 v20_r0 alloca_r1 halloca_r1 v20_r1 alloca_r2 halloca_r2 v20_r2
      c w5 w6 w7 (hc.1 h1) (hc.2 h1) (S := S) (hload h1 (hc.1 h1) (hc.2 h1))
      (fun P R1 R2 R3 e0 e1 e2 e3 => ?g2) hrest)
    case g1 =>
      iintro ⟨H1, H2, HR, H3, H4, H8, HK⟩
      isplitr [HK]
      · isplitl [H1]; · iexact H1
        isplitl [H2]; · iexact H2
        isplitl [HR]; · iexact HR
        isplitl [H3]; · iexact H3
        isplitl [H4]; · iexact H4
        iexact H8
      iexact HK
    case g2 =>
      refine e0.trans ?_
      refine GmmStep.issue (i := 0) (j := 0) _ _ _ _ _ _ _ _ _ (by decide) (by decide) (by decide) (by decide) ?_
      refine GmmStep.issue (i := 1) (j := 0) _ _ _ _ _ _ _ _ _ (by decide) (by decide) (by decide) (by decide) ?_
      refine GmmStep.issue (i := 2) (j := 0) _ _ _ _ _ _ _ _ _ (by decide) (by decide) (by decide) (by decide) ?_
      refine GmmStep.issue (i := 3) (j := 0) _ _ _ _ _ _ _ _ _ (by decide) (by decide) (by decide) (by decide) ?_
      refine GmmStep.issue (i := 4) (j := 0) _ _ _ _ _ _ _ _ _ (by decide) (by decide) (by decide) (by decide) ?_
      refine GmmStep.issue (i := 5) (j := 0) _ _ _ _ _ _ _ _ _ (by decide) (by decide) (by decide) (by decide) ?_
      refine GmmStep.wait (i := 6) (j := 0) _ _ _ _ _ _ _ _ _ (by decide) ?_
      refine GmmStep.load (i := 6) (j := 0) _ _ _ _ _ _ _ _ _ (by decide) (by decide) (fun v hv => ?_)
      refine GmmStep.peek (k := 0) _ _ _ _ _ _ _ _ _ (by decide) (fun _ => ?_)
      refine GmmStep.store (d := 0) _ _ _ _ _ _ _ _ _ (by decide) shapeCasts_S1x64x3584_S64x3584 shapeCasts_S64x3584_S64x3584 hv rfl ?_
      refine GmmStep.issue (i := 6) (j := 1) _ _ _ _ _ _ _ _ _ (by decide) (by decide) (by decide) (by decide) ?_
      refine GmmStep.wait (i := 7) (j := 1) _ _ _ _ _ _ _ _ _ (by decide) ?_
      refine GmmStep.load (i := 7) (j := 1) _ _ _ _ _ _ _ _ _ (by decide) (by decide) (fun v hv => ?_)
      refine GmmStep.peek (k := 1) _ _ _ _ _ _ _ _ _ (by decide) (fun _ => ?_)
      refine GmmStep.store (d := 1) _ _ _ _ _ _ _ _ _ (by decide) shapeCasts_S1x64x3584_S64x3584 shapeCasts_S64x3584_S64x3584 hv rfl ?_
      refine GmmStep.issue (i := 7) (j := 2) _ _ _ _ _ _ _ _ _ (by decide) (by decide) (by decide) (by decide) ?_
      refine GmmStep.wait (i := 8) (j := 2) _ _ _ _ _ _ _ _ _ (by decide) ?_
      refine GmmStep.load (i := 8) (j := 2) _ _ _ _ _ _ _ _ _ (by decide) (by decide) (fun v hv => ?_)
      refine GmmStep.peek (k := 2) _ _ _ _ _ _ _ _ _ (by decide) (fun _ => ?_)
      refine GmmStep.store (d := 2) _ _ _ _ _ _ _ _ _ (by decide) shapeCasts_S1x64x3584_S64x3584 shapeCasts_S64x3584_S64x3584 hv rfl ?_
      refine GmmStep.issue (i := 8) (j := 3) _ _ _ _ _ _ _ _ _ (by decide) (by decide) (by decide) (by decide) ?_
      refine GmmStep.wait (i := 9) (j := 3) _ _ _ _ _ _ _ _ _ (by decide) ?_
      refine GmmStep.load (i := 9) (j := 3) _ _ _ _ _ _ _ _ _ (by decide) (by decide) (fun v hv => ?_)
      refine GmmStep.peek (k := 3) _ _ _ _ _ _ _ _ _ (by decide) (fun _ => ?_)
      refine GmmStep.store (d := 3) _ _ _ _ _ _ _ _ _ (by decide) shapeCasts_S1x64x3584_S64x3584 shapeCasts_S64x3584_S64x3584 hv rfl ?_
      refine GmmStep.issue (i := 9) (j := 4) _ _ _ _ _ _ _ _ _ (by decide) (by decide) (by decide) (by decide) ?_
      refine GmmStep.wait (i := 10) (j := 4) _ _ _ _ _ _ _ _ _ (by decide) ?_
      refine GmmStep.load (i := 10) (j := 4) _ _ _ _ _ _ _ _ _ (by decide) (by decide) (fun v hv => ?_)
      refine GmmStep.peek (k := 4) _ _ _ _ _ _ _ _ _ (by decide) (fun _ => ?_)
      refine GmmStep.store (d := 4) _ _ _ _ _ _ _ _ _ (by decide) shapeCasts_S1x64x3584_S64x3584 shapeCasts_S64x3584_S64x3584 hv rfl ?_
      refine GmmStep.issue (i := 10) (j := 5) _ _ _ _ _ _ _ _ _ (by decide) (by decide) (by decide) (by decide) ?_
      refine GmmStep.wait (i := 11) (j := 5) _ _ _ _ _ _ _ _ _ (by decide) ?_
      refine GmmStep.load (i := 11) (j := 5) _ _ _ _ _ _ _ _ _ (by decide) (by decide) (fun v hv => ?_)
      refine GmmStep.peek (k := 5) _ _ _ _ _ _ _ _ _ (by decide) (fun _ => ?_)
      refine GmmStep.store (d := 5) _ _ _ _ _ _ _ _ _ (by decide) shapeCasts_S1x64x3584_S64x3584 shapeCasts_S64x3584_S64x3584 hv rfl ?_
      refine GmmStep.issue (i := 11) (j := 6) _ _ _ _ _ _ _ _ _ (by decide) (by decide) (by decide) (by decide) ?_
      refine GmmStep.wait (i := 12) (j := 6) _ _ _ _ _ _ _ _ _ (by decide) ?_
      refine GmmStep.load (i := 12) (j := 6) _ _ _ _ _ _ _ _ _ (by decide) (by decide) (fun v hv => ?_)
      refine GmmStep.peek (k := 6) _ _ _ _ _ _ _ _ _ (by decide) (fun _ => ?_)
      refine GmmStep.store (d := 6) _ _ _ _ _ _ _ _ _ (by decide) shapeCasts_S1x64x3584_S64x3584 shapeCasts_S64x3584_S64x3584 hv rfl ?_
      refine GmmStep.issue (i := 12) (j := 7) _ _ _ _ _ _ _ _ _ (by decide) (by decide) (by decide) (by decide) ?_
      refine GmmStep.wait (i := 13) (j := 7) _ _ _ _ _ _ _ _ _ (by decide) ?_
      refine GmmStep.load (i := 13) (j := 7) _ _ _ _ _ _ _ _ _ (by decide) (by decide) (fun v hv => ?_)
      refine GmmStep.peek (k := 7) _ _ _ _ _ _ _ _ _ (by decide) (fun _ => ?_)
      refine GmmStep.store (d := 7) _ _ _ _ _ _ _ _ _ (by decide) shapeCasts_S1x64x3584_S64x3584 shapeCasts_S64x3584_S64x3584 hv rfl ?_
      refine GmmStep.issue (i := 13) (j := 8) _ _ _ _ _ _ _ _ _ (by decide) (by decide) (by decide) (by decide) ?_
      refine GmmStep.wait (i := 14) (j := 8) _ _ _ _ _ _ _ _ _ (by decide) ?_
      refine GmmStep.load (i := 14) (j := 8) _ _ _ _ _ _ _ _ _ (by decide) (by decide) (fun v hv => ?_)
      refine GmmStep.peek (k := 8) _ _ _ _ _ _ _ _ _ (by decide) (fun _ => ?_)
      refine GmmStep.store (d := 8) _ _ _ _ _ _ _ _ _ (by decide) shapeCasts_S1x64x3584_S64x3584 shapeCasts_S64x3584_S64x3584 hv rfl ?_
      refine GmmStep.issue (i := 14) (j := 9) _ _ _ _ _ _ _ _ _ (by decide) (by decide) (by decide) (by decide) ?_
      refine GmmStep.wait (i := 15) (j := 9) _ _ _ _ _ _ _ _ _ (by decide) ?_
      refine GmmStep.load (i := 15) (j := 9) _ _ _ _ _ _ _ _ _ (by decide) (by decide) (fun v hv => ?_)
      refine GmmStep.peek (k := 9) _ _ _ _ _ _ _ _ _ (by decide) (fun _ => ?_)
      refine GmmStep.store (d := 9) _ _ _ _ _ _ _ _ _ (by decide) shapeCasts_S1x64x3584_S64x3584 shapeCasts_S64x3584_S64x3584 hv rfl ?_
      refine GmmStep.issue (i := 15) (j := 10) _ _ _ _ _ _ _ _ _ (by decide) (by decide) (by decide) (by decide) ?_
      refine GmmStep.wait (i := 16) (j := 10) _ _ _ _ _ _ _ _ _ (by decide) ?_
      refine GmmStep.load (i := 16) (j := 10) _ _ _ _ _ _ _ _ _ (by decide) (by decide) (fun v hv => ?_)
      refine GmmStep.peek (k := 10) _ _ _ _ _ _ _ _ _ (by decide) (fun _ => ?_)
      refine GmmStep.store (d := 10) _ _ _ _ _ _ _ _ _ (by decide) shapeCasts_S1x64x3584_S64x3584 shapeCasts_S64x3584_S64x3584 hv rfl ?_
      refine GmmStep.wait (i := 16) (j := 11) _ _ _ _ _ _ _ _ _ (by decide) ?_
      refine GmmStep.load (i := 16) (j := 11) _ _ _ _ _ _ _ _ _ (by decide) (by decide) (fun v hv => ?_)
      refine GmmStep.peek (k := 11) _ _ _ _ _ _ _ _ _ (by decide) (fun _ => ?_)
      refine GmmStep.store (d := 11) _ _ _ _ _ _ _ _ _ (by decide) shapeCasts_S1x64x3584_S64x3584 shapeCasts_S64x3584_S64x3584 hv rfl ?_
      refine GmmStep.wait (i := 16) (j := 12) _ _ _ _ _ _ _ _ _ (by decide) ?_
      refine GmmStep.load (i := 16) (j := 12) _ _ _ _ _ _ _ _ _ (by decide) (by decide) (fun v hv => ?_)
      refine GmmStep.peek (k := 12) _ _ _ _ _ _ _ _ _ (by decide) (fun _ => ?_)
      refine GmmStep.store (d := 12) _ _ _ _ _ _ _ _ _ (by decide) shapeCasts_S1x64x3584_S64x3584 shapeCasts_S64x3584_S64x3584 hv rfl ?_
      refine GmmStep.wait (i := 16) (j := 13) _ _ _ _ _ _ _ _ _ (by decide) ?_
      refine GmmStep.load (i := 16) (j := 13) _ _ _ _ _ _ _ _ _ (by decide) (by decide) (fun v hv => ?_)
      refine GmmStep.peek (k := 13) _ _ _ _ _ _ _ _ _ (by decide) (fun _ => ?_)
      refine GmmStep.store (d := 13) _ _ _ _ _ _ _ _ _ (by decide) shapeCasts_S1x64x3584_S64x3584 shapeCasts_S64x3584_S64x3584 hv rfl ?_
      refine GmmStep.wait (i := 16) (j := 14) _ _ _ _ _ _ _ _ _ (by decide) ?_
      refine GmmStep.load (i := 16) (j := 14) _ _ _ _ _ _ _ _ _ (by decide) (by decide) (fun v hv => ?_)
      refine GmmStep.peek (k := 14) _ _ _ _ _ _ _ _ _ (by decide) (fun _ => ?_)
      refine GmmStep.store (d := 14) _ _ _ _ _ _ _ _ _ (by decide) shapeCasts_S1x64x3584_S64x3584 shapeCasts_S64x3584_S64x3584 hv rfl ?_
      refine GmmStep.wait (i := 16) (j := 15) _ _ _ _ _ _ _ _ _ (by decide) ?_
      refine GmmStep.load (i := 16) (j := 15) _ _ _ _ _ _ _ _ _ (by decide) (by decide) (fun v hv => ?_)
      refine GmmStep.peek (k := 15) _ _ _ _ _ _ _ _ _ (by decide) (fun _ => ?_)
      refine GmmStep.store (d := 15) _ _ _ _ _ _ _ _ _ (by decide) shapeCasts_S1x64x3584_S64x3584 shapeCasts_S64x3584_S64x3584 hv rfl ?_
      refine e1.trans ?_
      refine GmmStep.issue (i := 0) (j := 0) _ _ _ _ _ _ _ _ _ (by decide) (by decide) (by decide) (by decide) ?_
      refine GmmStep.issue (i := 1) (j := 0) _ _ _ _ _ _ _ _ _ (by decide) (by decide) (by decide) (by decide) ?_
      refine GmmStep.issue (i := 2) (j := 0) _ _ _ _ _ _ _ _ _ (by decide) (by decide) (by decide) (by decide) ?_
      refine GmmStep.issue (i := 3) (j := 0) _ _ _ _ _ _ _ _ _ (by decide) (by decide) (by decide) (by decide) ?_
      refine GmmStep.issue (i := 4) (j := 0) _ _ _ _ _ _ _ _ _ (by decide) (by decide) (by decide) (by decide) ?_
      refine GmmStep.issue (i := 5) (j := 0) _ _ _ _ _ _ _ _ _ (by decide) (by decide) (by decide) (by decide) ?_
      refine GmmStep.wait (i := 6) (j := 0) _ _ _ _ _ _ _ _ _ (by decide) ?_
      refine GmmStep.load (i := 6) (j := 0) _ _ _ _ _ _ _ _ _ (by decide) (by decide) (fun v hv => ?_)
      refine GmmStep.peek (k := 0) _ _ _ _ _ _ _ _ _ (by decide) (fun _ => ?_)
      refine GmmStep.store (d := 0) _ _ _ _ _ _ _ _ _ (by decide) shapeCasts_S1x64x3584_S64x3584 shapeCasts_S64x3584_S64x3584 hv rfl ?_
      refine GmmStep.issue (i := 6) (j := 1) _ _ _ _ _ _ _ _ _ (by decide) (by decide) (by decide) (by decide) ?_
      refine GmmStep.wait (i := 7) (j := 1) _ _ _ _ _ _ _ _ _ (by decide) ?_
      refine GmmStep.load (i := 7) (j := 1) _ _ _ _ _ _ _ _ _ (by decide) (by decide) (fun v hv => ?_)
      refine GmmStep.peek (k := 1) _ _ _ _ _ _ _ _ _ (by decide) (fun _ => ?_)
      refine GmmStep.store (d := 1) _ _ _ _ _ _ _ _ _ (by decide) shapeCasts_S1x64x3584_S64x3584 shapeCasts_S64x3584_S64x3584 hv rfl ?_
      refine GmmStep.issue (i := 7) (j := 2) _ _ _ _ _ _ _ _ _ (by decide) (by decide) (by decide) (by decide) ?_
      refine GmmStep.wait (i := 8) (j := 2) _ _ _ _ _ _ _ _ _ (by decide) ?_
      refine GmmStep.load (i := 8) (j := 2) _ _ _ _ _ _ _ _ _ (by decide) (by decide) (fun v hv => ?_)
      refine GmmStep.peek (k := 2) _ _ _ _ _ _ _ _ _ (by decide) (fun _ => ?_)
      refine GmmStep.store (d := 2) _ _ _ _ _ _ _ _ _ (by decide) shapeCasts_S1x64x3584_S64x3584 shapeCasts_S64x3584_S64x3584 hv rfl ?_
      refine GmmStep.issue (i := 8) (j := 3) _ _ _ _ _ _ _ _ _ (by decide) (by decide) (by decide) (by decide) ?_
      refine GmmStep.wait (i := 9) (j := 3) _ _ _ _ _ _ _ _ _ (by decide) ?_
      refine GmmStep.load (i := 9) (j := 3) _ _ _ _ _ _ _ _ _ (by decide) (by decide) (fun v hv => ?_)
      refine GmmStep.peek (k := 3) _ _ _ _ _ _ _ _ _ (by decide) (fun _ => ?_)
      refine GmmStep.store (d := 3) _ _ _ _ _ _ _ _ _ (by decide) shapeCasts_S1x64x3584_S64x3584 shapeCasts_S64x3584_S64x3584 hv rfl ?_
      refine GmmStep.issue (i := 9) (j := 4) _ _ _ _ _ _ _ _ _ (by decide) (by decide) (by decide) (by decide) ?_
      refine GmmStep.wait (i := 10) (j := 4) _ _ _ _ _ _ _ _ _ (by decide) ?_
      refine GmmStep.load (i := 10) (j := 4) _ _ _ _ _ _ _ _ _ (by decide) (by decide) (fun v hv => ?_)
      refine GmmStep.peek (k := 4) _ _ _ _ _ _ _ _ _ (by decide) (fun _ => ?_)
      refine GmmStep.store (d := 4) _ _ _ _ _ _ _ _ _ (by decide) shapeCasts_S1x64x3584_S64x3584 shapeCasts_S64x3584_S64x3584 hv rfl ?_
      refine GmmStep.issue (i := 10) (j := 5) _ _ _ _ _ _ _ _ _ (by decide) (by decide) (by decide) (by decide) ?_
      refine GmmStep.wait (i := 11) (j := 5) _ _ _ _ _ _ _ _ _ (by decide) ?_
      refine GmmStep.load (i := 11) (j := 5) _ _ _ _ _ _ _ _ _ (by decide) (by decide) (fun v hv => ?_)
      refine GmmStep.peek (k := 5) _ _ _ _ _ _ _ _ _ (by decide) (fun _ => ?_)
      refine GmmStep.store (d := 5) _ _ _ _ _ _ _ _ _ (by decide) shapeCasts_S1x64x3584_S64x3584 shapeCasts_S64x3584_S64x3584 hv rfl ?_
      refine GmmStep.issue (i := 11) (j := 6) _ _ _ _ _ _ _ _ _ (by decide) (by decide) (by decide) (by decide) ?_
      refine GmmStep.wait (i := 12) (j := 6) _ _ _ _ _ _ _ _ _ (by decide) ?_
      refine GmmStep.load (i := 12) (j := 6) _ _ _ _ _ _ _ _ _ (by decide) (by decide) (fun v hv => ?_)
      refine GmmStep.peek (k := 6) _ _ _ _ _ _ _ _ _ (by decide) (fun _ => ?_)
      refine GmmStep.store (d := 6) _ _ _ _ _ _ _ _ _ (by decide) shapeCasts_S1x64x3584_S64x3584 shapeCasts_S64x3584_S64x3584 hv rfl ?_
      refine GmmStep.issue (i := 12) (j := 7) _ _ _ _ _ _ _ _ _ (by decide) (by decide) (by decide) (by decide) ?_
      refine GmmStep.wait (i := 13) (j := 7) _ _ _ _ _ _ _ _ _ (by decide) ?_
      refine GmmStep.load (i := 13) (j := 7) _ _ _ _ _ _ _ _ _ (by decide) (by decide) (fun v hv => ?_)
      refine GmmStep.peek (k := 7) _ _ _ _ _ _ _ _ _ (by decide) (fun _ => ?_)
      refine GmmStep.store (d := 7) _ _ _ _ _ _ _ _ _ (by decide) shapeCasts_S1x64x3584_S64x3584 shapeCasts_S64x3584_S64x3584 hv rfl ?_
      refine GmmStep.issue (i := 13) (j := 8) _ _ _ _ _ _ _ _ _ (by decide) (by decide) (by decide) (by decide) ?_
      refine GmmStep.wait (i := 14) (j := 8) _ _ _ _ _ _ _ _ _ (by decide) ?_
      refine GmmStep.load (i := 14) (j := 8) _ _ _ _ _ _ _ _ _ (by decide) (by decide) (fun v hv => ?_)
      refine GmmStep.peek (k := 8) _ _ _ _ _ _ _ _ _ (by decide) (fun _ => ?_)
      refine GmmStep.store (d := 8) _ _ _ _ _ _ _ _ _ (by decide) shapeCasts_S1x64x3584_S64x3584 shapeCasts_S64x3584_S64x3584 hv rfl ?_
      refine GmmStep.issue (i := 14) (j := 9) _ _ _ _ _ _ _ _ _ (by decide) (by decide) (by decide) (by decide) ?_
      refine GmmStep.wait (i := 15) (j := 9) _ _ _ _ _ _ _ _ _ (by decide) ?_
      refine GmmStep.load (i := 15) (j := 9) _ _ _ _ _ _ _ _ _ (by decide) (by decide) (fun v hv => ?_)
      refine GmmStep.peek (k := 9) _ _ _ _ _ _ _ _ _ (by decide) (fun _ => ?_)
      refine GmmStep.store (d := 9) _ _ _ _ _ _ _ _ _ (by decide) shapeCasts_S1x64x3584_S64x3584 shapeCasts_S64x3584_S64x3584 hv rfl ?_
      refine GmmStep.issue (i := 15) (j := 10) _ _ _ _ _ _ _ _ _ (by decide) (by decide) (by decide) (by decide) ?_
      refine GmmStep.wait (i := 16) (j := 10) _ _ _ _ _ _ _ _ _ (by decide) ?_
      refine GmmStep.load (i := 16) (j := 10) _ _ _ _ _ _ _ _ _ (by decide) (by decide) (fun v hv => ?_)
      refine GmmStep.peek (k := 10) _ _ _ _ _ _ _ _ _ (by decide) (fun _ => ?_)
      refine GmmStep.store (d := 10) _ _ _ _ _ _ _ _ _ (by decide) shapeCasts_S1x64x3584_S64x3584 shapeCasts_S64x3584_S64x3584 hv rfl ?_
      refine GmmStep.wait (i := 16) (j := 11) _ _ _ _ _ _ _ _ _ (by decide) ?_
      refine GmmStep.load (i := 16) (j := 11) _ _ _ _ _ _ _ _ _ (by decide) (by decide) (fun v hv => ?_)
      refine GmmStep.peek (k := 11) _ _ _ _ _ _ _ _ _ (by decide) (fun _ => ?_)
      refine GmmStep.store (d := 11) _ _ _ _ _ _ _ _ _ (by decide) shapeCasts_S1x64x3584_S64x3584 shapeCasts_S64x3584_S64x3584 hv rfl ?_
      refine GmmStep.wait (i := 16) (j := 12) _ _ _ _ _ _ _ _ _ (by decide) ?_
      refine GmmStep.load (i := 16) (j := 12) _ _ _ _ _ _ _ _ _ (by decide) (by decide) (fun v hv => ?_)
      refine GmmStep.peek (k := 12) _ _ _ _ _ _ _ _ _ (by decide) (fun _ => ?_)
      refine GmmStep.store (d := 12) _ _ _ _ _ _ _ _ _ (by decide) shapeCasts_S1x64x3584_S64x3584 shapeCasts_S64x3584_S64x3584 hv rfl ?_
      refine GmmStep.wait (i := 16) (j := 13) _ _ _ _ _ _ _ _ _ (by decide) ?_
      refine GmmStep.load (i := 16) (j := 13) _ _ _ _ _ _ _ _ _ (by decide) (by decide) (fun v hv => ?_)
      refine GmmStep.peek (k := 13) _ _ _ _ _ _ _ _ _ (by decide) (fun _ => ?_)
      refine GmmStep.store (d := 13) _ _ _ _ _ _ _ _ _ (by decide) shapeCasts_S1x64x3584_S64x3584 shapeCasts_S64x3584_S64x3584 hv rfl ?_
      refine GmmStep.wait (i := 16) (j := 14) _ _ _ _ _ _ _ _ _ (by decide) ?_
      refine GmmStep.load (i := 16) (j := 14) _ _ _ _ _ _ _ _ _ (by decide) (by decide) (fun v hv => ?_)
      refine GmmStep.peek (k := 14) _ _ _ _ _ _ _ _ _ (by decide) (fun _ => ?_)
      refine GmmStep.store (d := 14) _ _ _ _ _ _ _ _ _ (by decide) shapeCasts_S1x64x3584_S64x3584 shapeCasts_S64x3584_S64x3584 hv rfl ?_
      refine GmmStep.wait (i := 16) (j := 15) _ _ _ _ _ _ _ _ _ (by decide) ?_
      refine GmmStep.load (i := 16) (j := 15) _ _ _ _ _ _ _ _ _ (by decide) (by decide) (fun v hv => ?_)
      refine GmmStep.peek (k := 15) _ _ _ _ _ _ _ _ _ (by decide) (fun _ => ?_)
      refine GmmStep.store (d := 15) _ _ _ _ _ _ _ _ _ (by decide) shapeCasts_S1x64x3584_S64x3584 shapeCasts_S64x3584_S64x3584 hv rfl ?_
      refine e2.trans ?_
      refine GmmStep.issue (i := 0) (j := 0) _ _ _ _ _ _ _ _ _ (by decide) (by decide) (by decide) (by decide) ?_
      refine GmmStep.issue (i := 1) (j := 0) _ _ _ _ _ _ _ _ _ (by decide) (by decide) (by decide) (by decide) ?_
      refine GmmStep.issue (i := 2) (j := 0) _ _ _ _ _ _ _ _ _ (by decide) (by decide) (by decide) (by decide) ?_
      refine GmmStep.issue (i := 3) (j := 0) _ _ _ _ _ _ _ _ _ (by decide) (by decide) (by decide) (by decide) ?_
      refine GmmStep.issue (i := 4) (j := 0) _ _ _ _ _ _ _ _ _ (by decide) (by decide) (by decide) (by decide) ?_
      refine GmmStep.issue (i := 5) (j := 0) _ _ _ _ _ _ _ _ _ (by decide) (by decide) (by decide) (by decide) ?_
      refine GmmStep.wait (i := 6) (j := 0) _ _ _ _ _ _ _ _ _ (by decide) ?_
      refine GmmStep.load (i := 6) (j := 0) _ _ _ _ _ _ _ _ _ (by decide) (by decide) (fun v hv => ?_)
      refine GmmStep.peek (k := 0) _ _ _ _ _ _ _ _ _ (by decide) (fun _ => ?_)
      refine GmmStep.store (d := 0) _ _ _ _ _ _ _ _ _ (by decide) shapeCasts_S1x224x1024_S224x1024 shapeCasts_S224x1024_S224x1024 hv rfl ?_
      refine GmmStep.issue (i := 6) (j := 1) _ _ _ _ _ _ _ _ _ (by decide) (by decide) (by decide) (by decide) ?_
      refine GmmStep.wait (i := 7) (j := 1) _ _ _ _ _ _ _ _ _ (by decide) ?_
      refine GmmStep.load (i := 7) (j := 1) _ _ _ _ _ _ _ _ _ (by decide) (by decide) (fun v hv => ?_)
      refine GmmStep.peek (k := 1) _ _ _ _ _ _ _ _ _ (by decide) (fun _ => ?_)
      refine GmmStep.store (d := 1) _ _ _ _ _ _ _ _ _ (by decide) shapeCasts_S1x224x1024_S224x1024 shapeCasts_S224x1024_S224x1024 hv rfl ?_
      refine GmmStep.issue (i := 7) (j := 2) _ _ _ _ _ _ _ _ _ (by decide) (by decide) (by decide) (by decide) ?_
      refine GmmStep.wait (i := 8) (j := 2) _ _ _ _ _ _ _ _ _ (by decide) ?_
      refine GmmStep.load (i := 8) (j := 2) _ _ _ _ _ _ _ _ _ (by decide) (by decide) (fun v hv => ?_)
      refine GmmStep.peek (k := 2) _ _ _ _ _ _ _ _ _ (by decide) (fun _ => ?_)
      refine GmmStep.store (d := 2) _ _ _ _ _ _ _ _ _ (by decide) shapeCasts_S1x224x1024_S224x1024 shapeCasts_S224x1024_S224x1024 hv rfl ?_
      refine GmmStep.issue (i := 8) (j := 3) _ _ _ _ _ _ _ _ _ (by decide) (by decide) (by decide) (by decide) ?_
      refine GmmStep.wait (i := 9) (j := 3) _ _ _ _ _ _ _ _ _ (by decide) ?_
      refine GmmStep.load (i := 9) (j := 3) _ _ _ _ _ _ _ _ _ (by decide) (by decide) (fun v hv => ?_)
      refine GmmStep.peek (k := 3) _ _ _ _ _ _ _ _ _ (by decide) (fun _ => ?_)
      refine GmmStep.store (d := 3) _ _ _ _ _ _ _ _ _ (by decide) shapeCasts_S1x224x1024_S224x1024 shapeCasts_S224x1024_S224x1024 hv rfl ?_
      refine GmmStep.issue (i := 9) (j := 4) _ _ _ _ _ _ _ _ _ (by decide) (by decide) (by decide) (by decide) ?_
      refine GmmStep.wait (i := 10) (j := 4) _ _ _ _ _ _ _ _ _ (by decide) ?_
      refine GmmStep.load (i := 10) (j := 4) _ _ _ _ _ _ _ _ _ (by decide) (by decide) (fun v hv => ?_)
      refine GmmStep.peek (k := 4) _ _ _ _ _ _ _ _ _ (by decide) (fun _ => ?_)
      refine GmmStep.store (d := 4) _ _ _ _ _ _ _ _ _ (by decide) shapeCasts_S1x224x1024_S224x1024 shapeCasts_S224x1024_S224x1024 hv rfl ?_
      refine GmmStep.issue (i := 10) (j := 5) _ _ _ _ _ _ _ _ _ (by decide) (by decide) (by decide) (by decide) ?_
      refine GmmStep.wait (i := 11) (j := 5) _ _ _ _ _ _ _ _ _ (by decide) ?_
      refine GmmStep.load (i := 11) (j := 5) _ _ _ _ _ _ _ _ _ (by decide) (by decide) (fun v hv => ?_)
      refine GmmStep.peek (k := 5) _ _ _ _ _ _ _ _ _ (by decide) (fun _ => ?_)
      refine GmmStep.store (d := 5) _ _ _ _ _ _ _ _ _ (by decide) shapeCasts_S1x224x1024_S224x1024 shapeCasts_S224x1024_S224x1024 hv rfl ?_
      refine GmmStep.issue (i := 11) (j := 6) _ _ _ _ _ _ _ _ _ (by decide) (by decide) (by decide) (by decide) ?_
      refine GmmStep.wait (i := 12) (j := 6) _ _ _ _ _ _ _ _ _ (by decide) ?_
      refine GmmStep.load (i := 12) (j := 6) _ _ _ _ _ _ _ _ _ (by decide) (by decide) (fun v hv => ?_)
      refine GmmStep.peek (k := 6) _ _ _ _ _ _ _ _ _ (by decide) (fun _ => ?_)
      refine GmmStep.store (d := 6) _ _ _ _ _ _ _ _ _ (by decide) shapeCasts_S1x224x1024_S224x1024 shapeCasts_S224x1024_S224x1024 hv rfl ?_
      refine GmmStep.issue (i := 12) (j := 7) _ _ _ _ _ _ _ _ _ (by decide) (by decide) (by decide) (by decide) ?_
      refine GmmStep.wait (i := 13) (j := 7) _ _ _ _ _ _ _ _ _ (by decide) ?_
      refine GmmStep.load (i := 13) (j := 7) _ _ _ _ _ _ _ _ _ (by decide) (by decide) (fun v hv => ?_)
      refine GmmStep.peek (k := 7) _ _ _ _ _ _ _ _ _ (by decide) (fun _ => ?_)
      refine GmmStep.store (d := 7) _ _ _ _ _ _ _ _ _ (by decide) shapeCasts_S1x224x1024_S224x1024 shapeCasts_S224x1024_S224x1024 hv rfl ?_
      refine GmmStep.issue (i := 13) (j := 8) _ _ _ _ _ _ _ _ _ (by decide) (by decide) (by decide) (by decide) ?_
      refine GmmStep.wait (i := 14) (j := 8) _ _ _ _ _ _ _ _ _ (by decide) ?_
      refine GmmStep.load (i := 14) (j := 8) _ _ _ _ _ _ _ _ _ (by decide) (by decide) (fun v hv => ?_)
      refine GmmStep.peek (k := 8) _ _ _ _ _ _ _ _ _ (by decide) (fun _ => ?_)
      refine GmmStep.store (d := 8) _ _ _ _ _ _ _ _ _ (by decide) shapeCasts_S1x224x1024_S224x1024 shapeCasts_S224x1024_S224x1024 hv rfl ?_
      refine GmmStep.issue (i := 14) (j := 9) _ _ _ _ _ _ _ _ _ (by decide) (by decide) (by decide) (by decide) ?_
      refine GmmStep.wait (i := 15) (j := 9) _ _ _ _ _ _ _ _ _ (by decide) ?_
      refine GmmStep.load (i := 15) (j := 9) _ _ _ _ _ _ _ _ _ (by decide) (by decide) (fun v hv => ?_)
      refine GmmStep.peek (k := 9) _ _ _ _ _ _ _ _ _ (by decide) (fun _ => ?_)
      refine GmmStep.store (d := 9) _ _ _ _ _ _ _ _ _ (by decide) shapeCasts_S1x224x1024_S224x1024 shapeCasts_S224x1024_S224x1024 hv rfl ?_
      refine GmmStep.issue (i := 15) (j := 10) _ _ _ _ _ _ _ _ _ (by decide) (by decide) (by decide) (by decide) ?_
      refine GmmStep.wait (i := 16) (j := 10) _ _ _ _ _ _ _ _ _ (by decide) ?_
      refine GmmStep.load (i := 16) (j := 10) _ _ _ _ _ _ _ _ _ (by decide) (by decide) (fun v hv => ?_)
      refine GmmStep.peek (k := 10) _ _ _ _ _ _ _ _ _ (by decide) (fun _ => ?_)
      refine GmmStep.store (d := 10) _ _ _ _ _ _ _ _ _ (by decide) shapeCasts_S1x224x1024_S224x1024 shapeCasts_S224x1024_S224x1024 hv rfl ?_
      refine GmmStep.wait (i := 16) (j := 11) _ _ _ _ _ _ _ _ _ (by decide) ?_
      refine GmmStep.load (i := 16) (j := 11) _ _ _ _ _ _ _ _ _ (by decide) (by decide) (fun v hv => ?_)
      refine GmmStep.peek (k := 11) _ _ _ _ _ _ _ _ _ (by decide) (fun _ => ?_)
      refine GmmStep.store (d := 11) _ _ _ _ _ _ _ _ _ (by decide) shapeCasts_S1x224x1024_S224x1024 shapeCasts_S224x1024_S224x1024 hv rfl ?_
      refine GmmStep.wait (i := 16) (j := 12) _ _ _ _ _ _ _ _ _ (by decide) ?_
      refine GmmStep.load (i := 16) (j := 12) _ _ _ _ _ _ _ _ _ (by decide) (by decide) (fun v hv => ?_)
      refine GmmStep.peek (k := 12) _ _ _ _ _ _ _ _ _ (by decide) (fun _ => ?_)
      refine GmmStep.store (d := 12) _ _ _ _ _ _ _ _ _ (by decide) shapeCasts_S1x224x1024_S224x1024 shapeCasts_S224x1024_S224x1024 hv rfl ?_
      refine GmmStep.wait (i := 16) (j := 13) _ _ _ _ _ _ _ _ _ (by decide) ?_
      refine GmmStep.load (i := 16) (j := 13) _ _ _ _ _ _ _ _ _ (by decide) (by decide) (fun v hv => ?_)
      refine GmmStep.peek (k := 13) _ _ _ _ _ _ _ _ _ (by decide) (fun _ => ?_)
      refine GmmStep.store (d := 13) _ _ _ _ _ _ _ _ _ (by decide) shapeCasts_S1x224x1024_S224x1024 shapeCasts_S224x1024_S224x1024 hv rfl ?_
      refine GmmStep.wait (i := 16) (j := 14) _ _ _ _ _ _ _ _ _ (by decide) ?_
      refine GmmStep.load (i := 16) (j := 14) _ _ _ _ _ _ _ _ _ (by decide) (by decide) (fun v hv => ?_)
      refine GmmStep.peek (k := 14) _ _ _ _ _ _ _ _ _ (by decide) (fun _ => ?_)
      refine GmmStep.store (d := 14) _ _ _ _ _ _ _ _ _ (by decide) shapeCasts_S1x224x1024_S224x1024 shapeCasts_S224x1024_S224x1024 hv rfl ?_
      refine GmmStep.wait (i := 16) (j := 15) _ _ _ _ _ _ _ _ _ (by decide) ?_
      refine GmmStep.load (i := 16) (j := 15) _ _ _ _ _ _ _ _ _ (by decide) (by decide) (fun v hv => ?_)
      refine GmmStep.peek (k := 15) _ _ _ _ _ _ _ _ _ (by decide) (fun _ => ?_)
      refine GmmStep.store (d := 15) _ _ _ _ _ _ _ _ _ (by decide) shapeCasts_S1x224x1024_S224x1024 shapeCasts_S224x1024_S224x1024 hv rfl ?_
      exact e3
  · refine exec_dif_neg _ _ _ _ _ _ _ h1 ?_
    refine .trans ?_ hrest
    unfold Work scr
    iintro ⟨H1, H2, HR, H3, H4, H8, HI, HW, HO, ⟨%x, %y, %z, %hs, H9, H10, H11⟩⟩
    isplitr [HI HW HO H9 H10 H11]
    · isplitl [H1]; · iexact H1
      isplitl [H2]; · iexact H2
      isplitl [HR]; · iexact HR
      isplitl [H3]; · iexact H3
      isplitl [H4]; · iexact H4
      iexact H8
    isplitl [HI]; · iexact HI
    isplitl [HW]; · iexact HW
    isplitl [HO]; · iexact HO
    iexists x, y, z
    isplitr
    · ipureintro; exact hkeep h1 x y z hs
    isplitl [H9]; · iexact H9
    isplitl [H10]; · iexact H10
    iexact H11

end

end Cert.Kernel2Ideal.Gmm
-- ==== Proof.GmmWords.lean ====
module

public import proofs.«01_k».proof.Proof.GmmRun
public import Idealize.ShloMosaic.Lib.WordCmp

@[expose] public section

set_option maxRecDepth 16384

noncomputable section

namespace Cert.Kernel2Ideal.Gmm

open Cert.Kernel2Ideal Cert.Kernel2Ideal.Gen Idealize.ShloMosaic Idealize.ShloMosaic.TcCoe

/-- What the tables must say: a valid tile's expert exists, and a valid tile that keeps its predecessor's expert follows
    a valid tile. -/
structure Routed (te tv : S178.Idx → BitVec 32) : Prop where
  lt : ∀ x : S178.Idx, tv x ≠ 0 → (te x).toNat < 8
  keep : ∀ x y : S178.Idx, (x 0).val + 1 = (y 0).val → tv y ≠ 0 → te y = te x → tv x ≠ 0

/-- The word of a table at a tile. -/
abbrev at0 (t : ℕ) (h : t < 178) : S178.Idx := fun | ⟨0, _⟩ => ⟨t, h⟩

theorem cond2_iff (v1 : BitVec 32) : k0_cond2 v1 = 1#1 ↔ v1 ≠ 0 := by
  show Scalar.cmpi .ne (Scalar.extui (Scalar.cmpi .ne v1 0#32) : BitVec 32) 0#32 = 1#1 ↔ v1 ≠ 0
  have h : Scalar.cmpi .ne v1 0#32 = BitVec.ofBool (decide (v1 ≠ 0)) := WordCmp.cmpi_ne_eq v1 0#32
  rw [h]
  by_cases h0 : v1 = 0
  · subst h0; decide
  · simp only [ne_eq, h0, not_false_eq_true, decide_true, iff_true]; decide

theorem cond1_iff (i : grid0.Coords) (v1 v4 v9 : BitVec 32) :
    k0_cond1 i v1 v4 v9 = 1#1 ↔ v1 ≠ 0 ∧ ((i 0).val = 0 ∨ v4 ≠ v9) := by
  show Scalar.cmpi .ne (Scalar.extui (Scalar.andi (Scalar.cmpi .ne v1 0#32)
    (Scalar.ori (Scalar.cmpi .eq (BitVec.ofNat 32 (i 0).val) 0#32) (Scalar.cmpi .ne v4 v9))) : BitVec 32) 0#32 = 1#1 ↔ _
  have h1 : Scalar.cmpi .ne v1 0#32 = BitVec.ofBool (decide (v1 ≠ 0)) := WordCmp.cmpi_ne_eq v1 0#32
  have h2 : Scalar.cmpi .ne v4 v9 = BitVec.ofBool (decide (v4 ≠ v9)) := WordCmp.cmpi_ne_eq v4 v9
  have h3 : Scalar.cmpi .eq (BitVec.ofNat 32 (i 0).val) 0#32 = BitVec.ofBool (decide ((i 0).val = 0)) := by
    refine (WordCmp.cmpi_eq_eq _ _).trans (congrArg BitVec.ofBool (decide_eq_decide.mpr ?_))
    have hi : (i 0).val < 178 := (i 0).isLt
    constructor
    · intro h
      have := congrArg BitVec.toNat h
      simp only [BitVec.toNat_ofNat] at this
      omega
    · intro h; rw [h]
  rw [h1, h2, h3]
  by_cases a : v1 = 0 <;> by_cases b : v4 = v9 <;> by_cases d : (i 0).val = 0 <;>
    simp only [a, b, d, ne_eq, not_false_eq_true, not_true_eq_false, decide_true, decide_false, true_and, false_and, or_true, or_false, iff_true, iff_false] <;>
    decide

theorem chk (i : grid0.Coords) (v1 v4 v9 : BitVec 32) (h : v1 ≠ 0 → v4.toNat < 8) : k0_chk1 i v1 v4 v9 := by
  have h8 := fun hc : k0_cond1 i v1 v4 v9 = 1#1 => h ((cond1_iff i v1 v4 v9).mp hc).1
  constructor
  · intro hc a
    have := h8 hc
    show (![0, v4.toNat, 0, 0] : Fin 4 → ℕ) a + (![1, 1, 1024, 3584] : Fin 4 → ℕ) a ≤ (![2, 8, 1024, 3584] : Fin 4 → ℕ) a
    match a with
    | ⟨0, _⟩ => show 0 + 1 ≤ 2; omega
    | ⟨1, _⟩ => show v4.toNat + 1 ≤ 8; omega
    | ⟨2, _⟩ => show 0 + 1024 ≤ 1024; omega
    | ⟨3, _⟩ => show 0 + 3584 ≤ 3584; omega
  · intro hc a
    have := h8 hc
    show (![0, v4.toNat, 0, 0] : Fin 4 → ℕ) a + (![1, 1, 3584, 1024] : Fin 4 → ℕ) a ≤ (![2, 8, 3584, 1024] : Fin 4 → ℕ) a
    match a with
    | ⟨0, _⟩ => show 0 + 1 ≤ 2; omega
    | ⟨1, _⟩ => show v4.toNat + 1 ≤ 8; omega
    | ⟨2, _⟩ => show 0 + 3584 ≤ 3584; omega
    | ⟨3, _⟩ => show 0 + 1024 ≤ 1024; omega

theorem coord : ∀ t : Fin grid0.N, ((grid0.coords t) 0).val = t.val := by decide +kernel

theorem off2 : ∀ t : Fin grid0.N, k0_off2 (grid0.coords t) = ![t.val - 1] := by decide +kernel

end Cert.Kernel2Ideal.Gmm
-- ==== Proof.GmmFrame.lean ====
module

public import proofs.«01_k».proof.Proof.GmmBody
public import proofs.«01_k».proof.Proof.GmmWords
public import proofs.«01_k».proof.Proof.Gen.Kernel2Ideal.Launch
public import Idealize.ShloMosaic.Lib.Pipeline.FrameBody
public import Idealize.ShloMosaic.Lib.Ring
public import Idealize.ShloMosaic.Lib.Tactic

@[expose] public section

set_option maxRecDepth 16384

noncomputable section

namespace Cert.Kernel2Ideal.Gmm

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf UD)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- The buffers when the region is entered: as launched. -/
abbrev V (c : Dev nD) (b : Ref sig .tc) : Buf (Elt F) ((c : Thread nD τ).loc b) := m ((c : Thread nD τ).loc b)

theorem hmain (𝒱₀ : Variants) :
    Pipeline.HMainP (Ix := Unit) (Name := ℕ) (U := UD sig nD τ) (Lvl := ℕ) pcfgs 0 defs₀ 𝒱₀ m (main (F := F)) (V m) :=
  Pipeline.hmainP_region pcfgs 0 defs₀ 𝒱₀ m main fun c => (main_chain c).trans rfl

/-- The tables' contents, as launched. -/
def adm : (pcfg0 (F := F)).Adm := ⟨fun k => m (((0 : Dev nD) : Thread nD τ).loc (pre0.ref k)), trivial⟩

abbrev cfgA : Cfg sig Λ₀ := cfg0 (adm m)

/-- The experts and the validities of the tiles. -/
abbrev te (c : Dev nD) : S178.Idx → BitVec 32 := m ((c : Thread nD τ).loc main_arg2)
abbrev tv (c : Dev nD) : S178.Idx → BitVec 32 := m ((c : Thread nD τ).loc main_arg3)

/-- The stacks of weights. -/
abbrev w5 (c : Dev nD) : Buf (Elt F) ((Memref.whole main_arg4).view.loc (c : Thread nD τ)) := m ((c : Thread nD τ).loc main_arg4)
abbrev w6 (c : Dev nD) : Buf (Elt F) ((Memref.whole main_arg5).view.loc (c : Thread nD τ)) := m ((c : Thread nD τ).loc main_arg5)
abbrev w7 (c : Dev nD) : Buf (Elt F) ((Memref.whole main_arg6).view.loc (c : Thread nD τ)) := m ((c : Thread nD τ).loc main_arg6)

/-- A window's block at a point. -/
def iblk (c : Dev nD) (w : Fin (cfgA m).W) (t : Fin (cfgA m).N) :
    (((cfgA m).win w).xblock ((cfgA m).grid.coords t)).Idx → Elt F ((cfgA m).win w).elt :=
  (((cfgA m).win w).blk t).view.read (Elt F) (V m c (Pipeline.arrRef spec0 w))

theorem lt178 (t : Fin grid0.N) : t.val < 178 := lt_of_lt_of_eq t.isLt N_0

/-- The words of the tables the body reads at a point. -/
abbrev v1 (c : Dev nD) (t : Fin grid0.N) : BitVec 32 := tv m c (at0 t.val (lt178 t))
abbrev v4 (c : Dev nD) (t : Fin grid0.N) : BitVec 32 := te m c (at0 t.val (lt178 t))
abbrev v9 (c : Dev nD) (t : Fin grid0.N) : BitVec 32 := te m c (at0 (t.val - 1) (by have := lt178 t; omega))

theorem ok3 : ∀ a, (k0_off3 0#32) a + S1x1x1024x3584.size a ≤ S2x8x1024x3584.size a := by decide
theorem ok4 : ∀ a, (k0_off4 0#32) a + S1x1x3584x1024.size a ≤ S2x8x3584x1024.size a := by decide

/-- One expert's matrix, rounded; of a word naming no expert, the first's. -/
def mat3 (arg5 : Memref sig .tc .hbm S2x8x1024x3584 .f32) (e : BitVec 32) (c : Dev nD)
    (w : Buf (Elt F) (arg5.view.loc (c.tc : Thread nD τ))) : S1024x3584.Idx → Elt F .bf16 :=
  if h : ∀ a, (k0_off3 e) a + S1x1x1024x3584.size a ≤ S2x8x1024x3584.size a then cut3 arg5 e h c w else cut3 arg5 0#32 ok3 c w

def mat4 (arg7 : Memref sig .tc .hbm S2x8x3584x1024 .f32) (e : BitVec 32) (c : Dev nD)
    (w : Buf (Elt F) (arg7.view.loc (c.tc : Thread nD τ))) : S3584x1024.Idx → Elt F .bf16 :=
  if h : ∀ a, (k0_off4 e) a + S1x1x3584x1024.size a ≤ S2x8x3584x1024.size a then cut4 arg7 e h c w else cut4 arg7 0#32 ok4 c w

/-- The weight buffers hold the matrices of the expert at point `t`. -/
def holds (c : Dev nD) (t : Fin grid0.N) : Said F := fun x y z =>
  x = mat3 (Memref.whole main_arg4) (v4 m c t) c (w5 m c) ∧ y = mat3 (Memref.whole main_arg5) (v4 m c t) c (w6 m c)
    ∧ z = mat4 (Memref.whole main_arg6) (v4 m c t) c (w7 m c)

/-- Before a point: if its predecessor's tile is valid, the weight buffers hold that tile's expert. -/
def said (c : Dev nD) (t : Fin (grid0.N + 1)) : Said F := fun x y z =>
  ∀ t' : Fin grid0.N, t'.val + 1 = t.val → v1 m c t' ≠ 0 → holds m c t' x y z

/-- The block the body leaves at a point. -/
def out (c : Dev nD) (t : Fin grid0.N) : S256x1024.Idx → Elt F .bf16 :=
  if k0_cond2 (v1 m c t) = 1#1 then
    k0_pay2 (iblk m c 0 t) (mat3 (Memref.whole main_arg4) (v4 m c t) c (w5 m c)) (mat3 (Memref.whole main_arg5) (v4 m c t) c (w6 m c))
      (mat4 (Memref.whole main_arg6) (v4 m c t) c (w7 m c)) (gate (iblk m c 1 t))
  else k0_pay3

/-- The tables, as the body holds them. -/
def tbls (c : Dev nD) : sProp 𝕄 :=
  iprop(((c : Thread nD τ).loc main_arg3 ↦{fullShare.right} tv m c) ∗ ((c : Thread nD τ).loc main_arg2 ↦{fullShare.right} te m c))

/-- The invariant. -/
def inv (c : Dev nD) (t : Fin (grid0.N + 1)) : sProp 𝕄 :=
  iprop(tbls m c ∗ (∃ r, prngReg c r)
    ∗ idles (Memref.whole cc0_scoped0) cc0_scoped1 (Memref.whole cc0_scoped2) cc0_scoped3 (Memref.whole cc0_scoped4) cc0_scoped5 c
    ∗ wts (Memref.whole main_arg4) (Memref.whole main_arg5) (Memref.whole main_arg6) c (w5 m c) (w6 m c) (w7 m c)
    ∗ scr (Memref.whole cc0_scratch0) (Memref.whole cc0_scratch1) (Memref.whole cc0_scratch2) c (said m c t))

/-- The proof data. -/
def dats (_ : Fin 1) (c : Dev nD) : Dat τ (Elt F) Unit ℕ (UD sig nD τ) ℕ (cfgA m) c where
  A w := V m c (Pipeline.arrRef spec0 w)
  after w t := match w with
    | ⟨0, _⟩ => iblk m c 0 t
    | ⟨1, _⟩ => iblk m c 1 t
    | ⟨2, _⟩ => out m c t
  Φ t := inv m c t
  q _ := fullShare
  owed _ := 0

theorem A_eq (c : Dev nD) (w) : (dats m 0 c).A w = V m c (Pipeline.arrRef spec0 w) := rfl
theorem after0 (c : Dev nD) (t) : (dats m 0 c).after 0 t = iblk m c 0 t := by dsimp only [dats]; rfl
theorem after1 (c : Dev nD) (t) : (dats m 0 c).after 1 t = iblk m c 1 t := by dsimp only [dats]; rfl
theorem after2 (c : Dev nD) (t) : (dats m 0 c).after 2 t = out m c t := by dsimp only [dats]; rfl

theorem before0 (c : Dev nD) (t) (d) : (dats m 0 c).before 0 t d = iblk m c 0 t :=
  ((dats m 0 c).before_in_eq_fetched 0 rfl (fun _ => rfl) (fun _ _ _ => rfl)
    (fun t => by rw [after0]; unfold Dat.blockOf iblk; rw [A_eq]) t d).trans
    (by unfold Dat.fetched Dat.blockOf iblk; rw [A_eq]; try rfl)
theorem before1 (c : Dev nD) (t) (d) : (dats m 0 c).before 1 t d = iblk m c 1 t :=
  ((dats m 0 c).before_in_eq_fetched 1 rfl (fun _ => rfl) (fun _ _ _ => rfl)
    (fun t => by rw [after1]; unfold Dat.blockOf iblk; rw [A_eq]) t d).trans
    (by unfold Dat.fetched Dat.blockOf iblk; rw [A_eq]; try rfl)

/-- The output window is never idle. -/
theorem idle2 (t : Fin grid0.N) : (cfgA m).idle 2 ((cfgA m).grid.coords t) = false := by
  show (!(k0_cond2 ((adm m).1.atD 1 (k0_off1 (grid0.coords t))) == 1#1)
    && !(k0_cond3 ((adm m).1.atD 1 (k0_off1 (grid0.coords t))) == 1#1)) = false
  generalize (adm m).1.atD 1 (k0_off1 (grid0.coords t)) = v
  by_cases h : k0_cond2 v = 1#1
  · rw [h]; rfl
  · rw [cond3_iff.mpr h]; simp

/-! ## The body -/

/-- What the precondition says on every device. -/
def Ok : Prop := ∀ c : Dev nD, Routed (te m c) (tv m c)

theorem mat3_eq (arg5 : Memref sig .tc .hbm S2x8x1024x3584 .f32) (e : BitVec 32) (c : Dev nD)
    (w : Buf (Elt F) (arg5.view.loc (c.tc : Thread nD τ))) (h) : cut3 arg5 e h c w = mat3 arg5 e c w := by
  unfold mat3; rw [dif_pos h]
theorem mat4_eq (arg7 : Memref sig .tc .hbm S2x8x3584x1024 .f32) (e : BitVec 32) (c : Dev nD)
    (w : Buf (Elt F) (arg7.view.loc (c.tc : Thread nD τ))) (h) : cut4 arg7 e h c w = mat4 arg7 e c w := by
  unfold mat4; rw [dif_pos h]

/-- The body's current staging buffers. -/
abbrev st (t : Fin grid0.N) (w : Fin 3) := ((cfgA m).win w).stage ((cfgA m).slots t w)

/-- The kernel's body at a point. -/
abbrev bodyAt (t : Fin grid0.N) : Prog (TpuEff nD τ sig (Elt F) Λ₀ .tc) PUnit :=
  defs₀ (F := F) .tc (cfgA m).body ((cfgA m).bodyArgs t ((cfgA m).slots t))

theorem read3 (c : Dev nD) (f : Buf (Elt F) ((c : Thread nD τ).loc main_arg3)) (off : Fin 1 → ℕ) (inb) (k : ℕ) (hk : k < 178) (h : off = ![k]) :
    ((Memref.whole main_arg3).access (Rect.unit (s := S178) off S1.size inb)).read (Elt F) f (Shape.Idx.first (numel1_S1.symm ▸ Nat.one_pos))
      = (show S178.Idx → BitVec 32 from f) (at0 k hk) := by
  subst h
  refine congrArg (show S178.Idx → BitVec 32 from f) (funext fun a => ?_)
  match a with
  | ⟨0, _⟩ => exact Fin.ext (show k + 1 * 0 = k by omega)

theorem read2 (c : Dev nD) (f : Buf (Elt F) ((c : Thread nD τ).loc main_arg2)) (off : Fin 1 → ℕ) (inb) (k : ℕ) (hk : k < 178) (h : off = ![k]) :
    ((Memref.whole main_arg2).access (Rect.unit (s := S178) off S1.size inb)).read (Elt F) f (Shape.Idx.first (numel1_S1.symm ▸ Nat.one_pos))
      = (show S178.Idx → BitVec 32 from f) (at0 k hk) := by
  subst h
  refine congrArg (show S178.Idx → BitVec 32 from f) (funext fun a => ?_)
  match a with
  | ⟨0, _⟩ => exact Fin.ext (show k + 1 * 0 = k by omega)

theorem off1 (t : Fin grid0.N) : k0_off1 (grid0.coords t) = ![t.val] := by rw [k0_off1_eq, coord]

theorem load_said (c : Dev nD) (t : Fin grid0.N) (h3) (h4) :
    said m c t.succ (cut3 (Memref.whole main_arg4) (v4 m c t) h3 c (w5 m c)) (cut3 (Memref.whole main_arg5) (v4 m c t) h3 c (w6 m c))
      (cut4 (Memref.whole main_arg6) (v4 m c t) h4 c (w7 m c)) := by
  intro t' ht _
  obtain rfl : t' = t := Fin.ext (by simpa using ht)
  exact ⟨mat3_eq _ _ _ _ _, mat3_eq _ _ _ _ _, mat4_eq _ _ _ _ _⟩

theorem keep_said (hok : Ok m) (c : Dev nD) (t : Fin grid0.N)
    (hc : ¬ k0_cond1 (grid0.coords t) (v1 m c t) (v4 m c t) (v9 m c t) = 1#1) (x y z) (hs : said m c t.castSucc x y z) :
    said m c t.succ x y z := by
  intro t' ht hv
  obtain rfl : t' = t := Fin.ext (by simpa using ht)
  rw [cond1_iff, coord] at hc
  have h0 : t'.val ≠ 0 := fun h => hc ⟨hv, .inl h⟩
  have he : v4 m c t' = v9 m c t' := Classical.not_not.mp fun h => hc ⟨hv, .inr h⟩
  have hp : t'.val - 1 < grid0.N := lt_of_le_of_lt (Nat.sub_le _ _) t'.isLt
  have h := hs ⟨t'.val - 1, hp⟩ (by simp; omega)
    ((hok c).keep (at0 (t'.val - 1) _) (at0 t'.val _) (by show t'.val - 1 + 1 = t'.val; omega) hv he)
  unfold holds at h ⊢
  rw [he]
  exact h

theorem out_pos (c : Dev nD) (t : Fin grid0.N) (hc : k0_cond2 (v1 m c t) = 1#1) (x y z) (hs : said m c t.succ x y z) :
    k0_pay2 (iblk m c 0 t) x y z (gate (iblk m c 1 t)) = out m c t := by
  obtain ⟨rfl, rfl, rfl⟩ := hs t (by simp) ((cond2_iff _).mp hc)
  unfold out
  rw [if_pos hc]

theorem out_neg (c : Dev nD) (t : Fin grid0.N) (hc : ¬ k0_cond2 (v1 m c t) = 1#1) : k0_pay3 = out m c t := by
  unfold out
  rw [if_neg hc]

theorem owes_in (c : Dev nD) (t) : (dats m 0 c).owesAt () t ⊢ (iprop(∃ W, owes (c.tc : Thread nD τ) 0 W) : sProp 𝕄) := by
  iintro ⟨%W, -, H⟩
  iexists W
  iexact H

theorem owes_out (c : Dev nD) (t) : (iprop(∃ W, owes (c.tc : Thread nD τ) 0 W) : sProp 𝕄) ⊢ (dats m 0 c).owesAt () t := by
  iintro ⟨%W, H⟩
  iexists W
  isplitr
  · ipureintro; exact fun _ _ => .inl trivial
  iexact H

set_option maxHeartbeats 800000 in
theorem sound_body (hok : Ok m) (c : Dev nD) (t : Fin grid0.N) :
    iprop(inv m c t.castSucc ∗ (dats m 0 c).owesAt () t.castSucc
      ∗ (∃ d, owns (c : Thread nD τ) (st m t 0) fullShare ((dats m 0 c).before 0 t d))
      ∗ (∃ d, owns (c : Thread nD τ) (st m t 1) fullShare ((dats m 0 c).before 1 t d))
      ∗ (∃ d, owns (c : Thread nD τ) (st m t 2) fullShare ((dats m 0 c).before 2 t d)))
    ⊢ wp frame (wpE (defs₀ (F := F)) Variants.none c none) Set.univ (bodyAt m t) fun _ =>
      iprop(inv m c t.succ ∗ (dats m 0 c).owesAt () t.succ
        ∗ owns (c : Thread nD τ) (st m t 0) fullShare (iblk m c 0 t)
        ∗ owns (c : Thread nD τ) (st m t 1) fullShare (iblk m c 1 t)
        ∗ owns (c : Thread nD τ) (st m t 2) fullShare (out m c t)) := by
  have hQ : iprop(((c : Thread nD τ).loc main_arg3 ↦{fullShare.right} tv m c) ∗ ((c : Thread nD τ).loc main_arg2 ↦{fullShare.right} te m c)
      ∗ (∃ r, prngReg c r)
      ∗ owns (c : Thread nD τ) (st m t 0) fullShare (iblk m c 0 t) ∗ owns (c : Thread nD τ) (st m t 1) fullShare (iblk m c 1 t)
      ∗ owns (c : Thread nD τ) (st m t 2) fullShare (out m c t)
      ∗ Work (Memref.whole main_arg4) (Memref.whole main_arg5) (Memref.whole main_arg6) (Memref.whole cc0_scratch0) (Memref.whole cc0_scratch1) (Memref.whole cc0_scratch2) (Memref.whole cc0_scoped0) cc0_scoped1 (Memref.whole cc0_scoped2) cc0_scoped3 (Memref.whole cc0_scoped4) cc0_scoped5 c (w5 m c) (w6 m c) (w7 m c) (said m c t.succ))
      ⊢ iprop(inv m c t.succ ∗ (dats m 0 c).owesAt () t.succ
        ∗ owns (c : Thread nD τ) (st m t 0) fullShare (iblk m c 0 t)
        ∗ owns (c : Thread nD τ) (st m t 1) fullShare (iblk m c 1 t)
        ∗ owns (c : Thread nD τ) (st m t 2) fullShare (out m c t)) := by
    unfold inv tbls Work
    iintro ⟨T3, T2, HP, H0, H1, H2, HI, HW, Ho, HS⟩
    isplitl [T3 T2 HP HI HW HS]
    · isplitl [T3 T2]
      · isplitl [T3]; · iexact T3
        iexact T2
      isplitl [HP]; · iexact HP
      isplitl [HI]; · iexact HI
      isplitl [HW]; · iexact HW
      iexact HS
    isplitl [Ho]
    · iapply (owes_out m c t.succ); iexact Ho
    isplitl [H0]; · iexact H0
    isplitl [H1]; · iexact H1
    iexact H2

  have hb := body (F := F) (U := UD sig nD τ) (grid0.coords t) (Memref.whole main_arg2) (Memref.isWhole_whole _) (Memref.whole main_arg3) (Memref.isWhole_whole _)
    (spec0_0.stage ((cfgA m).slots t 0)) (hstage0_0 (((cfgA m).slots t 0).cast nbuf0_0)) (spec0_1.stage ((cfgA m).slots t 1)) (hstage0_1 (((cfgA m).slots t 1).cast nbuf0_1))
    (Memref.whole main_arg4) (Memref.isWhole_whole _) (Memref.whole main_arg5) (Memref.isWhole_whole _) (Memref.whole main_arg6) (Memref.isWhole_whole _)
    (spec0_2.stage ((cfgA m).slots t 2)) (hstage0_2 (((cfgA m).slots t 2).cast nbuf0_2))
    (Memref.whole cc0_scratch0) (Memref.isWhole_whole _) (Memref.whole cc0_scratch1) (Memref.isWhole_whole _) (Memref.whole cc0_scratch2) (Memref.isWhole_whole _)
    (Memref.whole cc0_scoped0) (Memref.isWhole_whole _) cc0_scoped1 (Memref.whole cc0_scoped2) (Memref.isWhole_whole _) cc0_scoped3 (Memref.whole cc0_scoped4) (Memref.isWhole_whole _) cc0_scoped5
    (v1 := v1 m c t) (v4 := v4 m c t) (v9 := v9 m c t) (defs := defs₀) (𝒱 := Variants.none) c (w5 m c) (w6 m c) (w7 m c)
    (S := said m c t.castSucc) (S' := said m c t.succ) (iblk m c 0 t) (iblk m c 1 t) (out m c t)
    (q1 := fullShare.right) (q2 := fullShare.right) (f1 := te m c) (f2 := tv m c)
    (R := iprop(∃ r, prngReg c r))
    (Q := fun _ => iprop(inv m c t.succ ∗ (dats m 0 c).owesAt () t.succ
        ∗ owns (c : Thread nD τ) (st m t 0) fullShare (iblk m c 0 t)
        ∗ owns (c : Thread nD τ) (st m t 1) fullShare (iblk m c 1 t)
        ∗ owns (c : Thread nD τ) (st m t 2) fullShare (out m c t)))
    (read3 c _ _ _ _ _ (off1 t)) (read2 c _ _ _ _ _ (off1 t)) (read2 c _ _ _ _ _ (off2 t))
    (chk _ _ _ _ fun h => (hok c).lt _ h)
    (fun _ h3 h4 => load_said m c t h3 h4) (fun h => keep_said m hok c t h) (fun h => out_pos m c t h) (fun h => out_neg m c t h) hQ
  · simp only [before0, before1]
    refine .trans ?_ hb
    unfold inv tbls Work
    iintro ⟨⟨⟨T3, T2⟩, HP, HI, HW, HS⟩, Ho, ⟨%d0, H0⟩, ⟨%d1, H1⟩, ⟨%d2, H2⟩⟩
    isplitl [T3]; · iexact T3
    isplitl [T2]; · iexact T2
    isplitl [HP]; · iexact HP
    isplitl [H0]; · iexact H0
    isplitl [H1]; · iexact H1
    isplitl [H2]
    · iexists _; iexact H2
    isplitl [HI]; · iexact HI
    isplitl [HW]; · iexact HW
    isplitl [Ho]
    · iapply (owes_in m c t.castSucc); iexact Ho
    iexact HS

end Cert.Kernel2Ideal.Gmm
-- ==== Proof.GmmLaunch.lean ====
module

public import proofs.«01_k».proof.Proof.GmmFrame

@[expose] public section

set_option maxRecDepth 16384

noncomputable section

namespace Cert.Kernel2Ideal.Gmm

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf UD)

variable {F : FTy → Type} [FloatOps F]

local notation "𝕄" => MT nD τ sig Unit (Elt F) ℕ (UD sig nD τ) ℕ

variable (m : (ℓ : Loc nD τ sig) → Buf (Elt F) ℓ) (ρ : Dev nD → PrngReg)

theorem body_obligation (hok : Ok m) (c : Dev nD) :
    BodyObligation (dats m 0 c) (defs₀ (F := F)) Variants.none () Set.univ := fun t => by
  rw [bigSep_W0, bigSep_W0]
  refine triple_restated (sound_body m hok c t) rfl .rfl fun _ => ?_
  refine sep_mono .rfl (sep_mono .rfl (sep_mono .rfl (sep_mono .rfl ?_)))
  show _ ⊢ (dats m 0 c).leavesExact 2 t
  unfold Dat.leavesExact
  rw [idle2 m t]
  exact .rfl

/-- The rings' semaphores. -/
def osem (k : Fin 3 × Fin 6) : SemLoc sig :=
  match k.1 with
  | 0 => .dma (GmmStep.semM cc0_scoped1 squeezes_S1_S_ k.2)
  | 1 => .dma (GmmStep.semM cc0_scoped3 squeezes_S1_S_ k.2)
  | 2 => .dma (GmmStep.semM cc0_scoped5 squeezes_S1_S_ k.2)

theorem osem_facts : Pipeline.OwnSemFacts spec0 osem := by decide

theorem ownSems_eq (c : Dev nD) :
    (Pipeline.ownSems0 (Ix := Unit) (Name := ℕ) (U := UD sig nD τ) (Lvl := ℕ) (Val := Elt F) (τ := τ) osem c : sProp 𝕄)
      = iprop((bigSep Finset.univ fun s : Fin 6 => semVal (c.tc, .dma (GmmStep.semM cc0_scoped1 squeezes_S1_S_ s)) 0)
        ∗ (bigSep Finset.univ fun s : Fin 6 => semVal (c.tc, .dma (GmmStep.semM cc0_scoped3 squeezes_S1_S_ s)) 0)
        ∗ (bigSep Finset.univ fun s : Fin 6 => semVal (c.tc, .dma (GmmStep.semM cc0_scoped5 squeezes_S1_S_ s)) 0)) := by
  unfold Pipeline.ownSems0
  rw [bigSep_univ_prod, bigSep_W0]
  rfl

/-- The stacks of weights, which the body's copies read. -/
abbrev H : Finset (Ref sig .tc) := {main_arg4, main_arg5, main_arg6}

theorem bigSep_H (Φ : Ref sig .tc → sProp 𝕄) : bigSep H Φ = iprop(Φ main_arg4 ∗ Φ main_arg5 ∗ Φ main_arg6) := by
  rw [show H = insert main_arg4 (insert main_arg5 {main_arg6}) from rfl, bigSep_insert (by decide), bigSep_insert (by decide), bigSep_singleton]
  rfl

theorem tables_eq (c : Dev nD) :
    (Pipeline.ΦT (U := UD sig nD τ) pre0 (adm m).1 c : sProp 𝕄)
      = iprop(((c : Thread nD τ).loc main_arg2 ↦{fullShare.right} te m c) ∗ ((c : Thread nD τ).loc main_arg3 ↦{fullShare.right} tv m c)) := by
  obtain rfl : c = 0 := Subsingleton.elim _ _
  unfold Pipeline.ΦT Pipeline.prefHeld
  rw [show (Finset.univ : Finset (Fin pre0.K)) = insert (0 : Fin 2) {(1 : Fin 2)} from by decide, bigSep_insert (by decide), bigSep_singleton]
  rfl

theorem own_in (c : Dev nD) {cs : CoreSpace} {s : Shape} {e : EltTy} {b : Memref sig .tc cs s e} (h : b.IsWhole) :
    (iprop(∃ f, b.view.loc (c.tc : Thread nD τ) ↦{fullShare} f) : sProp 𝕄) ⊢ iprop(∃ x, owns (c.tc : Thread nD τ) b fullShare x) := by
  iintro ⟨%f, H⟩
  iexists b.view.read (Elt F) f
  rw [GmmStep.owns_whole c h]
  iexists f
  isplitr
  · ipureintro; rfl
  iexact H

theorem own_out (c : Dev nD) {cs : CoreSpace} {s : Shape} {e : EltTy} {b : Memref sig .tc cs s e} (h : b.IsWhole) {x : s.Idx → Elt F e} :
    (owns (c.tc : Thread nD τ) b fullShare x : sProp 𝕄) ⊢ iprop(∃ f, b.view.loc (c.tc : Thread nD τ) ↦{fullShare} f) := by
  rw [GmmStep.owns_whole c h]
  iintro ⟨%f, -, H⟩
  iexists f
  iexact H

theorem phi_in (c : Dev nD) :
    iprop(Pipeline.ΦD (Val := Elt F) osem spec0 H (V m) c ∗ Pipeline.ΦT (U := UD sig nD τ) pre0 (adm m).1 c) ⊢ inv m c 0 := by
  rw [Pipeline.ΦD_eq, ownSems_eq, bigSep_H, tables_eq, scopedRest0_eq]
  unfold inv tbls idles wts scr GmmStep.Idle
  iintro ⟨⟨⟨A0, A1, A2, R0, R1, R2⟩, HP, ⟨S0, S1, S2⟩, W⟩, ⟨T2, T3⟩⟩
  ihave B0 := (own_in (F := F) c (b := Memref.whole cc0_scratch0) (Memref.isWhole_whole _)) $$ A0
  ihave B1 := (own_in (F := F) c (b := Memref.whole cc0_scratch1) (Memref.isWhole_whole _)) $$ A1
  ihave B2 := (own_in (F := F) c (b := Memref.whole cc0_scratch2) (Memref.isWhole_whole _)) $$ A2
  icases B0 with ⟨%x, B0⟩
  icases B1 with ⟨%y, B1⟩
  icases B2 with ⟨%z, B2⟩
  isplitl [T2 T3]
  · isplitl [T3]; · iexact T3
    iexact T2
  isplitl [HP]; · iexact HP
  isplitl [R0 R1 R2 S0 S1 S2]
  · isplitl [R0 S0]
    · isplitl [R0]; · iexact R0
      iexact S0
    isplitl [R1 S1]
    · isplitl [R1]; · iexact R1
      iexact S1
    isplitl [R2]; · iexact R2
    iexact S2
  isplitl [W]; · iexact W
  iexists x, y, z
  isplitr
  · ipureintro
    intro t' ht
    exact absurd ht (Nat.succ_ne_zero _)
  isplitl [B0]; · iexact B0
  isplitl [B1]; · iexact B1
  iexact B2

theorem phi_out (c : Dev nD) (t) : inv m c t ⊢ Pipeline.ΦD (Val := Elt F) osem spec0 H (V m) c := by
  rw [Pipeline.ΦD_eq, ownSems_eq, bigSep_H, scopedRest0_eq]
  unfold inv tbls idles wts scr GmmStep.Idle
  iintro ⟨-, HP, ⟨⟨R0, S0⟩, ⟨R1, S1⟩, ⟨R2, S2⟩⟩, W, ⟨%x, %y, %z, -, B0, B1, B2⟩⟩
  isplitl [R0 R1 R2 B0 B1 B2]
  · isplitl [B0]; · iapply (own_out (F := F) c (b := Memref.whole cc0_scratch0) (Memref.isWhole_whole _)); iexact B0
    isplitl [B1]; · iapply (own_out (F := F) c (b := Memref.whole cc0_scratch1) (Memref.isWhole_whole _)); iexact B1
    isplitl [B2]; · iapply (own_out (F := F) c (b := Memref.whole cc0_scratch2) (Memref.isWhole_whole _)); iexact B2
    isplitl [R0]; · iexact R0
    isplitl [R1]; · iexact R1
    iexact R2
  isplitl [HP]; · iexact HP
  isplitl [S0 S1 S2]
  · isplitl [S0]; · iexact S0
    isplitl [S1]; · iexact S1
    iexact S2
  iexact W

theorem H_sub : H ⊆ Pipeline.restRefsP sig pre0 spec0 := by decide

theorem rest_mem (b : Ref sig .tc) (hs : b.isScoped = false) (ha : ∀ w, (spec0 w).arr.view.ref ≠ b) : b ∈ Pipeline.restRefs sig spec0 :=
  Pipeline.mem_restRefs_of b hs ha

set_option backward.isDefEq.respectTransparency.types false in
set_option maxHeartbeats 800000 in
/-- Every execution ends, the windows' arrays at what the data compute, every counter at zero. -/
theorem run_main (hok : Ok m) : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_dma (Q' := _) pcfgs (fun _ => adm m) (dats m) (0 : Fin 1) launch0 osem defs₀ Variants.none osem_facts H
    H_sub m ρ main (hbody := fun c => (body_obligation m hok c).loose) (hshare := fun c => (dats m 0 c).share_full fun _ => rfl)
    (howed := fun _ _ => rfl) (V := V m) (hmain := hmain m Variants.none) (hA := A_eq m)
    (hpf := fun c k => by obtain rfl : c = 0 := Subsingleton.elim _ _; rfl)
    (hin := phi_in m) (hout := fun c => phi_out m c _) (hQ' := fun _ h => h)

/-- The arguments' arrays end unchanged, every counter at zero. -/
theorem run (hok : Ok m) : θ_run defs (onTc (τ := τ) (main (F := F))) ⟨m, fun _ => 0, ρ⟩ (fun r =>
    (∀ c : Dev nD, r.2.mem ((c.tc : Thread nD τ).loc main_v0) = (dats m 0 c).arrAt 2 (cfgA m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨fun c => ⟨(h.1 c).1 2,
      ((h.1 c).1 0).trans (((dats m 0 c).arrAt_in 0 rfl _).trans (A_eq m c 0)),
      ((h.1 c).1 1).trans (((dats m 0 c).arrAt_in 1 rfl _).trans (A_eq m c 1)),
      (h.1 c).2 main_arg2 (rest_mem main_arg2 (by decide) (by decide)),
      (h.1 c).2 main_arg3 (rest_mem main_arg3 (by decide) (by decide)),
      (h.1 c).2 main_arg4 (rest_mem main_arg4 (by decide) (by decide)),
      (h.1 c).2 main_arg5 (rest_mem main_arg5 (by decide) (by decide)),
      (h.1 c).2 main_arg6 (rest_mem main_arg6 (by decide) (by decide))⟩, h.2⟩) (run_main m ρ hok)

end Cert.Kernel2Ideal.Gmm
-- ==== Proof.GmmValue.lean ====
/- The grouped product's result array, index by index, of its arguments. -/
module

public import proofs.«01_k».proof.Proof.GmmLaunch
public import Idealize.ShloMosaic.Lib.Pointwise
public import Idealize.ShloMosaic.Lib.ValueIdx
public import Idealize.ShloMosaic.Lib.Pipeline.ValueKit.Point

@[expose] public section

set_option maxRecDepth 16384

noncomputable section

namespace Cert.Kernel2Ideal.Gmm

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One expert's layer of a row, at a lane. -/
def layer (h : Fin 1024 → EReal) (a b : Fin 1024 → Fin 3584 → EReal) (d : Fin 3584 → EReal) : EReal :=
  ∑ f : Fin 3584, (∑ k, h k * a k f) * Ideal.logistic (∑ k, h k * a k f) * (∑ k, h k * b k f) * d f

theorem pay2_apply (x : Vec Ideal S256x1024 .bf16) (a b : Vec Ideal S1024x3584 .bf16) (d : Vec Ideal S3584x1024 .bf16)
    (g : Vec Ideal S256x1 .f32) (r : Fin 256) (l : Fin 1024) :
    k0_pay2 (F := Ideal) x a b d g (ix2 r l)
      = layer (fun k => x (ix2 r k)) (fun k f => a (ix2 k f)) (fun k f => b (ix2 k f)) (fun f => d (ix2 f l)) * g (ix2 r (0 : Fin 1)) := by
  unfold k0_pay2 layer
  pointwise

theorem in3 (e : BitVec 32) (he : e.toNat < 8) : ∀ a, (k0_off3 e) a + S1x1x1024x3584.size a ≤ S2x8x1024x3584.size a := fun a =>
  match a with
  | ⟨0, _⟩ => show 0 + 1 ≤ 2 by omega
  | ⟨1, _⟩ => show e.toNat + 1 ≤ 8 by omega
  | ⟨2, _⟩ => show 0 + 1024 ≤ 1024 by omega
  | ⟨3, _⟩ => show 0 + 3584 ≤ 3584 by omega

theorem in4 (e : BitVec 32) (he : e.toNat < 8) : ∀ a, (k0_off4 e) a + S1x1x3584x1024.size a ≤ S2x8x3584x1024.size a := fun a =>
  match a with
  | ⟨0, _⟩ => show 0 + 1 ≤ 2 by omega
  | ⟨1, _⟩ => show e.toNat + 1 ≤ 8 by omega
  | ⟨2, _⟩ => show 0 + 3584 ≤ 3584 by omega
  | ⟨3, _⟩ => show 0 + 1024 ≤ 1024 by omega

theorem wg_read (c : Dev nD) (e : BitVec 32) (he : e.toNat < 8) (k : Fin 1024) (f : Fin 3584) :
    mat3 (F := Ideal) (Memref.whole main_arg4) e c (w5 m c) (ix2 k f) = w5 m c (ix4 (0 : Fin 2) (⟨e.toNat, he⟩ : Fin 8) k f) := by
  rw [← mat3_eq _ _ _ _ (in3 e he)]
  show w5 m c ((Rect.unit (s := S2x8x1024x3584) (k0_off3 e) S1x1x1024x3584.size (in3 e he)).emb (Shape.reshapeEquiv _ (ix2 k f))) = _
  refine congrArg (w5 m c) ?_
  have hj : ∀ h, Shape.reshapeEquiv h (ix2 k f) = ix4 (0 : Fin 1) (0 : Fin 1) k f := fun h => Shape.reshapeEquiv_eq_of_rowMajor h (by
    rw [Shape.rowMajor_val_four, Shape.rowMajor_val_two]
    show ((0 * 1 + 0) * 1024 + k.val) * 3584 + f.val = k.val * 3584 + f.val
    omega)
  rw [hj]
  funext a
  apply Fin.ext
  rw [Rect.emb_apply]
  match a with
  | ⟨0, _⟩ => rfl
  | ⟨1, _⟩ => show e.toNat + 1 * 0 = e.toNat; omega
  | ⟨2, _⟩ => show 0 + 1 * k.val = k.val; omega
  | ⟨3, _⟩ => show 0 + 1 * f.val = f.val; omega

theorem wu_read (c : Dev nD) (e : BitVec 32) (he : e.toNat < 8) (k : Fin 1024) (f : Fin 3584) :
    mat3 (F := Ideal) (Memref.whole main_arg5) e c (w6 m c) (ix2 k f) = w6 m c (ix4 (0 : Fin 2) (⟨e.toNat, he⟩ : Fin 8) k f) := by
  rw [← mat3_eq _ _ _ _ (in3 e he)]
  show w6 m c ((Rect.unit (s := S2x8x1024x3584) (k0_off3 e) S1x1x1024x3584.size (in3 e he)).emb (Shape.reshapeEquiv _ (ix2 k f))) = _
  refine congrArg (w6 m c) ?_
  have hj : ∀ h, Shape.reshapeEquiv h (ix2 k f) = ix4 (0 : Fin 1) (0 : Fin 1) k f := fun h => Shape.reshapeEquiv_eq_of_rowMajor h (by
    rw [Shape.rowMajor_val_four, Shape.rowMajor_val_two]
    show ((0 * 1 + 0) * 1024 + k.val) * 3584 + f.val = k.val * 3584 + f.val
    omega)
  rw [hj]
  funext a
  apply Fin.ext
  rw [Rect.emb_apply]
  match a with
  | ⟨0, _⟩ => rfl
  | ⟨1, _⟩ => show e.toNat + 1 * 0 = e.toNat; omega
  | ⟨2, _⟩ => show 0 + 1 * k.val = k.val; omega
  | ⟨3, _⟩ => show 0 + 1 * f.val = f.val; omega

theorem wd_read (c : Dev nD) (e : BitVec 32) (he : e.toNat < 8) (f : Fin 3584) (l : Fin 1024) :
    mat4 (F := Ideal) (Memref.whole main_arg6) e c (w7 m c) (ix2 f l) = w7 m c (ix4 (0 : Fin 2) (⟨e.toNat, he⟩ : Fin 8) f l) := by
  rw [← mat4_eq _ _ _ _ (in4 e he)]
  show w7 m c ((Rect.unit (s := S2x8x3584x1024) (k0_off4 e) S1x1x3584x1024.size (in4 e he)).emb (Shape.reshapeEquiv _ (ix2 f l))) = _
  refine congrArg (w7 m c) ?_
  have hj : ∀ h, Shape.reshapeEquiv h (ix2 f l) = ix4 (0 : Fin 1) (0 : Fin 1) f l := fun h => Shape.reshapeEquiv_eq_of_rowMajor h (by
    rw [Shape.rowMajor_val_four, Shape.rowMajor_val_two]
    show ((0 * 1 + 0) * 3584 + f.val) * 1024 + l.val = f.val * 1024 + l.val
    omega)
  rw [hj]
  funext a
  apply Fin.ext
  rw [Rect.emb_apply]
  match a with
  | ⟨0, _⟩ => rfl
  | ⟨1, _⟩ => show e.toNat + 1 * 0 = e.toNat; omega
  | ⟨2, _⟩ => show 0 + 1 * f.val = f.val; omega
  | ⟨3, _⟩ => show 0 + 1 * l.val = l.val; omega

theorem idx0 : ∀ t : Fin grid0.N, cc0_transform_0 (grid0.coords t) = ![t.val, 0] := by decide +kernel
theorem idx1 : ∀ t : Fin grid0.N, cc0_transform_1 (grid0.coords t) = ![t.val, 0] := by decide +kernel
theorem idx2 : ∀ t : Fin grid0.N, cc0_transform_5 (grid0.coords t) = ![t.val, 0] := by decide +kernel

theorem idx (t : Fin (cfgA m).N) :
    (pcfg0.win (adm m) 0).index t = ![t.val, 0] ∧ (pcfg0.win (adm m) 1).index t = ![t.val, 0] ∧ (pcfg0.win (adm m) 2).index t = ![t.val, 0] :=
  ⟨idx0 t, idx1 t, idx2 t⟩

theorem h_read (c : Dev nD) (t : Fin (cfgA m).N) (p : Fin 256) (l : Fin 1024) (r : Fin 45568) (hr : r.val = t.val * 256 + p.val) :
    iblk m c 0 t (ix2 p l) = m ((c : Thread nD τ).loc main_arg0) (ix2 r l) := by
  have ht := lt178 t
  blk_ext! [iblk, V, hr]
  · exact congrArg (· * 256 + p.val) (congrFun (idx m t).1 0)
  · exact (congrArg (· * 1024 + l.val) (congrFun (idx m t).1 1)).trans (by show 0 * 1024 + l.val = l.val; omega)

theorem g_read (c : Dev nD) (t : Fin (cfgA m).N) (p : Fin 256) (l : Fin 128) (r : Fin 45568) (hr : r.val = t.val * 256 + p.val) :
    iblk m c 1 t (ix2 p l) = m ((c : Thread nD τ).loc main_arg1) (ix2 r l) := by
  have ht := lt178 t
  blk_ext! [iblk, V, hr]
  · exact congrArg (· * 256 + p.val) (congrFun (idx m t).2.1 0)
  · exact (congrArg (· * 128 + l.val) (congrFun (idx m t).2.1 1)).trans (by show 0 * 128 + l.val = l.val; omega)

def adm0 : (pcfg0 (F := Ideal)).Adm := ⟨fun k => match k with | ⟨0, _⟩ => fun _ => 0#32 | ⟨1, _⟩ => fun _ => 0#32, trivial⟩

theorem cover0 : ((pcfg0 (F := Ideal)).win adm0 2).Covers := by decide +kernel
theorem cover : ((cfgA m).win 2).Covers := cover0

/-- The tile of a row, and the expert a word names. -/
def tile (r : Fin 45568) : S178.Idx := at0 (r.val / 256) (by omega)
def expert (e : BitVec 32) : Fin 8 := ⟨e.toNat % 8, Nat.mod_lt _ (by decide)⟩

/-- The result at a row and a lane: the layer of the expert of the row's tile, times the row's gate; zero in a tile that is not valid. -/
def moe (x0 : FVec Ideal S45568x1024 .bf16) (x1 : FVec Ideal S45568x128 .f32) (x2 x3 : IVec S178 32)
    (x4 x5 : FVec Ideal S2x8x1024x3584 .f32) (x6 : FVec Ideal S2x8x3584x1024 .f32) (r : Fin 45568) (l : Fin 1024) : EReal :=
  if x3 (tile r) ≠ 0 then
    layer (fun k => x0 (ix2 r k)) (fun k f => x4 (ix4 (0 : Fin 2) (expert (x2 (tile r))) k f))
      (fun k f => x5 (ix4 (0 : Fin 2) (expert (x2 (tile r))) k f)) (fun f => x6 (ix4 (0 : Fin 2) (expert (x2 (tile r))) f l))
      * x1 (ix2 r (0 : Fin 128))
  else 0

/-- The result array. -/
def result (c : Dev nD) : Buf (Elt Ideal) ((c : Thread nD τ).loc main_v0) := fun i : S45568x1024.Idx =>
  moe (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

theorem gate_apply (x : S256x128.Idx → Elt Ideal .f32) (p : Fin 256) :
    gate (F := Ideal) x (ix2 p (0 : Fin 1)) = x (ix2 p (0 : Fin 128)) := by
  refine congrArg x ?_
  funext a
  match a with
  | ⟨0, _⟩ => exact Fin.ext (by show 0 + 1 * p.val = p.val; omega)
  | ⟨1, _⟩ => rfl

theorem zero_apply (i : S256x1024.Idx) : k0_pay3 (F := Ideal) i = 0 := by
  unfold k0_pay3
  pointwise

/-- The body's block of the result at a grid point. -/
theorem block_moe (hok : Ok m) (c : Dev nD) (t : Fin (cfgA m).N) (p : Fin 256) (l : Fin 1024) (r : Fin 45568)
    (hr : r.val = t.val * 256 + p.val) : out m c t (ix2 p l) = result m c (ix2 r l) := by
  have ht := lt178 t
  have e : tile r = at0 t.val ht := by
    unfold tile
    funext a
    match a with
    | ⟨0, _⟩ => exact Fin.ext (by show r.val / 256 = t.val; omega)
  unfold out result moe
  show _ = ite (tv m c (tile r) ≠ 0) _ _
  by_cases h : v1 m c t = 0
  · rw [if_neg (fun h' => (cond2_iff _).mp h' h), if_neg (by rw [e]; exact fun h' => h' h)]
    exact zero_apply _
  have he : (v4 m c t).toNat < 8 := (hok c).lt _ h
  have hx : expert (te m c (tile r)) = ⟨(v4 m c t).toNat, he⟩ := by
    rw [e]
    exact Fin.ext (Nat.mod_eq_of_lt he)
  rw [if_pos ((cond2_iff _).mpr h), if_pos (by rw [e]; exact h)]
  refine (pay2_apply _ _ _ _ _ p l).trans (congrArg₂ (· * ·) ?_ ((gate_apply _ p).trans (g_read m c t p 0 r hr)))
  have h0 := fun k => h_read m c t p k r hr
  have h4 := fun k f => wg_read m c (v4 m c t) he k f
  have h5 := fun k f => wu_read m c (v4 m c t) he k f
  have h6 := fun f => wd_read m c (v4 m c t) he f l
  refine congr (congr (congr (congrArg layer ?_) ?_) ?_) ?_
  · exact funext h0
  · exact funext fun k => funext fun f => (h4 k f).trans (by rw [← hx]; rfl)
  · exact funext fun k => funext fun f => (h5 k f).trans (by rw [← hx]; rfl)
  · exact funext fun f => (h6 f).trans (by rw [← hx]; rfl)

theorem final (hok : Ok m) (c : Dev nD) : (dats m 0 c).arrAt 2 (cfgA m).N = result m c := by
  refine (dats m 0 c).arrAt_eq_of_covers 2 (result m c) (cover m) fun t _ (y : S256x1024.Idx) => ?_
  have ht := lt178 t
  show (dats m 0 c).after 2 t _ = _
  rw [after2]
  have e : ∀ (z : S256x1024.Idx), z = ix2 (z 0) (z 1) := fun z => by
    funext a
    match a with
    | ⟨0, _⟩ => rfl
    | ⟨1, _⟩ => rfl
  refine (congrArg (out m c t) (e _)).trans ?_
  have hy : (y 0).val < 256 := (y 0).isLt
  refine (block_moe m hok c t _ _ ⟨t.val * 256 + (y 0).val, by omega⟩ rfl).trans ?_
  refine congrArg (result m c) ?_
  blk_ext []
  · exact (congrArg (· * 256 + (y 0).val) (congrFun (idx m t).2.2 0)).symm
  · exact ((congrArg (· * 1024 + (y 1).val) (congrFun (idx m t).2.2 1)).trans (by show 0 * 1024 + (y 1).val = (y 1).val; omega)).symm

end Cert.Kernel2Ideal.Gmm
-- ==== Proof.GmmRef.lean ====
/- The reference of the grouped product, at an index: the sum over the experts has one term. -/
module

public import proofs.«01_k».proof.Proof.GmmValue
public import proofs.«01_k».proof.Proof.Gen.Reference2Ideal.Read
public import Idealize.ShloMosaic.Lib.WordCmp

@[expose] public section

set_option maxRecDepth 16384

noncomputable section

namespace Cert.Reference2Ideal.Gmm

open Cert.Reference2Ideal Cert.Reference2Ideal.Gen Cert.Reference2Ideal.Read Idealize.ShloMosaic Idealize.ShloMosaic.TcCoe Idealize.SL.Sem
open Cert.Kernel2Ideal.Gmm (layer moe tile expert at0)

variable (x0 : (⟨S45568x1024, .bf16⟩ : BufTy).Contents (Elt Ideal)) (x1 : (⟨S45568x128, .f32⟩ : BufTy).Contents (Elt Ideal))
  (x2 x3 : (⟨S178, .i32⟩ : BufTy).Contents (Elt Ideal)) (x4 x5 : (⟨S2x8x1024x3584, .f32⟩ : BufTy).Contents (Elt Ideal))
  (x6 : (⟨S2x8x3584x1024, .f32⟩ : BufTy).Contents (Elt Ideal))

/-- The first layer's matrices. -/
theorem wg_apply (e : Fin 8) (k : Fin 1024) (f : Fin 3584) :
    val_main_v23 (F := Ideal) x4 (ix3 e k f) = x4 (ix4 (0 : Fin 2) e k f) := by
  rw [val_main_v23_apply, val_main_v22_apply]
  refine congrArg x4 (funext fun a => Fin.ext ?_)
  match a with
  | ⟨0, _⟩ => rfl
  | ⟨1, _⟩ => show ((e.val * 1024 + k.val) * 3584 + f.val) / 3670016 % 8 = e.val; omega
  | ⟨2, _⟩ => show ((e.val * 1024 + k.val) * 3584 + f.val) / 3584 % 1024 = k.val; omega
  | ⟨3, _⟩ => show ((e.val * 1024 + k.val) * 3584 + f.val) % 3584 = f.val; omega

theorem wu_apply (e : Fin 8) (k : Fin 1024) (f : Fin 3584) :
    val_main_v28 (F := Ideal) x5 (ix3 e k f) = x5 (ix4 (0 : Fin 2) e k f) := wg_apply x5 e k f

theorem wd_apply (e : Fin 8) (f : Fin 3584) (l : Fin 1024) :
    val_main_v33 (F := Ideal) x6 (ix3 e f l) = x6 (ix4 (0 : Fin 2) e f l) := by
  rw [val_main_v33_apply, val_main_v32_apply]
  refine congrArg x6 (funext fun a => Fin.ext ?_)
  match a with
  | ⟨0, _⟩ => rfl
  | ⟨1, _⟩ => show ((e.val * 3584 + f.val) * 1024 + l.val) / 3670016 % 8 = e.val; omega
  | ⟨2, _⟩ => show ((e.val * 3584 + f.val) * 1024 + l.val) / 1024 % 3584 = f.val; omega
  | ⟨3, _⟩ => show ((e.val * 3584 + f.val) * 1024 + l.val) % 1024 = l.val; omega

/-- The two products into the hidden lanes. -/
theorem hid_apply (e : Fin 8) (r : Fin 45568) (f : Fin 3584) :
    val_main_v25 (F := Ideal) x0 x4 (ix3 e r f) = ∑ k : Fin 1024, x0 (ix2 r k) * x4 (ix4 (0 : Fin 2) e k f) := by
  rw [val_main_v25_apply, val_main_v24_apply]
  refine Finset.sum_congr rfl fun k _ => ?_
  refine (mul_comm _ _).trans (congrArg₂ (· * ·) ?_ ?_)
  · exact congrArg x0 (funext fun a => match a with | ⟨0, _⟩ => rfl | ⟨1, _⟩ => rfl)
  · refine Eq.trans ?_ (wg_apply x4 e k f)
    exact congrArg (val_main_v23 (F := Ideal) x4) (funext fun a => match a with | ⟨0, _⟩ => rfl | ⟨1, _⟩ => rfl | ⟨2, _⟩ => rfl)

theorem up_apply (e : Fin 8) (r : Fin 45568) (f : Fin 3584) :
    val_main_v30 (F := Ideal) x0 x5 (ix3 e r f) = ∑ k : Fin 1024, x0 (ix2 r k) * x5 (ix4 (0 : Fin 2) e k f) := hid_apply x0 x5 e r f

theorem one : Ideal.ofBits FTy.f32 0x3F800000#32 = 1 := by
  simp [Ideal.ofBits, Ideal.ieee]
  rw [← EReal.coe_mul]
  norm_num

/-- The gated hidden lanes. -/
theorem act_apply (e : Fin 8) (r : Fin 45568) (f : Fin 3584) :
    val_main_v31 (F := Ideal) x0 x4 x5 (ix3 e r f)
      = (∑ k : Fin 1024, x0 (ix2 r k) * x4 (ix4 (0 : Fin 2) e k f)) * Ideal.logistic (∑ k : Fin 1024, x0 (ix2 r k) * x4 (ix4 (0 : Fin 2) e k f))
        * (∑ k : Fin 1024, x0 (ix2 r k) * x5 (ix4 (0 : Fin 2) e k f)) := by
  rw [val_main_v31_apply, val_main_v26_apply, val_main_call1_v5_apply, val_main_call1_v3_apply, val_main_call1_v4_apply, val_main_call1_v2_apply,
    val_main_call1_v1_apply, val_main_call1_v0_apply, val_main_call1_cst_apply, val_main_call1_cst_0_apply, hid_apply, up_apply]
  show _ * Ideal.div (Ideal.ofBits FTy.f32 0x3F800000#32) (Ideal.ofBits FTy.f32 0x3F800000#32 + Ideal.exp (-_)) * _ = _
  rw [one]
  rfl

/-- Every expert's layer of a row. -/
theorem layer_apply (e : Fin 8) (r : Fin 45568) (l : Fin 1024) :
    val_main_v34 (F := Ideal) x0 x4 x5 x6 (ix3 e r l)
      = layer (fun k => x0 (ix2 r k)) (fun k f => x4 (ix4 (0 : Fin 2) e k f)) (fun k f => x5 (ix4 (0 : Fin 2) e k f))
          (fun f => x6 (ix4 (0 : Fin 2) e f l)) := by
  rw [val_main_v34_apply]
  unfold layer
  refine Finset.sum_congr rfl fun f _ => congrArg₂ (· * ·) ?_ ?_
  · refine Eq.trans ?_ (act_apply x0 x4 x5 e r f)
    exact congrArg (val_main_v31 (F := Ideal) x0 x4 x5) (funext fun a => match a with | ⟨0, _⟩ => rfl | ⟨1, _⟩ => rfl | ⟨2, _⟩ => rfl)
  · refine Eq.trans ?_ (wd_apply x6 e f l)
    exact congrArg (val_main_v33 (F := Ideal) x6) (funext fun a => match a with | ⟨0, _⟩ => rfl | ⟨1, _⟩ => rfl | ⟨2, _⟩ => rfl)

/-- The tables, row by row. -/
theorem te_apply (i : S45568.Idx) : val_main_v3 (F := Ideal) x2 i = x2 (tile (i 0)) := by
  rw [val_main_v3_apply, val_main_v2_apply, val_main_v1_apply]
  refine congrArg x2 (funext fun a => ?_)
  have h : (i 0).val < 45568 := (i 0).isLt
  match a with
  | ⟨0, _⟩ => exact Fin.ext (by first | rfl | (show (i 0).val / 256 % 178 = (i 0).val / 256; omega))

theorem tv_apply (i : S45568.Idx) : val_main_v6 (F := Ideal) x3 i = x3 (tile (i 0)) := te_apply x3 i

/-- The gate of a row for an expert. -/
theorem gate_apply (e : Fin 8) (r : Fin 45568) (l : Fin 1024) :
    val_main_v36 (F := Ideal) x1 x2 x3 (ix3 e r l)
      = if x3 (tile r) ≠ 0 ∧ x2 (tile r) = BitVec.ofNat 32 e.val then x1 (ix2 r (0 : Fin 128)) else 0 := by
  rw [val_main_v36_apply, val_main_v35_apply, val_main_v21_apply, val_main_call0_v1_apply, val_main_call0_v2_apply, val_main_v17_apply,
    val_main_v16_apply, val_main_v15_apply, val_main_v9_apply, val_main_v8_apply, val_main_v13_apply, val_main_v14_apply,
    val_main_v10_apply, te_apply, tv_apply, val_main_v12_apply, val_main_v20_apply, val_main_v19_apply, val_main_v18_apply]
  have hz : Ideal.ofBits FTy.f32 0x00000000#32 = 0 := by simp [Ideal.ofBits, Ideal.ieee]
  have hg : idx_main_v18 (idx_main_v19 (idx_main_v20 (idx_main_call0_v1 (idx_main_v35 (idx_main_v36 (ix3 e r l)))))) = ix2 r (0 : Fin 128) :=
    funext fun a => Fin.ext (by
      have := r.isLt
      match a with
      | ⟨0, _⟩ => show r.val / 1 = r.val; omega
      | ⟨1, _⟩ => rfl)
  rw [hg]
  show Scalar.select (IntOp.andi (IntOp.cmpi .ne (x3 (tile r)) 0#32) (IntOp.cmpi .eq (x2 (tile r)) (BitVec.ofNat 32 e.val)))
    (x1 (ix2 r (0 : Fin 128))) (Ideal.ofBits FTy.f32 0x00000000#32) = _
  rw [hz, WordCmp.cmpi_ne_eq, WordCmp.cmpi_eq_eq, WordCmp.andi_ofBool]
  unfold Scalar.select
  by_cases h : x3 (tile r) ≠ 0 ∧ x2 (tile r) = BitVec.ofNat 32 e.val
  · rw [if_pos h, if_pos (by rw [WordCmp.ofBool_eq_one_iff', Bool.and_eq_true, decide_eq_true_eq, decide_eq_true_eq]; exact h)]
  · rw [if_neg h, if_neg (by rw [WordCmp.ofBool_eq_one_iff', Bool.and_eq_true, decide_eq_true_eq, decide_eq_true_eq]; exact h)]

theorem ref_apply (r : Fin 45568) (l : Fin 1024) (h : x3 (tile r) ≠ 0 → (x2 (tile r)).toNat < 8) :
    val_main_v39 (F := Ideal) x0 x1 x2 x3 x4 x5 x6 (ix2 r l) = moe x0 x1 x2 x3 x4 x5 x6 r l := by
  show val_main_v38 (F := Ideal) x0 x1 x2 x3 x4 x5 x6 (ix2 r l) = _
  rw [val_main_v38_apply]
  have hz : (val_main_cst_0 (F := Ideal)) (Shape.Idx.first h_S_) = 0 := by unfold val_main_cst_0; pointwise
  rw [hz, zero_add]
  have ht : ∀ e : Fin 8, val_main_v37 (F := Ideal) x0 x1 x2 x3 x4 x5 x6 (idx_main_v38 (ix2 r l) e)
      = (if x3 (tile r) ≠ 0 ∧ x2 (tile r) = BitVec.ofNat 32 e.val then x1 (ix2 r (0 : Fin 128)) else 0)
        * layer (fun k => x0 (ix2 r k)) (fun k f => x4 (ix4 (0 : Fin 2) e k f)) (fun k f => x5 (ix4 (0 : Fin 2) e k f))
          (fun f => x6 (ix4 (0 : Fin 2) e f l)) := fun e => by
    have hi : idx_main_v38 (ix2 r l) e = ix3 e r l := funext fun a => match a with | ⟨0, _⟩ => rfl | ⟨1, _⟩ => rfl | ⟨2, _⟩ => rfl
    rw [hi, val_main_v37_apply, gate_apply, layer_apply]
    rfl
  rw [Finset.sum_congr rfl fun e _ => ht e]
  unfold moe
  by_cases hv : x3 (tile r) = 0
  · rw [if_neg (fun h' => h' hv)]
    exact Finset.sum_eq_zero fun e _ => by rw [if_neg (fun h' => h'.1 hv), zero_mul]
  have he := h hv
  have hx : ∀ e : Fin 8, x2 (tile r) = BitVec.ofNat 32 e.val ↔ e = expert (x2 (tile r)) := fun e => by
    rw [← BitVec.toNat_inj, BitVec.toNat_ofNat, Fin.ext_iff]
    unfold expert
    have := e.isLt
    show _ ↔ e.val = (x2 (tile r)).toNat % 8
    omega
  rw [if_pos hv, Finset.sum_eq_single (expert (x2 (tile r)))]
  · rw [if_pos ⟨hv, (hx _).mpr rfl⟩]
    exact mul_comm _ _
  · intro e _ hne
    rw [if_neg (fun h' => hne ((hx e).mp h'.2)), zero_mul]
  · intro hn
    exact absurd (Finset.mem_univ _) hn

end Cert.Reference2Ideal.Gmm

end
-- ==== Proof.NextRun.lean ====
module

public import proofs.«01_k».proof.Proof.GmmStep
public import proofs.«01_k».proof.Proof.Gen.Kernel3Ideal.Skeleton

@[expose] public section

set_option maxRecDepth 65536

noncomputable section

namespace Cert.Kernel3Ideal.Gmm

open Cert.Kernel3Ideal Cert.Kernel3Ideal.Gen Idealize.ShloMosaic Idealize.ShloMosaic.TcCoe
open Idealize.SL
open Idealize.SL.RA Idealize.SL.Sem Idealize.SL.ProofMode
open Idealize.SL.BI (sProp bigSep)
open scoped Idealize.SL.BI
open Idealize.SL.BI.BIBase Idealize.SL.BI.Laws

variable {F : FTy → Type} [FloatOps F] {U : Type} [URA U] [CountersIn U]

local notation "𝕄" => MT nD τ sig Unit (Elt F) ℕ U ℕ

/-- The matrix of one expert in a stack of them. -/
abbrev blk3 (arg5 : Memref sig .tc .hbm S2x8x1024x3584 .f32) (v4 : BitVec 32)
    (h : ∀ a, (k0_off3 v4) a + S1x1x1024x3584.size a ≤ S2x8x1024x3584.size a) : Memref sig .tc .hbm S1024x3584 .f32 :=
  (arg5.slice (Rect.unit (s := S2x8x1024x3584) (k0_off3 v4) S1x1x1024x3584.size h) (fun _ => rfl)).squeeze S1024x3584 squeezes_S1x1x1024x3584_S1024x3584

/-- The down projection's matrix of one expert. -/
abbrev blk4 (arg7 : Memref sig .tc .hbm S2x8x3584x1024 .f32) (v4 : BitVec 32)
    (h : ∀ a, (k0_off4 v4) a + S1x1x3584x1024.size a ≤ S2x8x3584x1024.size a) : Memref sig .tc .hbm S3584x1024 .f32 :=
  (arg7.slice (Rect.unit (s := S2x8x3584x1024) (k0_off4 v4) S1x1x3584x1024.size h) (fun _ => rfl)).squeeze S3584x1024 squeezes_S1x1x3584x1024_S3584x1024

/-- One expert's matrix, rounded. -/
abbrev cut3 (arg5 : Memref sig .tc .hbm S2x8x1024x3584 .f32) (v4 : BitVec 32)
    (h : ∀ a, (k0_off3 v4) a + S1x1x1024x3584.size a ≤ S2x8x1024x3584.size a) (c : Dev nD)
    (w : Buf (Elt F) (arg5.view.loc (c.tc : Thread nD τ))) : S1024x3584.Idx → Elt F .bf16 :=
  fun x => FloatOps.truncf .bf16 (by decide) ((blk3 arg5 v4 h).view.read (Elt F) w x)

/-- One expert's down projection, rounded. -/
abbrev cut4 (arg7 : Memref sig .tc .hbm S2x8x3584x1024 .f32) (v4 : BitVec 32)
    (h : ∀ a, (k0_off4 v4) a + S1x1x3584x1024.size a ≤ S2x8x3584x1024.size a) (c : Dev nD)
    (w : Buf (Elt F) (arg7.view.loc (c.tc : Thread nD τ))) : S3584x1024.Idx → Elt F .bf16 :=
  fun x => FloatOps.truncf .bf16 (by decide) ((blk4 arg7 v4 h).view.read (Elt F) w x)

/-- What is said of the three weight buffers' contents. -/
abbrev Said (F : FTy → Type) [FloatOps F] : Type :=
  (S1024x3584.Idx → Elt F .bf16) → (S1024x3584.Idx → Elt F .bf16) → (S3584x1024.Idx → Elt F .bf16) → Prop

section

variable (i : grid0.Coords) (arg1 : Memref sig .tc .smem S178 .i32) (harg1 : arg1.IsWhole) (arg2 : Memref sig .tc .smem S178 .i32) (harg2 : arg2.IsWhole) (arg3 : Memref sig .tc .vmem S256x1024 .bf16) (harg3 : arg3.IsWhole) (arg4 : Memref sig .tc .vmem S256x128 .f32) (harg4 : arg4.IsWhole) (arg5 : Memref sig .tc .hbm S2x8x1024x3584 .f32) (harg5 : arg5.IsWhole) (arg6 : Memref sig .tc .hbm S2x8x1024x3584 .f32) (harg6 : arg6.IsWhole) (arg7 : Memref sig .tc .hbm S2x8x3584x1024 .f32) (harg7 : arg7.IsWhole) (arg8 : Memref sig .tc .vmem S256x1024 .bf16) (harg8 : arg8.IsWhole) (arg9 : Memref sig .tc .vmem S1024x3584 .bf16) (harg9 : arg9.IsWhole) (arg10 : Memref sig .tc .vmem S1024x3584 .bf16) (harg10 : arg10.IsWhole) (arg11 : Memref sig .tc .vmem S3584x1024 .bf16) (harg11 : arg11.IsWhole) (alloca_r0 : Memref sig .tc .vmem S6x64x3584 .f32) (halloca_r0 : alloca_r0.IsWhole) (v20_r0 : DmaSems sig S6) (alloca_r1 : Memref sig .tc .vmem S6x64x3584 .f32) (halloca_r1 : alloca_r1.IsWhole) (v20_r1 : DmaSems sig S6) (alloca_r2 : Memref sig .tc .vmem S6x224x1024 .f32) (halloca_r2 : alloca_r2.IsWhole) (v20_r2 : DmaSems sig S6)
variable {v1 v4 v9 : BitVec 32}

/-- The three weight buffers, of contents of which `S` is said. -/
def scr (c : Dev nD) (S : Said F) : sProp 𝕄 :=
  iprop(∃ x y z, ⌜S x y z⌝ ∗ owns (c.tc : Thread nD τ) arg9 fullShare x ∗ owns (c.tc : Thread nD τ) arg10 fullShare y
    ∗ owns (c.tc : Thread nD τ) arg11 fullShare z)

/-- The three rings at rest. -/
def idles (c : Dev nD) : sProp 𝕄 :=
  iprop(GmmStep.Idle alloca_r0 v20_r0 squeezes_S1_S_ c ∗ GmmStep.Idle alloca_r1 v20_r1 squeezes_S1_S_ c
    ∗ GmmStep.Idle alloca_r2 v20_r2 squeezes_S1_S_ c)

/-- The three stacks of weights. -/
def wts (c : Dev nD) (w5 : Buf (Elt F) (arg5.view.loc (c.tc : Thread nD τ)))
    (w6 : Buf (Elt F) (arg6.view.loc (c.tc : Thread nD τ)))
    (w7 : Buf (Elt F) (arg7.view.loc (c.tc : Thread nD τ))) : sProp 𝕄 :=
  iprop((arg5.view.loc (c.tc : Thread nD τ) ↦{fullShare} w5) ∗ (arg6.view.loc (c.tc : Thread nD τ) ↦{fullShare} w6)
    ∗ (arg7.view.loc (c.tc : Thread nD τ) ↦{fullShare} w7))

/-- What the streams work on. -/
def Work (c : Dev nD) (w5 : Buf (Elt F) (arg5.view.loc (c.tc : Thread nD τ)))
    (w6 : Buf (Elt F) (arg6.view.loc (c.tc : Thread nD τ)))
    (w7 : Buf (Elt F) (arg7.view.loc (c.tc : Thread nD τ))) (S : Said F) : sProp 𝕄 :=
  iprop(idles alloca_r0 v20_r0 alloca_r1 v20_r1 alloca_r2 v20_r2 c ∗ wts arg5 arg6 arg7 c w5 w6 w7
    ∗ (∃ W, owes (c.tc : Thread nD τ) 0 W) ∗ scr arg9 arg10 arg11 c S)

include harg9 harg10 harg11 halloca_r0 halloca_r1 halloca_r2 in
set_option maxHeartbeats 400000 in
/-- The streams' branch: it leaves the three buffers holding the expert's matrices. -/
theorem branch {defs : Defs nD τ sig (Elt F) Λ₀} {𝒱 : Variants} (c : Dev nD)
    (w5 : Buf (Elt F) (arg5.view.loc (c.tc : Thread nD τ)))
    (w6 : Buf (Elt F) (arg6.view.loc (c.tc : Thread nD τ)))
    (w7 : Buf (Elt F) (arg7.view.loc (c.tc : Thread nD τ))) (h3) (h4)
    {R : sProp 𝕄} {S S' : Said F} (hS : S' (cut3 arg5 v4 h3 c w5) (cut3 arg6 v4 h3 c w6) (cut4 arg7 v4 h4 c w7))
    {Q : PUnit → sProp 𝕄} {X : sProp 𝕄} {prog : Prog (TpuEff nD τ sig (Elt F) Λ₀ .tc) PUnit}
    (hp : ∀ (P R1 R2 R3 : sProp 𝕄)
      (e0 : P ⊢ GmmStep.St alloca_r0 v20_r0 (blk3 arg5 v4 h3) arg9 squeezes_S1x64x3584_S64x3584 squeezes_S1_S_ c w5 GmmStep.dl R1 0 0 0)
      (e1 : GmmStep.St alloca_r0 v20_r0 (blk3 arg5 v4 h3) arg9 squeezes_S1x64x3584_S64x3584 squeezes_S1_S_ c w5 GmmStep.dl R1 16 16 16
        ⊢ GmmStep.St alloca_r1 v20_r1 (blk3 arg6 v4 h3) arg10 squeezes_S1x64x3584_S64x3584 squeezes_S1_S_ c w6 GmmStep.dl R2 0 0 0)
      (e2 : GmmStep.St alloca_r1 v20_r1 (blk3 arg6 v4 h3) arg10 squeezes_S1x64x3584_S64x3584 squeezes_S1_S_ c w6 GmmStep.dl R2 16 16 16
        ⊢ GmmStep.St alloca_r2 v20_r2 (blk4 arg7 v4 h4) arg11 squeezes_S1x224x1024_S224x1024 squeezes_S1_S_ c w7 GmmStep.dl R3 0 0 0)
      (e3 : GmmStep.St alloca_r2 v20_r2 (blk4 arg7 v4 h4) arg11 squeezes_S1x224x1024_S224x1024 squeezes_S1_S_ c w7 GmmStep.dl R3 16 16 16 ⊢ X),
      P ⊢ wp frame (wpE defs 𝒱 c.tc none) Set.univ prog Q)
    (hQ : iprop(R ∗ Work arg5 arg6 arg7 arg9 arg10 arg11 alloca_r0 v20_r0 alloca_r1 v20_r1 alloca_r2 v20_r2 c w5 w6 w7 S') ⊢ X) :
    iprop(R ∗ Work arg5 arg6 arg7 arg9 arg10 arg11 alloca_r0 v20_r0 alloca_r1 v20_r1 alloca_r2 v20_r2 c w5 w6 w7 S)
      ⊢ wp frame (wpE defs 𝒱 c.tc none) Set.univ prog Q := by
  refine hp _
    iprop(R ∗ GmmStep.Idle alloca_r1 v20_r1 squeezes_S1_S_ c ∗ GmmStep.Idle alloca_r2 v20_r2 squeezes_S1_S_ c
      ∗ (arg6.view.loc (c.tc : Thread nD τ) ↦{fullShare} w6) ∗ (arg7.view.loc (c.tc : Thread nD τ) ↦{fullShare} w7)
      ∗ (∃ y, owns (c.tc : Thread nD τ) arg10 fullShare y) ∗ (∃ z, owns (c.tc : Thread nD τ) arg11 fullShare z))
    iprop(R ∗ GmmStep.Idle alloca_r0 v20_r0 squeezes_S1_S_ c ∗ GmmStep.Idle alloca_r2 v20_r2 squeezes_S1_S_ c
      ∗ (arg5.view.loc (c.tc : Thread nD τ) ↦{fullShare} w5) ∗ (arg7.view.loc (c.tc : Thread nD τ) ↦{fullShare} w7)
      ∗ (owns (c.tc : Thread nD τ) arg9 fullShare (cut3 arg5 v4 h3 c w5)) ∗ (∃ z, owns (c.tc : Thread nD τ) arg11 fullShare z))
    iprop(R ∗ GmmStep.Idle alloca_r0 v20_r0 squeezes_S1_S_ c ∗ GmmStep.Idle alloca_r1 v20_r1 squeezes_S1_S_ c
      ∗ (arg5.view.loc (c.tc : Thread nD τ) ↦{fullShare} w5) ∗ (arg6.view.loc (c.tc : Thread nD τ) ↦{fullShare} w6)
      ∗ (owns (c.tc : Thread nD τ) arg9 fullShare (cut3 arg5 v4 h3 c w5)) ∗ (owns (c.tc : Thread nD τ) arg10 fullShare (cut3 arg6 v4 h3 c w6)))
    ?_ ?_ ?_ ?_
  · unfold Work idles wts scr
    iintro ⟨HR, ⟨I0, I1, I2⟩, ⟨H5, H6, H7⟩, HW, ⟨%x, %y, %z, %hs, H9, H10, H11⟩⟩
    iapply (GmmStep.St_start' alloca_r0 v20_r0 (blk3 arg5 v4 h3) arg9 _ _ c w5 halloca_r0 harg9 (X := x))
    isplitr [I0 H5 HW H9]
    · isplitl [HR]; · iexact HR
      isplitl [I1]; · iexact I1
      isplitl [I2]; · iexact I2
      isplitl [H6]; · iexact H6
      isplitl [H7]; · iexact H7
      isplitl [H10]
      · iexists y; iexact H10
      · iexists z; iexact H11
    isplitl [I0]; · iexact I0
    isplitl [H5]; · iexact H5
    isplitl [HW]; · iexact HW
    iexact H9
  · refine (GmmStep.St_finish' alloca_r0 v20_r0 (blk3 arg5 v4 h3) arg9 _ _ c w5 halloca_r0 harg9 (by decide)).trans ?_
    iintro ⟨⟨HR, I1, I2, H6, H7, ⟨%y, H10⟩, H11⟩, I0, H5, HW, H9⟩
    iapply (GmmStep.St_start' alloca_r1 v20_r1 (blk3 arg6 v4 h3) arg10 _ _ c w6 halloca_r1 harg10 (X := y))
    isplitr [I1 H6 HW H10]
    · isplitl [HR]; · iexact HR
      isplitl [I0]; · iexact I0
      isplitl [I2]; · iexact I2
      isplitl [H5]; · iexact H5
      isplitl [H7]; · iexact H7
      isplitl [H9]; · iexact H9
      iexact H11
    isplitl [I1]; · iexact I1
    isplitl [H6]; · iexact H6
    isplitl [HW]; · iexact HW
    iexact H10
  · refine (GmmStep.St_finish' alloca_r1 v20_r1 (blk3 arg6 v4 h3) arg10 _ _ c w6 halloca_r1 harg10 (by decide)).trans ?_
    iintro ⟨⟨HR, I0, I2, H5, H7, H9, ⟨%z, H11⟩⟩, I1, H6, HW, H10⟩
    iapply (GmmStep.St_start' alloca_r2 v20_r2 (blk4 arg7 v4 h4) arg11 _ _ c w7 halloca_r2 harg11 (X := z))
    isplitr [I2 H7 HW H11]
    · isplitl [HR]; · iexact HR
      isplitl [I0]; · iexact I0
      isplitl [I1]; · iexact I1
      isplitl [H5]; · iexact H5
      isplitl [H6]; · iexact H6
      isplitl [H9]; · iexact H9
      iexact H10
    isplitl [I2]; · iexact I2
    isplitl [H7]; · iexact H7
    isplitl [HW]; · iexact HW
    iexact H11
  · refine (GmmStep.St_finish' alloca_r2 v20_r2 (blk4 arg7 v4 h4) arg11 _ _ c w7 halloca_r2 harg11 (by decide)).trans (.trans ?_ hQ)
    unfold Work idles wts scr
    iintro ⟨⟨HR, I0, I1, H5, H6, H9, H10⟩, I2, H7, HW, H11⟩
    isplitl [HR]; · iexact HR
    isplitl [I0 I1 I2]
    · isplitl [I0]; · iexact I0
      isplitl [I1]; · iexact I1
      iexact I2
    isplitl [H5 H6 H7]
    · isplitl [H5]; · iexact H5
      isplitl [H6]; · iexact H6
      iexact H7
    isplitl [HW]; · iexact HW
    iexists _, _, _
    isplitr
    rotate_left
    · isplitl [H9]; · iexact H9
      isplitl [H10]; · iexact H10
      iexact H11
    · ipureintro; exact hS

theorem cond3_iff : k0_cond3 v1 = 1#1 ↔ ¬ k0_cond2 v1 = 1#1 := by
  show Scalar.cmpi .ne (Scalar.extui (Scalar.xori (Scalar.cmpi .ne v1 0#32) 1#1) : BitVec 32) 0#32 = 1#1
    ↔ ¬ Scalar.cmpi .ne (Scalar.extui (Scalar.cmpi .ne v1 0#32) : BitVec 32) 0#32 = 1#1
  generalize Scalar.cmpi .ne v1 0#32 = b
  revert b
  decide

/-- The column of gates the body reads. -/
abbrev gate (x4 : S256x128.Idx → Elt F .f32) : Vec F S256x1 .f32 :=
  fun j => x4 ((Rect.unit (s := S256x128) ![0, 0] S256x1.size inb_S256x128_S256x1_0_0).emb j)

theorem emb_full {d : Fin 2 → ℕ} {inb : ∀ a, (![0, 0] : Fin 2 → ℕ) a + d a ≤ (⟨2, d⟩ : Shape).size a} (j : (⟨2, d⟩ : Shape).Idx) :
    (Rect.unit (s := ⟨2, d⟩) ![0, 0] d inb).emb j = j := by
  funext a
  match a with
  | ⟨0, _⟩ => exact Fin.ext (by show 0 + 1 * (j 0).val = (j 0).val; omega)
  | ⟨1, _⟩ => exact Fin.ext (by show 0 + 1 * (j 1).val = (j 1).val; omega)

include harg3 harg4 harg8 harg9 harg10 harg11 in
set_option maxHeartbeats 400000 in
/-- The rows' branches: the block is the expert's layer of its rows, or zero. -/
theorem rows {defs : Defs nD τ sig (Elt F) Λ₀} {𝒱 : Variants} (c : Dev nD) {S : Said F}
    (x3 : S256x1024.Idx → Elt F .bf16) (x4 : S256x128.Idx → Elt F .f32) (out : S256x1024.Idx → Elt F .bf16)
    (hpos : k0_cond2 v1 = 1#1 → ∀ x y z, S x y z → k0_pay2 x3 x y z (gate x4) = out)
    (hneg : ¬ k0_cond2 v1 = 1#1 → k0_pay3 = out)
    {R : sProp 𝕄} {Q : PUnit → sProp 𝕄}
    (hQ : iprop(R ∗ owns (c.tc : Thread nD τ) arg3 fullShare x3 ∗ owns (c.tc : Thread nD τ) arg4 fullShare x4
      ∗ owns (c.tc : Thread nD τ) arg8 fullShare out ∗ scr arg9 arg10 arg11 c S) ⊢ Q ⟨⟩) :
    iprop(R ∗ owns (c.tc : Thread nD τ) arg3 fullShare x3 ∗ owns (c.tc : Thread nD τ) arg4 fullShare x4
      ∗ (∃ y, owns (c.tc : Thread nD τ) arg8 fullShare y) ∗ scr arg9 arg10 arg11 c S)
    ⊢ wp frame (wpE defs 𝒱 c.tc none) Set.univ (do
      if k0_h2 : k0_cond2 v1 = 1#1 then do
        let v20 : Vec F S256x1024 .bf16 ← Prog.lift (.load arg3 (Rect.unit (s := S256x1024) ![0, 0] S256x1024.size inb_S256x1024_S256x1024_0_0).toLoadRect (View.loadsAt_vmem h_S256x1024))
        let v21 : Vec F S1024x3584 .bf16 ← Prog.lift (.load arg9 (Rect.unit (s := S1024x3584) ![0, 0] S1024x3584.size inb_S1024x3584_S1024x3584_0_0).toLoadRect (View.loadsAt_vmem h_S1024x3584))
        let v25 : Vec F S1024x3584 .bf16 ← Prog.lift (.load arg10 (Rect.unit (s := S1024x3584) ![0, 0] S1024x3584.size inb_S1024x3584_S1024x3584_0_0).toLoadRect (View.loadsAt_vmem h_S1024x3584))
        let v29 : Vec F S3584x1024 .bf16 ← Prog.lift (.load arg11 (Rect.unit (s := S3584x1024) ![0, 0] S3584x1024.size inb_S3584x1024_S3584x1024_0_0).toLoadRect (View.loadsAt_vmem h_S3584x1024))
        let v31 : Vec F S256x1 .f32 ← Prog.lift (.load arg4 (Rect.unit (s := S256x128) ![0, 0] S256x1.size inb_S256x128_S256x1_0_0).toLoadRect (View.loadsAt_vmem h_S256x1))
        let v35 : Vec F S256x1024 .bf16 ← Prog.lift (.load arg8 (Rect.unit (s := S256x1024) ![0, 0] S256x1024.size inb_S256x1024_S256x1024_0_0).toLoadRect (View.loadsAt_vmem h_S256x1024))
        Prog.lift (.store arg8 (Rect.unit (s := S256x1024) ![0, 0] S256x1024.size inb_S256x1024_S256x1024_0_0) (k0_pay2 v20 v21 v25 v29 v31) Finset.univ (View.stores_vmem h_S256x1024 (harg8.storeExact_slice rfl _ packedbf16_S256x1024_S256x1024_0_0) (fun _ => rfl)) (.inl rfl))
        pure ⟨⟩
      else do
        pure ⟨⟩
      if k0_h3 : k0_cond3 v1 = 1#1 then do
        let v21 : Vec F S256x1024 .bf16 ← Prog.lift (.load arg8 (Rect.unit (s := S256x1024) ![0, 0] S256x1024.size inb_S256x1024_S256x1024_0_0).toLoadRect (View.loadsAt_vmem h_S256x1024))
        Prog.lift (.store arg8 (Rect.unit (s := S256x1024) ![0, 0] S256x1024.size inb_S256x1024_S256x1024_0_0) (k0_pay3 (F := F)) Finset.univ (View.stores_vmem h_S256x1024 (harg8.storeExact_slice rfl _ packedbf16_S256x1024_S256x1024_0_0) (fun _ => rfl)) (.inl rfl))
        pure ⟨⟩
      else do
        pure ⟨⟩
      pure ⟨⟩) Q := by
  by_cases h2 : k0_cond2 v1 = 1#1
  · have h3 : ¬ k0_cond3 v1 = 1#1 := fun h => cond3_iff.mp h h2
    refine exec_dif_pos _ _ _ _ _ _ _ h2 ?_
    unfold scr
    iintro ⟨HR, H3, H4, ⟨%y, H8⟩, ⟨%a, %b, %d, %hs, H9, H10, H11⟩⟩
    iapply (GmmStep.own_load c harg3) $$ H3
    iintro H3
    iapply (GmmStep.own_load c harg9) $$ H9
    iintro H9
    iapply (GmmStep.own_load c harg10) $$ H10
    iintro H10
    iapply (GmmStep.own_load c harg11) $$ H11
    iintro H11
    iapply (GmmStep.own_load c harg4) $$ H4
    iintro H4
    iapply (GmmStep.own_load c harg8) $$ H8
    iintro H8
    simp only [emb_full]
    iapply (GmmStep.own_store c harg8 (by decide)) $$ H8
    iintro H8
    have hp := hpos h2 a b d hs
    subst hp
    iapply (exec_dif_neg _ _ _ _ _ _ _ h3 (hQ.trans (le_wp_ret _ _ _ _ _)))
    isplitl [HR]; · iexact HR
    isplitl [H3]; · iexact H3
    isplitl [H4]; · iexact H4
    isplitl [H8]; · iexact H8
    unfold scr
    iexists a, b, d
    isplitr
    · ipureintro; exact hs
    isplitl [H9]; · iexact H9
    isplitl [H10]; · iexact H10
    iexact H11
  · have h3 : k0_cond3 v1 = 1#1 := cond3_iff.mpr h2
    refine exec_dif_neg _ _ _ _ _ _ _ h2 ?_
    refine exec_dif_pos _ _ _ _ _ _ _ h3 ?_
    iintro ⟨HR, H3, H4, ⟨%y, H8⟩, HS⟩
    iapply (GmmStep.own_load c harg8) $$ H8
    iintro H8
    iapply (GmmStep.own_store c harg8 (by decide)) $$ H8
    iintro H8
    have hp := hneg h2
    subst hp
    iapply (hQ.trans (le_wp_ret _ _ _ _ _))
    isplitl [HR]; · iexact HR
    isplitl [H3]; · iexact H3
    isplitl [H4]; · iexact H4
    isplitl [H8]; · iexact H8
    iexact HS

theorem word {defs : Defs nD τ sig (Elt F) Λ₀} {𝒱 : Variants} (c : Dev nD) {s : Shape} {e : EltTy} {m : Memref sig .tc .smem s e}
    {r : Rect s} {h1 : r.shape.numel = 1} {hp : e.packing = 1} {q : PosShare TreeShare} {f : Buf (Elt F) (m.view.loc (c.tc : Thread nD τ))}
    {v : Elt F e} (hv : (m.access r).read (Elt F) f (Shape.Idx.first (h1.symm ▸ Nat.one_pos)) = v)
    {α : Type} {k : Elt F e → Prog (TpuEff nD τ sig (Elt F) Λ₀ .tc) α} {R : sProp 𝕄} {Q : α → sProp 𝕄}
    (h : iprop((m.view.loc (c.tc : Thread nD τ) ↦{q} f) ∗ R) ⊢ wp frame (wpE defs 𝒱 c.tc none) Set.univ (k v) Q) :
    iprop((m.view.loc (c.tc : Thread nD τ) ↦{q} f) ∗ R) ⊢ wp frame (wpE defs 𝒱 c.tc none) Set.univ (smemLoad m r h1 hp >>= k) Q := by
  subst hv
  iintro ⟨H, HR⟩
  iapply (wp_smemLoadElt 𝒱 c.tc none Set.univ (m := m) (r := r) (hw := View.loads_smem_one hp h1)
    (x := Shape.Idx.first (h1.symm ▸ Nat.one_pos)) (k := k) (S := Finset.univ) (Finset.subset_univ _)) $$ [H]
  · iexact H
  iintro H
  iapply h
  isplitl [H]; · iexact H
  iexact HR

end

end Cert.Kernel3Ideal.Gmm
-- ==== Proof.NextBody.lean ====
module

public import proofs.«01_k».proof.Proof.NextRun

@[expose] public section

set_option maxRecDepth 65536

noncomputable section

namespace Cert.Kernel3Ideal.Gmm

open Cert.Kernel3Ideal Cert.Kernel3Ideal.Gen Idealize.ShloMosaic Idealize.ShloMosaic.TcCoe
open Idealize.SL
open Idealize.SL.RA Idealize.SL.Sem Idealize.SL.ProofMode
open Idealize.SL.BI (sProp bigSep)
open scoped Idealize.SL.BI
open Idealize.SL.BI.BIBase Idealize.SL.BI.Laws

variable {F : FTy → Type} [FloatOps F] {U : Type} [URA U] [CountersIn U]

local notation "𝕄" => MT nD τ sig Unit (Elt F) ℕ U ℕ

section

variable (i : grid0.Coords) (arg1 : Memref sig .tc .smem S178 .i32) (harg1 : arg1.IsWhole) (arg2 : Memref sig .tc .smem S178 .i32) (harg2 : arg2.IsWhole) (arg3 : Memref sig .tc .vmem S256x1024 .bf16) (harg3 : arg3.IsWhole) (arg4 : Memref sig .tc .vmem S256x128 .f32) (harg4 : arg4.IsWhole) (arg5 : Memref sig .tc .hbm S2x8x1024x3584 .f32) (harg5 : arg5.IsWhole) (arg6 : Memref sig .tc .hbm S2x8x1024x3584 .f32) (harg6 : arg6.IsWhole) (arg7 : Memref sig .tc .hbm S2x8x3584x1024 .f32) (harg7 : arg7.IsWhole) (arg8 : Memref sig .tc .vmem S256x1024 .bf16) (harg8 : arg8.IsWhole) (arg9 : Memref sig .tc .vmem S1024x3584 .bf16) (harg9 : arg9.IsWhole) (arg10 : Memref sig .tc .vmem S1024x3584 .bf16) (harg10 : arg10.IsWhole) (arg11 : Memref sig .tc .vmem S3584x1024 .bf16) (harg11 : arg11.IsWhole) (alloca_r0 : Memref sig .tc .vmem S6x64x3584 .f32) (halloca_r0 : alloca_r0.IsWhole) (v20_r0 : DmaSems sig S6) (alloca_r1 : Memref sig .tc .vmem S6x64x3584 .f32) (halloca_r1 : alloca_r1.IsWhole) (v20_r1 : DmaSems sig S6) (alloca_r2 : Memref sig .tc .vmem S6x224x1024 .f32) (halloca_r2 : alloca_r2.IsWhole) (v20_r2 : DmaSems sig S6)
variable {v1 v4 v9 : BitVec 32}

set_option maxHeartbeats 400000 in
/-- The body at one tile. -/
theorem body {defs : Defs nD τ sig (Elt F) Λ₀} {𝒱 : Variants} (c : Dev nD)
    (w5 : Buf (Elt F) (arg5.view.loc (c.tc : Thread nD τ)))
    (w6 : Buf (Elt F) (arg6.view.loc (c.tc : Thread nD τ)))
    (w7 : Buf (Elt F) (arg7.view.loc (c.tc : Thread nD τ))) {S S' : Said F}
    (x3 : S256x1024.Idx → Elt F .bf16) (x4 : S256x128.Idx → Elt F .f32) (out : S256x1024.Idx → Elt F .bf16)
    {q1 q2 : PosShare TreeShare} {f1 : Buf (Elt F) (arg1.view.loc (c.tc : Thread nD τ))}
    {f2 : Buf (Elt F) (arg2.view.loc (c.tc : Thread nD τ))}
    (hv1 : (arg2.access (Rect.unit (s := S178) (k0_off1 i) S1.size (k0_off1_inb i))).read (Elt F) f2
      (Shape.Idx.first (numel1_S1.symm ▸ Nat.one_pos)) = v1)
    (hv4 : (arg1.access (Rect.unit (s := S178) (k0_off1 i) S1.size (k0_off1_inb i))).read (Elt F) f1
      (Shape.Idx.first (numel1_S1.symm ▸ Nat.one_pos)) = v4)
    (hv9 : (arg1.access (Rect.unit (s := S178) (k0_off2 i) S1.size (k0_off2_inb i))).read (Elt F) f1
      (Shape.Idx.first (numel1_S1.symm ▸ Nat.one_pos)) = v9)
    (hc : k0_chk1 i v1 v4 v9)
    (hload : k0_cond1 i v1 v4 v9 = 1#1 → ∀ h3 h4, S' (cut3 arg5 v4 h3 c w5) (cut3 arg6 v4 h3 c w6) (cut4 arg7 v4 h4 c w7))
    (hkeep : ¬ k0_cond1 i v1 v4 v9 = 1#1 → ∀ x y z, S x y z → S' x y z)
    (hpos : k0_cond2 v1 = 1#1 → ∀ x y z, S' x y z → k0_pay2 x3 x y z (gate x4) = out)
    (hneg : ¬ k0_cond2 v1 = 1#1 → k0_pay3 = out)
    {R : sProp 𝕄} {Q : PUnit → sProp 𝕄}
    (hQ : iprop((arg2.view.loc (c.tc : Thread nD τ) ↦{q2} f2) ∗ (arg1.view.loc (c.tc : Thread nD τ) ↦{q1} f1) ∗ R
      ∗ owns (c.tc : Thread nD τ) arg3 fullShare x3 ∗ owns (c.tc : Thread nD τ) arg4 fullShare x4
      ∗ owns (c.tc : Thread nD τ) arg8 fullShare out
      ∗ Work arg5 arg6 arg7 arg9 arg10 arg11 alloca_r0 v20_r0 alloca_r1 v20_r1 alloca_r2 v20_r2 c w5 w6 w7 S') ⊢ Q ⟨⟩) :
    iprop((arg2.view.loc (c.tc : Thread nD τ) ↦{q2} f2) ∗ (arg1.view.loc (c.tc : Thread nD τ) ↦{q1} f1) ∗ R
      ∗ owns (c.tc : Thread nD τ) arg3 fullShare x3 ∗ owns (c.tc : Thread nD τ) arg4 fullShare x4
      ∗ (∃ y, owns (c.tc : Thread nD τ) arg8 fullShare y)
      ∗ Work arg5 arg6 arg7 arg9 arg10 arg11 alloca_r0 v20_r0 alloca_r1 v20_r1 alloca_r2 v20_r2 c w5 w6 w7 S)
    ⊢ wp frame (wpE defs 𝒱 c.tc none) Set.univ (cc0_moe_gmm i arg1 harg1 arg2 harg2 arg3 harg3 arg4 harg4 arg5 harg5 arg6 harg6 arg7 harg7 arg8 harg8 arg9 harg9 arg10 harg10 arg11 harg11 alloca_r0 halloca_r0 v20_r0 alloca_r1 halloca_r1 v20_r1 alloca_r2 halloca_r2 v20_r2) Q := by
  rw [cc0_moe_gmm_eq_skeleton]; unfold cc0_moe_gmm_skel
  refine word c hv1 ?_
  refine .trans (by iintro ⟨H2, H1, H⟩; isplitl [H1]; · iexact H1
                    isplitl [H2]; · iexact H2
                    iexact H) (word c hv4 (word c hv9 ?_) : iprop((arg1.view.loc (c.tc : Thread nD τ) ↦{q1} f1)
      ∗ (arg2.view.loc (c.tc : Thread nD τ) ↦{q2} f2) ∗ R
      ∗ owns (c.tc : Thread nD τ) arg3 fullShare x3 ∗ owns (c.tc : Thread nD τ) arg4 fullShare x4
      ∗ (∃ y, owns (c.tc : Thread nD τ) arg8 fullShare y)
      ∗ Work arg5 arg6 arg7 arg9 arg10 arg11 alloca_r0 v20_r0 alloca_r1 v20_r1 alloca_r2 v20_r2 c w5 w6 w7 S) ⊢ _)
  refine exec_assume _ _ _ _ _ _ hc ?_
  have hrest : iprop((iprop((arg1.view.loc (c.tc : Thread nD τ) ↦{q1} f1)
      ∗ (arg2.view.loc (c.tc : Thread nD τ) ↦{q2} f2) ∗ R
      ∗ owns (c.tc : Thread nD τ) arg3 fullShare x3 ∗ owns (c.tc : Thread nD τ) arg4 fullShare x4
      ∗ (∃ y, owns (c.tc : Thread nD τ) arg8 fullShare y)))
      ∗ Work arg5 arg6 arg7 arg9 arg10 arg11 alloca_r0 v20_r0 alloca_r1 v20_r1 alloca_r2 v20_r2 c w5 w6 w7 S') ⊢ wp frame (wpE defs 𝒱 c.tc none) Set.univ (do
      if k0_h2 : k0_cond2 v1 = 1#1 then do
        let v20 : Vec F S256x1024 .bf16 ← Prog.lift (.load arg3 (Rect.unit (s := S256x1024) ![0, 0] S256x1024.size inb_S256x1024_S256x1024_0_0).toLoadRect (View.loadsAt_vmem h_S256x1024))
        let v21 : Vec F S1024x3584 .bf16 ← Prog.lift (.load arg9 (Rect.unit (s := S1024x3584) ![0, 0] S1024x3584.size inb_S1024x3584_S1024x3584_0_0).toLoadRect (View.loadsAt_vmem h_S1024x3584))
        let v25 : Vec F S1024x3584 .bf16 ← Prog.lift (.load arg10 (Rect.unit (s := S1024x3584) ![0, 0] S1024x3584.size inb_S1024x3584_S1024x3584_0_0).toLoadRect (View.loadsAt_vmem h_S1024x3584))
        let v29 : Vec F S3584x1024 .bf16 ← Prog.lift (.load arg11 (Rect.unit (s := S3584x1024) ![0, 0] S3584x1024.size inb_S3584x1024_S3584x1024_0_0).toLoadRect (View.loadsAt_vmem h_S3584x1024))
        let v31 : Vec F S256x1 .f32 ← Prog.lift (.load arg4 (Rect.unit (s := S256x128) ![0, 0] S256x1.size inb_S256x128_S256x1_0_0).toLoadRect (View.loadsAt_vmem h_S256x1))
        let v35 : Vec F S256x1024 .bf16 ← Prog.lift (.load arg8 (Rect.unit (s := S256x1024) ![0, 0] S256x1024.size inb_S256x1024_S256x1024_0_0).toLoadRect (View.loadsAt_vmem h_S256x1024))
        Prog.lift (.store arg8 (Rect.unit (s := S256x1024) ![0, 0] S256x1024.size inb_S256x1024_S256x1024_0_0) (k0_pay2 v20 v21 v25 v29 v31) Finset.univ (View.stores_vmem h_S256x1024 (harg8.storeExact_slice rfl _ packedbf16_S256x1024_S256x1024_0_0) (fun _ => rfl)) (.inl rfl))
        pure ⟨⟩
      else do
        pure ⟨⟩
      if k0_h3 : k0_cond3 v1 = 1#1 then do
        let v21 : Vec F S256x1024 .bf16 ← Prog.lift (.load arg8 (Rect.unit (s := S256x1024) ![0, 0] S256x1024.size inb_S256x1024_S256x1024_0_0).toLoadRect (View.loadsAt_vmem h_S256x1024))
        Prog.lift (.store arg8 (Rect.unit (s := S256x1024) ![0, 0] S256x1024.size inb_S256x1024_S256x1024_0_0) (k0_pay3 (F := F)) Finset.univ (View.stores_vmem h_S256x1024 (harg8.storeExact_slice rfl _ packedbf16_S256x1024_S256x1024_0_0) (fun _ => rfl)) (.inl rfl))
        pure ⟨⟩
      else do
        pure ⟨⟩
      pure ⟨⟩) Q := by
    refine .trans ?_ (rows arg3 harg3 arg4 harg4 arg8 harg8 arg9 harg9 arg10 harg10 arg11 harg11 c x3 x4 out hpos hneg
      (S := S') (R := iprop((arg1.view.loc (c.tc : Thread nD τ) ↦{q1} f1) ∗ (arg2.view.loc (c.tc : Thread nD τ) ↦{q2} f2) ∗ R
        ∗ idles alloca_r0 v20_r0 alloca_r1 v20_r1 alloca_r2 v20_r2 c ∗ wts arg5 arg6 arg7 c w5 w6 w7
        ∗ (∃ W, owes (c.tc : Thread nD τ) 0 W))) (.trans ?_ hQ))
    · unfold Work
      iintro ⟨⟨H1, H2, HR, H3, H4, H8⟩, HI, HW, HO, HS⟩
      isplitr [H3 H4 H8 HS]
      · isplitl [H1]; · iexact H1
        isplitl [H2]; · iexact H2
        isplitl [HR]; · iexact HR
        isplitl [HI]; · iexact HI
        isplitl [HW]; · iexact HW
        iexact HO
      isplitl [H3]; · iexact H3
      isplitl [H4]; · iexact H4
      isplitl [H8]; · iexact H8
      iexact HS
    · unfold Work
      iintro ⟨⟨H1, H2, HR, HI, HW, HO⟩, H3, H4, H8, HS⟩
      isplitl [H2]; · iexact H2
      isplitl [H1]; · iexact H1
      isplitl [HR]; · iexact HR
      isplitl [H3]; · iexact H3
      isplitl [H4]; · iexact H4
      isplitl [H8]; · iexact H8
      isplitl [HI]; · iexact HI
      isplitl [HW]; · iexact HW
      isplitl [HO]; · iexact HO
      iexact HS
  by_cases h1 : k0_cond1 i v1 v4 v9 = 1#1
  · refine exec_dif_pos _ _ _ _ _ _ _ h1 ?_
    refine .trans (?g1) (branch arg5 arg6 arg7 arg9 harg9 arg10 harg10 arg11 harg11 alloca_r0 halloca_r0 v20_r0 alloca_r1 halloca_r1 v20_r1 alloca_r2 halloca_r2 v20_r2
      c w5 w6 w7 (hc.1 h1) (hc.2 h1) (S := S) (hload h1 (hc.1 h1) (hc.2 h1))
      (fun P R1 R2 R3 e0 e1 e2 e3 => ?g2) hrest)
    case g1 =>
      iintro ⟨H1, H2, HR, H3, H4, H8, HK⟩
      isplitr [HK]
      · isplitl [H1]; · iexact H1
        isplitl [H2]; · iexact H2
        isplitl [HR]; · iexact HR
        isplitl [H3]; · iexact H3
        isplitl [H4]; · iexact H4
        iexact H8
      iexact HK
    case g2 =>
      refine e0.trans ?_
      refine GmmStep.issue (i := 0) (j := 0) _ _ _ _ _ _ _ _ _ (by decide) (by decide) (by decide) (by decide) ?_
      refine GmmStep.issue (i := 1) (j := 0) _ _ _ _ _ _ _ _ _ (by decide) (by decide) (by decide) (by decide) ?_
      refine GmmStep.issue (i := 2) (j := 0) _ _ _ _ _ _ _ _ _ (by decide) (by decide) (by decide) (by decide) ?_
      refine GmmStep.issue (i := 3) (j := 0) _ _ _ _ _ _ _ _ _ (by decide) (by decide) (by decide) (by decide) ?_
      refine GmmStep.issue (i := 4) (j := 0) _ _ _ _ _ _ _ _ _ (by decide) (by decide) (by decide) (by decide) ?_
      refine GmmStep.issue (i := 5) (j := 0) _ _ _ _ _ _ _ _ _ (by decide) (by decide) (by decide) (by decide) ?_
      refine GmmStep.wait (i := 6) (j := 0) _ _ _ _ _ _ _ _ _ (by decide) ?_
      refine GmmStep.load (i := 6) (j := 0) _ _ _ _ _ _ _ _ _ (by decide) (by decide) (fun v hv => ?_)
      refine GmmStep.peek (k := 0) _ _ _ _ _ _ _ _ _ (by decide) (fun _ => ?_)
      refine GmmStep.store (d := 0) _ _ _ _ _ _ _ _ _ (by decide) shapeCasts_S1x64x3584_S64x3584 shapeCasts_S64x3584_S64x3584 hv rfl ?_
      refine GmmStep.issue (i := 6) (j := 1) _ _ _ _ _ _ _ _ _ (by decide) (by decide) (by decide) (by decide) ?_
      refine GmmStep.wait (i := 7) (j := 1) _ _ _ _ _ _ _ _ _ (by decide) ?_
      refine GmmStep.load (i := 7) (j := 1) _ _ _ _ _ _ _ _ _ (by decide) (by decide) (fun v hv => ?_)
      refine GmmStep.peek (k := 1) _ _ _ _ _ _ _ _ _ (by decide) (fun _ => ?_)
      refine GmmStep.store (d := 1) _ _ _ _ _ _ _ _ _ (by decide) shapeCasts_S1x64x3584_S64x3584 shapeCasts_S64x3584_S64x3584 hv rfl ?_
      refine GmmStep.issue (i := 7) (j := 2) _ _ _ _ _ _ _ _ _ (by decide) (by decide) (by decide) (by decide) ?_
      refine GmmStep.wait (i := 8) (j := 2) _ _ _ _ _ _ _ _ _ (by decide) ?_
      refine GmmStep.load (i := 8) (j := 2) _ _ _ _ _ _ _ _ _ (by decide) (by decide) (fun v hv => ?_)
      refine GmmStep.peek (k := 2) _ _ _ _ _ _ _ _ _ (by decide) (fun _ => ?_)
      refine GmmStep.store (d := 2) _ _ _ _ _ _ _ _ _ (by decide) shapeCasts_S1x64x3584_S64x3584 shapeCasts_S64x3584_S64x3584 hv rfl ?_
      refine GmmStep.issue (i := 8) (j := 3) _ _ _ _ _ _ _ _ _ (by decide) (by decide) (by decide) (by decide) ?_
      refine GmmStep.wait (i := 9) (j := 3) _ _ _ _ _ _ _ _ _ (by decide) ?_
      refine GmmStep.load (i := 9) (j := 3) _ _ _ _ _ _ _ _ _ (by decide) (by decide) (fun v hv => ?_)
      refine GmmStep.peek (k := 3) _ _ _ _ _ _ _ _ _ (by decide) (fun _ => ?_)
      refine GmmStep.store (d := 3) _ _ _ _ _ _ _ _ _ (by decide) shapeCasts_S1x64x3584_S64x3584 shapeCasts_S64x3584_S64x3584 hv rfl ?_
      refine GmmStep.issue (i := 9) (j := 4) _ _ _ _ _ _ _ _ _ (by decide) (by decide) (by decide) (by decide) ?_
      refine GmmStep.wait (i := 10) (j := 4) _ _ _ _ _ _ _ _ _ (by decide) ?_
      refine GmmStep.load (i := 10) (j := 4) _ _ _ _ _ _ _ _ _ (by decide) (by decide) (fun v hv => ?_)
      refine GmmStep.peek (k := 4) _ _ _ _ _ _ _ _ _ (by decide) (fun _ => ?_)
      refine GmmStep.store (d := 4) _ _ _ _ _ _ _ _ _ (by decide) shapeCasts_S1x64x3584_S64x3584 shapeCasts_S64x3584_S64x3584 hv rfl ?_
      refine GmmStep.issue (i := 10) (j := 5) _ _ _ _ _ _ _ _ _ (by decide) (by decide) (by decide) (by decide) ?_
      refine GmmStep.wait (i := 11) (j := 5) _ _ _ _ _ _ _ _ _ (by decide) ?_
      refine GmmStep.load (i := 11) (j := 5) _ _ _ _ _ _ _ _ _ (by decide) (by decide) (fun v hv => ?_)
      refine GmmStep.peek (k := 5) _ _ _ _ _ _ _ _ _ (by decide) (fun _ => ?_)
      refine GmmStep.store (d := 5) _ _ _ _ _ _ _ _ _ (by decide) shapeCasts_S1x64x3584_S64x3584 shapeCasts_S64x3584_S64x3584 hv rfl ?_
      refine GmmStep.issue (i := 11) (j := 6) _ _ _ _ _ _ _ _ _ (by decide) (by decide) (by decide) (by decide) ?_
      refine GmmStep.wait (i := 12) (j := 6) _ _ _ _ _ _ _ _ _ (by decide) ?_
      refine GmmStep.load (i := 12) (j := 6) _ _ _ _ _ _ _ _ _ (by decide) (by decide) (fun v hv => ?_)
      refine GmmStep.peek (k := 6) _ _ _ _ _ _ _ _ _ (by decide) (fun _ => ?_)
      refine GmmStep.store (d := 6) _ _ _ _ _ _ _ _ _ (by decide) shapeCasts_S1x64x3584_S64x3584 shapeCasts_S64x3584_S64x3584 hv rfl ?_
      refine GmmStep.issue (i := 12) (j := 7) _ _ _ _ _ _ _ _ _ (by decide) (by decide) (by decide) (by decide) ?_
      refine GmmStep.wait (i := 13) (j := 7) _ _ _ _ _ _ _ _ _ (by decide) ?_
      refine GmmStep.load (i := 13) (j := 7) _ _ _ _ _ _ _ _ _ (by decide) (by decide) (fun v hv => ?_)
      refine GmmStep.peek (k := 7) _ _ _ _ _ _ _ _ _ (by decide) (fun _ => ?_)
      refine GmmStep.store (d := 7) _ _ _ _ _ _ _ _ _ (by decide) shapeCasts_S1x64x3584_S64x3584 shapeCasts_S64x3584_S64x3584 hv rfl ?_
      refine GmmStep.issue (i := 13) (j := 8) _ _ _ _ _ _ _ _ _ (by decide) (by decide) (by decide) (by decide) ?_
      refine GmmStep.wait (i := 14) (j := 8) _ _ _ _ _ _ _ _ _ (by decide) ?_
      refine GmmStep.load (i := 14) (j := 8) _ _ _ _ _ _ _ _ _ (by decide) (by decide) (fun v hv => ?_)
      refine GmmStep.peek (k := 8) _ _ _ _ _ _ _ _ _ (by decide) (fun _ => ?_)
      refine GmmStep.store (d := 8) _ _ _ _ _ _ _ _ _ (by decide) shapeCasts_S1x64x3584_S64x3584 shapeCasts_S64x3584_S64x3584 hv rfl ?_
      refine GmmStep.issue (i := 14) (j := 9) _ _ _ _ _ _ _ _ _ (by decide) (by decide) (by decide) (by decide) ?_
      refine GmmStep.wait (i := 15) (j := 9) _ _ _ _ _ _ _ _ _ (by decide) ?_
      refine GmmStep.load (i := 15) (j := 9) _ _ _ _ _ _ _ _ _ (by decide) (by decide) (fun v hv => ?_)
      refine GmmStep.peek (k := 9) _ _ _ _ _ _ _ _ _ (by decide) (fun _ => ?_)
      refine GmmStep.store (d := 9) _ _ _ _ _ _ _ _ _ (by decide) shapeCasts_S1x64x3584_S64x3584 shapeCasts_S64x3584_S64x3584 hv rfl ?_
      refine GmmStep.issue (i := 15) (j := 10) _ _ _ _ _ _ _ _ _ (by decide) (by decide) (by decide) (by decide) ?_
      refine GmmStep.wait (i := 16) (j := 10) _ _ _ _ _ _ _ _ _ (by decide) ?_
      refine GmmStep.load (i := 16) (j := 10) _ _ _ _ _ _ _ _ _ (by decide) (by decide) (fun v hv => ?_)
      refine GmmStep.peek (k := 10) _ _ _ _ _ _ _ _ _ (by decide) (fun _ => ?_)
      refine GmmStep.store (d := 10) _ _ _ _ _ _ _ _ _ (by decide) shapeCasts_S1x64x3584_S64x3584 shapeCasts_S64x3584_S64x3584 hv rfl ?_
      refine GmmStep.wait (i := 16) (j := 11) _ _ _ _ _ _ _ _ _ (by decide) ?_
      refine GmmStep.load (i := 16) (j := 11) _ _ _ _ _ _ _ _ _ (by decide) (by decide) (fun v hv => ?_)
      refine GmmStep.peek (k := 11) _ _ _ _ _ _ _ _ _ (by decide) (fun _ => ?_)
      refine GmmStep.store (d := 11) _ _ _ _ _ _ _ _ _ (by decide) shapeCasts_S1x64x3584_S64x3584 shapeCasts_S64x3584_S64x3584 hv rfl ?_
      refine GmmStep.wait (i := 16) (j := 12) _ _ _ _ _ _ _ _ _ (by decide) ?_
      refine GmmStep.load (i := 16) (j := 12) _ _ _ _ _ _ _ _ _ (by decide) (by decide) (fun v hv => ?_)
      refine GmmStep.peek (k := 12) _ _ _ _ _ _ _ _ _ (by decide) (fun _ => ?_)
      refine GmmStep.store (d := 12) _ _ _ _ _ _ _ _ _ (by decide) shapeCasts_S1x64x3584_S64x3584 shapeCasts_S64x3584_S64x3584 hv rfl ?_
      refine GmmStep.wait (i := 16) (j := 13) _ _ _ _ _ _ _ _ _ (by decide) ?_
      refine GmmStep.load (i := 16) (j := 13) _ _ _ _ _ _ _ _ _ (by decide) (by decide) (fun v hv => ?_)
      refine GmmStep.peek (k := 13) _ _ _ _ _ _ _ _ _ (by decide) (fun _ => ?_)
      refine GmmStep.store (d := 13) _ _ _ _ _ _ _ _ _ (by decide) shapeCasts_S1x64x3584_S64x3584 shapeCasts_S64x3584_S64x3584 hv rfl ?_
      refine GmmStep.wait (i := 16) (j := 14) _ _ _ _ _ _ _ _ _ (by decide) ?_
      refine GmmStep.load (i := 16) (j := 14) _ _ _ _ _ _ _ _ _ (by decide) (by decide) (fun v hv => ?_)
      refine GmmStep.peek (k := 14) _ _ _ _ _ _ _ _ _ (by decide) (fun _ => ?_)
      refine GmmStep.store (d := 14) _ _ _ _ _ _ _ _ _ (by decide) shapeCasts_S1x64x3584_S64x3584 shapeCasts_S64x3584_S64x3584 hv rfl ?_
      refine GmmStep.wait (i := 16) (j := 15) _ _ _ _ _ _ _ _ _ (by decide) ?_
      refine GmmStep.load (i := 16) (j := 15) _ _ _ _ _ _ _ _ _ (by decide) (by decide) (fun v hv => ?_)
      refine GmmStep.peek (k := 15) _ _ _ _ _ _ _ _ _ (by decide) (fun _ => ?_)
      refine GmmStep.store (d := 15) _ _ _ _ _ _ _ _ _ (by decide) shapeCasts_S1x64x3584_S64x3584 shapeCasts_S64x3584_S64x3584 hv rfl ?_
      refine e1.trans ?_
      refine GmmStep.issue (i := 0) (j := 0) _ _ _ _ _ _ _ _ _ (by decide) (by decide) (by decide) (by decide) ?_
      refine GmmStep.issue (i := 1) (j := 0) _ _ _ _ _ _ _ _ _ (by decide) (by decide) (by decide) (by decide) ?_
      refine GmmStep.issue (i := 2) (j := 0) _ _ _ _ _ _ _ _ _ (by decide) (by decide) (by decide) (by decide) ?_
      refine GmmStep.issue (i := 3) (j := 0) _ _ _ _ _ _ _ _ _ (by decide) (by decide) (by decide) (by decide) ?_
      refine GmmStep.issue (i := 4) (j := 0) _ _ _ _ _ _ _ _ _ (by decide) (by decide) (by decide) (by decide) ?_
      refine GmmStep.issue (i := 5) (j := 0) _ _ _ _ _ _ _ _ _ (by decide) (by decide) (by decide) (by decide) ?_
      refine GmmStep.wait (i := 6) (j := 0) _ _ _ _ _ _ _ _ _ (by decide) ?_
      refine GmmStep.load (i := 6) (j := 0) _ _ _ _ _ _ _ _ _ (by decide) (by decide) (fun v hv => ?_)
      refine GmmStep.peek (k := 0) _ _ _ _ _ _ _ _ _ (by decide) (fun _ => ?_)
      refine GmmStep.store (d := 0) _ _ _ _ _ _ _ _ _ (by decide) shapeCasts_S1x64x3584_S64x3584 shapeCasts_S64x3584_S64x3584 hv rfl ?_
      refine GmmStep.issue (i := 6) (j := 1) _ _ _ _ _ _ _ _ _ (by decide) (by decide) (by decide) (by decide) ?_
      refine GmmStep.wait (i := 7) (j := 1) _ _ _ _ _ _ _ _ _ (by decide) ?_
      refine GmmStep.load (i := 7) (j := 1) _ _ _ _ _ _ _ _ _ (by decide) (by decide) (fun v hv => ?_)
      refine GmmStep.peek (k := 1) _ _ _ _ _ _ _ _ _ (by decide) (fun _ => ?_)
      refine GmmStep.store (d := 1) _ _ _ _ _ _ _ _ _ (by decide) shapeCasts_S1x64x3584_S64x3584 shapeCasts_S64x3584_S64x3584 hv rfl ?_
      refine GmmStep.issue (i := 7) (j := 2) _ _ _ _ _ _ _ _ _ (by decide) (by decide) (by decide) (by decide) ?_
      refine GmmStep.wait (i := 8) (j := 2) _ _ _ _ _ _ _ _ _ (by decide) ?_
      refine GmmStep.load (i := 8) (j := 2) _ _ _ _ _ _ _ _ _ (by decide) (by decide) (fun v hv => ?_)
      refine GmmStep.peek (k := 2) _ _ _ _ _ _ _ _ _ (by decide) (fun _ => ?_)
      refine GmmStep.store (d := 2) _ _ _ _ _ _ _ _ _ (by decide) shapeCasts_S1x64x3584_S64x3584 shapeCasts_S64x3584_S64x3584 hv rfl ?_
      refine GmmStep.issue (i := 8) (j := 3) _ _ _ _ _ _ _ _ _ (by decide) (by decide) (by decide) (by decide) ?_
      refine GmmStep.wait (i := 9) (j := 3) _ _ _ _ _ _ _ _ _ (by decide) ?_
      refine GmmStep.load (i := 9) (j := 3) _ _ _ _ _ _ _ _ _ (by decide) (by decide) (fun v hv => ?_)
      refine GmmStep.peek (k := 3) _ _ _ _ _ _ _ _ _ (by decide) (fun _ => ?_)
      refine GmmStep.store (d := 3) _ _ _ _ _ _ _ _ _ (by decide) shapeCasts_S1x64x3584_S64x3584 shapeCasts_S64x3584_S64x3584 hv rfl ?_
      refine GmmStep.issue (i := 9) (j := 4) _ _ _ _ _ _ _ _ _ (by decide) (by decide) (by decide) (by decide) ?_
      refine GmmStep.wait (i := 10) (j := 4) _ _ _ _ _ _ _ _ _ (by decide) ?_
      refine GmmStep.load (i := 10) (j := 4) _ _ _ _ _ _ _ _ _ (by decide) (by decide) (fun v hv => ?_)
      refine GmmStep.peek (k := 4) _ _ _ _ _ _ _ _ _ (by decide) (fun _ => ?_)
      refine GmmStep.store (d := 4) _ _ _ _ _ _ _ _ _ (by decide) shapeCasts_S1x64x3584_S64x3584 shapeCasts_S64x3584_S64x3584 hv rfl ?_
      refine GmmStep.issue (i := 10) (j := 5) _ _ _ _ _ _ _ _ _ (by decide) (by decide) (by decide) (by decide) ?_
      refine GmmStep.wait (i := 11) (j := 5) _ _ _ _ _ _ _ _ _ (by decide) ?_
      refine GmmStep.load (i := 11) (j := 5) _ _ _ _ _ _ _ _ _ (by decide) (by decide) (fun v hv => ?_)
      refine GmmStep.peek (k := 5) _ _ _ _ _ _ _ _ _ (by decide) (fun _ => ?_)
      refine GmmStep.store (d := 5) _ _ _ _ _ _ _ _ _ (by decide) shapeCasts_S1x64x3584_S64x3584 shapeCasts_S64x3584_S64x3584 hv rfl ?_
      refine GmmStep.issue (i := 11) (j := 6) _ _ _ _ _ _ _ _ _ (by decide) (by decide) (by decide) (by decide) ?_
      refine GmmStep.wait (i := 12) (j := 6) _ _ _ _ _ _ _ _ _ (by decide) ?_
      refine GmmStep.load (i := 12) (j := 6) _ _ _ _ _ _ _ _ _ (by decide) (by decide) (fun v hv => ?_)
      refine GmmStep.peek (k := 6) _ _ _ _ _ _ _ _ _ (by decide) (fun _ => ?_)
      refine GmmStep.store (d := 6) _ _ _ _ _ _ _ _ _ (by decide) shapeCasts_S1x64x3584_S64x3584 shapeCasts_S64x3584_S64x3584 hv rfl ?_
      refine GmmStep.issue (i := 12) (j := 7) _ _ _ _ _ _ _ _ _ (by decide) (by decide) (by decide) (by decide) ?_
      refine GmmStep.wait (i := 13) (j := 7) _ _ _ _ _ _ _ _ _ (by decide) ?_
      refine GmmStep.load (i := 13) (j := 7) _ _ _ _ _ _ _ _ _ (by decide) (by decide) (fun v hv => ?_)
      refine GmmStep.peek (k := 7) _ _ _ _ _ _ _ _ _ (by decide) (fun _ => ?_)
      refine GmmStep.store (d := 7) _ _ _ _ _ _ _ _ _ (by decide) shapeCasts_S1x64x3584_S64x3584 shapeCasts_S64x3584_S64x3584 hv rfl ?_
      refine GmmStep.issue (i := 13) (j := 8) _ _ _ _ _ _ _ _ _ (by decide) (by decide) (by decide) (by decide) ?_
      refine GmmStep.wait (i := 14) (j := 8) _ _ _ _ _ _ _ _ _ (by decide) ?_
      refine GmmStep.load (i := 14) (j := 8) _ _ _ _ _ _ _ _ _ (by decide) (by decide) (fun v hv => ?_)
      refine GmmStep.peek (k := 8) _ _ _ _ _ _ _ _ _ (by decide) (fun _ => ?_)
      refine GmmStep.store (d := 8) _ _ _ _ _ _ _ _ _ (by decide) shapeCasts_S1x64x3584_S64x3584 shapeCasts_S64x3584_S64x3584 hv rfl ?_
      refine GmmStep.issue (i := 14) (j := 9) _ _ _ _ _ _ _ _ _ (by decide) (by decide) (by decide) (by decide) ?_
      refine GmmStep.wait (i := 15) (j := 9) _ _ _ _ _ _ _ _ _ (by decide) ?_
      refine GmmStep.load (i := 15) (j := 9) _ _ _ _ _ _ _ _ _ (by decide) (by decide) (fun v hv => ?_)
      refine GmmStep.peek (k := 9) _ _ _ _ _ _ _ _ _ (by decide) (fun _ => ?_)
      refine GmmStep.store (d := 9) _ _ _ _ _ _ _ _ _ (by decide) shapeCasts_S1x64x3584_S64x3584 shapeCasts_S64x3584_S64x3584 hv rfl ?_
      refine GmmStep.issue (i := 15) (j := 10) _ _ _ _ _ _ _ _ _ (by decide) (by decide) (by decide) (by decide) ?_
      refine GmmStep.wait (i := 16) (j := 10) _ _ _ _ _ _ _ _ _ (by decide) ?_
      refine GmmStep.load (i := 16) (j := 10) _ _ _ _ _ _ _ _ _ (by decide) (by decide) (fun v hv => ?_)
      refine GmmStep.peek (k := 10) _ _ _ _ _ _ _ _ _ (by decide) (fun _ => ?_)
      refine GmmStep.store (d := 10) _ _ _ _ _ _ _ _ _ (by decide) shapeCasts_S1x64x3584_S64x3584 shapeCasts_S64x3584_S64x3584 hv rfl ?_
      refine GmmStep.wait (i := 16) (j := 11) _ _ _ _ _ _ _ _ _ (by decide) ?_
      refine GmmStep.load (i := 16) (j := 11) _ _ _ _ _ _ _ _ _ (by decide) (by decide) (fun v hv => ?_)
      refine GmmStep.peek (k := 11) _ _ _ _ _ _ _ _ _ (by decide) (fun _ => ?_)
      refine GmmStep.store (d := 11) _ _ _ _ _ _ _ _ _ (by decide) shapeCasts_S1x64x3584_S64x3584 shapeCasts_S64x3584_S64x3584 hv rfl ?_
      refine GmmStep.wait (i := 16) (j := 12) _ _ _ _ _ _ _ _ _ (by decide) ?_
      refine GmmStep.load (i := 16) (j := 12) _ _ _ _ _ _ _ _ _ (by decide) (by decide) (fun v hv => ?_)
      refine GmmStep.peek (k := 12) _ _ _ _ _ _ _ _ _ (by decide) (fun _ => ?_)
      refine GmmStep.store (d := 12) _ _ _ _ _ _ _ _ _ (by decide) shapeCasts_S1x64x3584_S64x3584 shapeCasts_S64x3584_S64x3584 hv rfl ?_
      refine GmmStep.wait (i := 16) (j := 13) _ _ _ _ _ _ _ _ _ (by decide) ?_
      refine GmmStep.load (i := 16) (j := 13) _ _ _ _ _ _ _ _ _ (by decide) (by decide) (fun v hv => ?_)
      refine GmmStep.peek (k := 13) _ _ _ _ _ _ _ _ _ (by decide) (fun _ => ?_)
      refine GmmStep.store (d := 13) _ _ _ _ _ _ _ _ _ (by decide) shapeCasts_S1x64x3584_S64x3584 shapeCasts_S64x3584_S64x3584 hv rfl ?_
      refine GmmStep.wait (i := 16) (j := 14) _ _ _ _ _ _ _ _ _ (by decide) ?_
      refine GmmStep.load (i := 16) (j := 14) _ _ _ _ _ _ _ _ _ (by decide) (by decide) (fun v hv => ?_)
      refine GmmStep.peek (k := 14) _ _ _ _ _ _ _ _ _ (by decide) (fun _ => ?_)
      refine GmmStep.store (d := 14) _ _ _ _ _ _ _ _ _ (by decide) shapeCasts_S1x64x3584_S64x3584 shapeCasts_S64x3584_S64x3584 hv rfl ?_
      refine GmmStep.wait (i := 16) (j := 15) _ _ _ _ _ _ _ _ _ (by decide) ?_
      refine GmmStep.load (i := 16) (j := 15) _ _ _ _ _ _ _ _ _ (by decide) (by decide) (fun v hv => ?_)
      refine GmmStep.peek (k := 15) _ _ _ _ _ _ _ _ _ (by decide) (fun _ => ?_)
      refine GmmStep.store (d := 15) _ _ _ _ _ _ _ _ _ (by decide) shapeCasts_S1x64x3584_S64x3584 shapeCasts_S64x3584_S64x3584 hv rfl ?_
      refine e2.trans ?_
      refine GmmStep.issue (i := 0) (j := 0) _ _ _ _ _ _ _ _ _ (by decide) (by decide) (by decide) (by decide) ?_
      refine GmmStep.issue (i := 1) (j := 0) _ _ _ _ _ _ _ _ _ (by decide) (by decide) (by decide) (by decide) ?_
      refine GmmStep.issue (i := 2) (j := 0) _ _ _ _ _ _ _ _ _ (by decide) (by decide) (by decide) (by decide) ?_
      refine GmmStep.issue (i := 3) (j := 0) _ _ _ _ _ _ _ _ _ (by decide) (by decide) (by decide) (by decide) ?_
      refine GmmStep.issue (i := 4) (j := 0) _ _ _ _ _ _ _ _ _ (by decide) (by decide) (by decide) (by decide) ?_
      refine GmmStep.issue (i := 5) (j := 0) _ _ _ _ _ _ _ _ _ (by decide) (by decide) (by decide) (by decide) ?_
      refine GmmStep.wait (i := 6) (j := 0) _ _ _ _ _ _ _ _ _ (by decide) ?_
      refine GmmStep.load (i := 6) (j := 0) _ _ _ _ _ _ _ _ _ (by decide) (by decide) (fun v hv => ?_)
      refine GmmStep.peek (k := 0) _ _ _ _ _ _ _ _ _ (by decide) (fun _ => ?_)
      refine GmmStep.store (d := 0) _ _ _ _ _ _ _ _ _ (by decide) shapeCasts_S1x224x1024_S224x1024 shapeCasts_S224x1024_S224x1024 hv rfl ?_
      refine GmmStep.issue (i := 6) (j := 1) _ _ _ _ _ _ _ _ _ (by decide) (by decide) (by decide) (by decide) ?_
      refine GmmStep.wait (i := 7) (j := 1) _ _ _ _ _ _ _ _ _ (by decide) ?_
      refine GmmStep.load (i := 7) (j := 1) _ _ _ _ _ _ _ _ _ (by decide) (by decide) (fun v hv => ?_)
      refine GmmStep.peek (k := 1) _ _ _ _ _ _ _ _ _ (by decide) (fun _ => ?_)
      refine GmmStep.store (d := 1) _ _ _ _ _ _ _ _ _ (by decide) shapeCasts_S1x224x1024_S224x1024 shapeCasts_S224x1024_S224x1024 hv rfl ?_
      refine GmmStep.issue (i := 7) (j := 2) _ _ _ _ _ _ _ _ _ (by decide) (by decide) (by decide) (by decide) ?_
      refine GmmStep.wait (i := 8) (j := 2) _ _ _ _ _ _ _ _ _ (by decide) ?_
      refine GmmStep.load (i := 8) (j := 2) _ _ _ _ _ _ _ _ _ (by decide) (by decide) (fun v hv => ?_)
      refine GmmStep.peek (k := 2) _ _ _ _ _ _ _ _ _ (by decide) (fun _ => ?_)
      refine GmmStep.store (d := 2) _ _ _ _ _ _ _ _ _ (by decide) shapeCasts_S1x224x1024_S224x1024 shapeCasts_S224x1024_S224x1024 hv rfl ?_
      refine GmmStep.issue (i := 8) (j := 3) _ _ _ _ _ _ _ _ _ (by decide) (by decide) (by decide) (by decide) ?_
      refine GmmStep.wait (i := 9) (j := 3) _ _ _ _ _ _ _ _ _ (by decide) ?_
      refine GmmStep.load (i := 9) (j := 3) _ _ _ _ _ _ _ _ _ (by decide) (by decide) (fun v hv => ?_)
      refine GmmStep.peek (k := 3) _ _ _ _ _ _ _ _ _ (by decide) (fun _ => ?_)
      refine GmmStep.store (d := 3) _ _ _ _ _ _ _ _ _ (by decide) shapeCasts_S1x224x1024_S224x1024 shapeCasts_S224x1024_S224x1024 hv rfl ?_
      refine GmmStep.issue (i := 9) (j := 4) _ _ _ _ _ _ _ _ _ (by decide) (by decide) (by decide) (by decide) ?_
      refine GmmStep.wait (i := 10) (j := 4) _ _ _ _ _ _ _ _ _ (by decide) ?_
      refine GmmStep.load (i := 10) (j := 4) _ _ _ _ _ _ _ _ _ (by decide) (by decide) (fun v hv => ?_)
      refine GmmStep.peek (k := 4) _ _ _ _ _ _ _ _ _ (by decide) (fun _ => ?_)
      refine GmmStep.store (d := 4) _ _ _ _ _ _ _ _ _ (by decide) shapeCasts_S1x224x1024_S224x1024 shapeCasts_S224x1024_S224x1024 hv rfl ?_
      refine GmmStep.issue (i := 10) (j := 5) _ _ _ _ _ _ _ _ _ (by decide) (by decide) (by decide) (by decide) ?_
      refine GmmStep.wait (i := 11) (j := 5) _ _ _ _ _ _ _ _ _ (by decide) ?_
      refine GmmStep.load (i := 11) (j := 5) _ _ _ _ _ _ _ _ _ (by decide) (by decide) (fun v hv => ?_)
      refine GmmStep.peek (k := 5) _ _ _ _ _ _ _ _ _ (by decide) (fun _ => ?_)
      refine GmmStep.store (d := 5) _ _ _ _ _ _ _ _ _ (by decide) shapeCasts_S1x224x1024_S224x1024 shapeCasts_S224x1024_S224x1024 hv rfl ?_
      refine GmmStep.issue (i := 11) (j := 6) _ _ _ _ _ _ _ _ _ (by decide) (by decide) (by decide) (by decide) ?_
      refine GmmStep.wait (i := 12) (j := 6) _ _ _ _ _ _ _ _ _ (by decide) ?_
      refine GmmStep.load (i := 12) (j := 6) _ _ _ _ _ _ _ _ _ (by decide) (by decide) (fun v hv => ?_)
      refine GmmStep.peek (k := 6) _ _ _ _ _ _ _ _ _ (by decide) (fun _ => ?_)
      refine GmmStep.store (d := 6) _ _ _ _ _ _ _ _ _ (by decide) shapeCasts_S1x224x1024_S224x1024 shapeCasts_S224x1024_S224x1024 hv rfl ?_
      refine GmmStep.issue (i := 12) (j := 7) _ _ _ _ _ _ _ _ _ (by decide) (by decide) (by decide) (by decide) ?_
      refine GmmStep.wait (i := 13) (j := 7) _ _ _ _ _ _ _ _ _ (by decide) ?_
      refine GmmStep.load (i := 13) (j := 7) _ _ _ _ _ _ _ _ _ (by decide) (by decide) (fun v hv => ?_)
      refine GmmStep.peek (k := 7) _ _ _ _ _ _ _ _ _ (by decide) (fun _ => ?_)
      refine GmmStep.store (d := 7) _ _ _ _ _ _ _ _ _ (by decide) shapeCasts_S1x224x1024_S224x1024 shapeCasts_S224x1024_S224x1024 hv rfl ?_
      refine GmmStep.issue (i := 13) (j := 8) _ _ _ _ _ _ _ _ _ (by decide) (by decide) (by decide) (by decide) ?_
      refine GmmStep.wait (i := 14) (j := 8) _ _ _ _ _ _ _ _ _ (by decide) ?_
      refine GmmStep.load (i := 14) (j := 8) _ _ _ _ _ _ _ _ _ (by decide) (by decide) (fun v hv => ?_)
      refine GmmStep.peek (k := 8) _ _ _ _ _ _ _ _ _ (by decide) (fun _ => ?_)
      refine GmmStep.store (d := 8) _ _ _ _ _ _ _ _ _ (by decide) shapeCasts_S1x224x1024_S224x1024 shapeCasts_S224x1024_S224x1024 hv rfl ?_
      refine GmmStep.issue (i := 14) (j := 9) _ _ _ _ _ _ _ _ _ (by decide) (by decide) (by decide) (by decide) ?_
      refine GmmStep.wait (i := 15) (j := 9) _ _ _ _ _ _ _ _ _ (by decide) ?_
      refine GmmStep.load (i := 15) (j := 9) _ _ _ _ _ _ _ _ _ (by decide) (by decide) (fun v hv => ?_)
      refine GmmStep.peek (k := 9) _ _ _ _ _ _ _ _ _ (by decide) (fun _ => ?_)
      refine GmmStep.store (d := 9) _ _ _ _ _ _ _ _ _ (by decide) shapeCasts_S1x224x1024_S224x1024 shapeCasts_S224x1024_S224x1024 hv rfl ?_
      refine GmmStep.issue (i := 15) (j := 10) _ _ _ _ _ _ _ _ _ (by decide) (by decide) (by decide) (by decide) ?_
      refine GmmStep.wait (i := 16) (j := 10) _ _ _ _ _ _ _ _ _ (by decide) ?_
      refine GmmStep.load (i := 16) (j := 10) _ _ _ _ _ _ _ _ _ (by decide) (by decide) (fun v hv => ?_)
      refine GmmStep.peek (k := 10) _ _ _ _ _ _ _ _ _ (by decide) (fun _ => ?_)
      refine GmmStep.store (d := 10) _ _ _ _ _ _ _ _ _ (by decide) shapeCasts_S1x224x1024_S224x1024 shapeCasts_S224x1024_S224x1024 hv rfl ?_
      refine GmmStep.wait (i := 16) (j := 11) _ _ _ _ _ _ _ _ _ (by decide) ?_
      refine GmmStep.load (i := 16) (j := 11) _ _ _ _ _ _ _ _ _ (by decide) (by decide) (fun v hv => ?_)
      refine GmmStep.peek (k := 11) _ _ _ _ _ _ _ _ _ (by decide) (fun _ => ?_)
      refine GmmStep.store (d := 11) _ _ _ _ _ _ _ _ _ (by decide) shapeCasts_S1x224x1024_S224x1024 shapeCasts_S224x1024_S224x1024 hv rfl ?_
      refine GmmStep.wait (i := 16) (j := 12) _ _ _ _ _ _ _ _ _ (by decide) ?_
      refine GmmStep.load (i := 16) (j := 12) _ _ _ _ _ _ _ _ _ (by decide) (by decide) (fun v hv => ?_)
      refine GmmStep.peek (k := 12) _ _ _ _ _ _ _ _ _ (by decide) (fun _ => ?_)
      refine GmmStep.store (d := 12) _ _ _ _ _ _ _ _ _ (by decide) shapeCasts_S1x224x1024_S224x1024 shapeCasts_S224x1024_S224x1024 hv rfl ?_
      refine GmmStep.wait (i := 16) (j := 13) _ _ _ _ _ _ _ _ _ (by decide) ?_
      refine GmmStep.load (i := 16) (j := 13) _ _ _ _ _ _ _ _ _ (by decide) (by decide) (fun v hv => ?_)
      refine GmmStep.peek (k := 13) _ _ _ _ _ _ _ _ _ (by decide) (fun _ => ?_)
      refine GmmStep.store (d := 13) _ _ _ _ _ _ _ _ _ (by decide) shapeCasts_S1x224x1024_S224x1024 shapeCasts_S224x1024_S224x1024 hv rfl ?_
      refine GmmStep.wait (i := 16) (j := 14) _ _ _ _ _ _ _ _ _ (by decide) ?_
      refine GmmStep.load (i := 16) (j := 14) _ _ _ _ _ _ _ _ _ (by decide) (by decide) (fun v hv => ?_)
      refine GmmStep.peek (k := 14) _ _ _ _ _ _ _ _ _ (by decide) (fun _ => ?_)
      refine GmmStep.store (d := 14) _ _ _ _ _ _ _ _ _ (by decide) shapeCasts_S1x224x1024_S224x1024 shapeCasts_S224x1024_S224x1024 hv rfl ?_
      refine GmmStep.wait (i := 16) (j := 15) _ _ _ _ _ _ _ _ _ (by decide) ?_
      refine GmmStep.load (i := 16) (j := 15) _ _ _ _ _ _ _ _ _ (by decide) (by decide) (fun v hv => ?_)
      refine GmmStep.peek (k := 15) _ _ _ _ _ _ _ _ _ (by decide) (fun _ => ?_)
      refine GmmStep.store (d := 15) _ _ _ _ _ _ _ _ _ (by decide) shapeCasts_S1x224x1024_S224x1024 shapeCasts_S224x1024_S224x1024 hv rfl ?_
      exact e3
  · refine exec_dif_neg _ _ _ _ _ _ _ h1 ?_
    refine .trans ?_ hrest
    unfold Work scr
    iintro ⟨H1, H2, HR, H3, H4, H8, HI, HW, HO, ⟨%x, %y, %z, %hs, H9, H10, H11⟩⟩
    isplitr [HI HW HO H9 H10 H11]
    · isplitl [H1]; · iexact H1
      isplitl [H2]; · iexact H2
      isplitl [HR]; · iexact HR
      isplitl [H3]; · iexact H3
      isplitl [H4]; · iexact H4
      iexact H8
    isplitl [HI]; · iexact HI
    isplitl [HW]; · iexact HW
    isplitl [HO]; · iexact HO
    iexists x, y, z
    isplitr
    · ipureintro; exact hkeep h1 x y z hs
    isplitl [H9]; · iexact H9
    isplitl [H10]; · iexact H10
    iexact H11

end

end Cert.Kernel3Ideal.Gmm
-- ==== Proof.NextWords.lean ====
module

public import proofs.«01_k».proof.Proof.NextRun
public import Idealize.ShloMosaic.Lib.WordCmp

@[expose] public section

set_option maxRecDepth 16384

noncomputable section

namespace Cert.Kernel3Ideal.Gmm

open Cert.Kernel3Ideal Cert.Kernel3Ideal.Gen Idealize.ShloMosaic Idealize.ShloMosaic.TcCoe

/-- What the tables must say: a valid tile's expert exists, and a valid tile that keeps its predecessor's expert follows
    a valid tile. -/
structure Routed (te tv : S178.Idx → BitVec 32) : Prop where
  lt : ∀ x : S178.Idx, tv x ≠ 0 → (te x).toNat < 8
  keep : ∀ x y : S178.Idx, (x 0).val + 1 = (y 0).val → tv y ≠ 0 → te y = te x → tv x ≠ 0

/-- The word of a table at a tile. -/
abbrev at0 (t : ℕ) (h : t < 178) : S178.Idx := fun | ⟨0, _⟩ => ⟨t, h⟩

theorem cond2_iff (v1 : BitVec 32) : k0_cond2 v1 = 1#1 ↔ v1 ≠ 0 := by
  show Scalar.cmpi .ne (Scalar.extui (Scalar.cmpi .ne v1 0#32) : BitVec 32) 0#32 = 1#1 ↔ v1 ≠ 0
  have h : Scalar.cmpi .ne v1 0#32 = BitVec.ofBool (decide (v1 ≠ 0)) := WordCmp.cmpi_ne_eq v1 0#32
  rw [h]
  by_cases h0 : v1 = 0
  · subst h0; decide
  · simp only [ne_eq, h0, not_false_eq_true, decide_true, iff_true]; decide

theorem cond1_iff (i : grid0.Coords) (v1 v4 v9 : BitVec 32) :
    k0_cond1 i v1 v4 v9 = 1#1 ↔ v1 ≠ 0 ∧ ((i 0).val = 0 ∨ v4 ≠ v9) := by
  show Scalar.cmpi .ne (Scalar.extui (Scalar.andi (Scalar.cmpi .ne v1 0#32)
    (Scalar.ori (Scalar.cmpi .eq (BitVec.ofNat 32 (i 0).val) 0#32) (Scalar.cmpi .ne v4 v9))) : BitVec 32) 0#32 = 1#1 ↔ _
  have h1 : Scalar.cmpi .ne v1 0#32 = BitVec.ofBool (decide (v1 ≠ 0)) := WordCmp.cmpi_ne_eq v1 0#32
  have h2 : Scalar.cmpi .ne v4 v9 = BitVec.ofBool (decide (v4 ≠ v9)) := WordCmp.cmpi_ne_eq v4 v9
  have h3 : Scalar.cmpi .eq (BitVec.ofNat 32 (i 0).val) 0#32 = BitVec.ofBool (decide ((i 0).val = 0)) := by
    refine (WordCmp.cmpi_eq_eq _ _).trans (congrArg BitVec.ofBool (decide_eq_decide.mpr ?_))
    have hi : (i 0).val < 178 := (i 0).isLt
    constructor
    · intro h
      have := congrArg BitVec.toNat h
      simp only [BitVec.toNat_ofNat] at this
      omega
    · intro h; rw [h]
  rw [h1, h2, h3]
  by_cases a : v1 = 0 <;> by_cases b : v4 = v9 <;> by_cases d : (i 0).val = 0 <;>
    simp only [a, b, d, ne_eq, not_false_eq_true, not_true_eq_false, decide_true, decide_false, true_and, false_and, or_true, or_false, iff_true, iff_false] <;>
    decide

theorem chk (i : grid0.Coords) (v1 v4 v9 : BitVec 32) (h : v1 ≠ 0 → v4.toNat < 8) : k0_chk1 i v1 v4 v9 := by
  have h8 := fun hc : k0_cond1 i v1 v4 v9 = 1#1 => h ((cond1_iff i v1 v4 v9).mp hc).1
  constructor
  · intro hc a
    have := h8 hc
    show (![1, v4.toNat, 0, 0] : Fin 4 → ℕ) a + (![1, 1, 1024, 3584] : Fin 4 → ℕ) a ≤ (![2, 8, 1024, 3584] : Fin 4 → ℕ) a
    match a with
    | ⟨0, _⟩ => show 1 + 1 ≤ 2; omega
    | ⟨1, _⟩ => show v4.toNat + 1 ≤ 8; omega
    | ⟨2, _⟩ => show 0 + 1024 ≤ 1024; omega
    | ⟨3, _⟩ => show 0 + 3584 ≤ 3584; omega
  · intro hc a
    have := h8 hc
    show (![1, v4.toNat, 0, 0] : Fin 4 → ℕ) a + (![1, 1, 3584, 1024] : Fin 4 → ℕ) a ≤ (![2, 8, 3584, 1024] : Fin 4 → ℕ) a
    match a with
    | ⟨0, _⟩ => show 1 + 1 ≤ 2; omega
    | ⟨1, _⟩ => show v4.toNat + 1 ≤ 8; omega
    | ⟨2, _⟩ => show 0 + 3584 ≤ 3584; omega
    | ⟨3, _⟩ => show 0 + 1024 ≤ 1024; omega

theorem coord : ∀ t : Fin grid0.N, ((grid0.coords t) 0).val = t.val := by decide +kernel

theorem off2 : ∀ t : Fin grid0.N, k0_off2 (grid0.coords t) = ![t.val - 1] := by decide +kernel

end Cert.Kernel3Ideal.Gmm
-- ==== Proof.NextFrame.lean ====
module

public import proofs.«01_k».proof.Proof.NextBody
public import proofs.«01_k».proof.Proof.NextWords
public import proofs.«01_k».proof.Proof.Gen.Kernel3Ideal.Launch
public import Idealize.ShloMosaic.Lib.Pipeline.FrameBody
public import Idealize.ShloMosaic.Lib.Ring
public import Idealize.ShloMosaic.Lib.Tactic

@[expose] public section

set_option maxRecDepth 16384

noncomputable section

namespace Cert.Kernel3Ideal.Gmm

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf UD)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- The buffers when the region is entered: as launched. -/
abbrev V (c : Dev nD) (b : Ref sig .tc) : Buf (Elt F) ((c : Thread nD τ).loc b) := m ((c : Thread nD τ).loc b)

theorem hmain (𝒱₀ : Variants) :
    Pipeline.HMainP (Ix := Unit) (Name := ℕ) (U := UD sig nD τ) (Lvl := ℕ) pcfgs 0 defs₀ 𝒱₀ m (main (F := F)) (V m) :=
  Pipeline.hmainP_region pcfgs 0 defs₀ 𝒱₀ m main fun c => (main_chain c).trans rfl

/-- The tables' contents, as launched. -/
def adm : (pcfg0 (F := F)).Adm := ⟨fun k => m (((0 : Dev nD) : Thread nD τ).loc (pre0.ref k)), trivial⟩

abbrev cfgA : Cfg sig Λ₀ := cfg0 (adm m)

/-- The experts and the validities of the tiles. -/
abbrev te (c : Dev nD) : S178.Idx → BitVec 32 := m ((c : Thread nD τ).loc main_arg2)
abbrev tv (c : Dev nD) : S178.Idx → BitVec 32 := m ((c : Thread nD τ).loc main_arg3)

/-- The stacks of weights. -/
abbrev w5 (c : Dev nD) : Buf (Elt F) ((Memref.whole main_arg4).view.loc (c : Thread nD τ)) := m ((c : Thread nD τ).loc main_arg4)
abbrev w6 (c : Dev nD) : Buf (Elt F) ((Memref.whole main_arg5).view.loc (c : Thread nD τ)) := m ((c : Thread nD τ).loc main_arg5)
abbrev w7 (c : Dev nD) : Buf (Elt F) ((Memref.whole main_arg6).view.loc (c : Thread nD τ)) := m ((c : Thread nD τ).loc main_arg6)

/-- A window's block at a point. -/
def iblk (c : Dev nD) (w : Fin (cfgA m).W) (t : Fin (cfgA m).N) :
    (((cfgA m).win w).xblock ((cfgA m).grid.coords t)).Idx → Elt F ((cfgA m).win w).elt :=
  (((cfgA m).win w).blk t).view.read (Elt F) (V m c (Pipeline.arrRef spec0 w))

theorem lt178 (t : Fin grid0.N) : t.val < 178 := lt_of_lt_of_eq t.isLt N_0

/-- The words of the tables the body reads at a point. -/
abbrev v1 (c : Dev nD) (t : Fin grid0.N) : BitVec 32 := tv m c (at0 t.val (lt178 t))
abbrev v4 (c : Dev nD) (t : Fin grid0.N) : BitVec 32 := te m c (at0 t.val (lt178 t))
abbrev v9 (c : Dev nD) (t : Fin grid0.N) : BitVec 32 := te m c (at0 (t.val - 1) (by have := lt178 t; omega))

theorem ok3 : ∀ a, (k0_off3 0#32) a + S1x1x1024x3584.size a ≤ S2x8x1024x3584.size a := by decide
theorem ok4 : ∀ a, (k0_off4 0#32) a + S1x1x3584x1024.size a ≤ S2x8x3584x1024.size a := by decide

/-- One expert's matrix, rounded; of a word naming no expert, the first's. -/
def mat3 (arg5 : Memref sig .tc .hbm S2x8x1024x3584 .f32) (e : BitVec 32) (c : Dev nD)
    (w : Buf (Elt F) (arg5.view.loc (c.tc : Thread nD τ))) : S1024x3584.Idx → Elt F .bf16 :=
  if h : ∀ a, (k0_off3 e) a + S1x1x1024x3584.size a ≤ S2x8x1024x3584.size a then cut3 arg5 e h c w else cut3 arg5 0#32 ok3 c w

def mat4 (arg7 : Memref sig .tc .hbm S2x8x3584x1024 .f32) (e : BitVec 32) (c : Dev nD)
    (w : Buf (Elt F) (arg7.view.loc (c.tc : Thread nD τ))) : S3584x1024.Idx → Elt F .bf16 :=
  if h : ∀ a, (k0_off4 e) a + S1x1x3584x1024.size a ≤ S2x8x3584x1024.size a then cut4 arg7 e h c w else cut4 arg7 0#32 ok4 c w

/-- The weight buffers hold the matrices of the expert at point `t`. -/
def holds (c : Dev nD) (t : Fin grid0.N) : Said F := fun x y z =>
  x = mat3 (Memref.whole main_arg4) (v4 m c t) c (w5 m c) ∧ y = mat3 (Memref.whole main_arg5) (v4 m c t) c (w6 m c)
    ∧ z = mat4 (Memref.whole main_arg6) (v4 m c t) c (w7 m c)

/-- Before a point: if its predecessor's tile is valid, the weight buffers hold that tile's expert. -/
def said (c : Dev nD) (t : Fin (grid0.N + 1)) : Said F := fun x y z =>
  ∀ t' : Fin grid0.N, t'.val + 1 = t.val → v1 m c t' ≠ 0 → holds m c t' x y z

/-- The block the body leaves at a point. -/
def out (c : Dev nD) (t : Fin grid0.N) : S256x1024.Idx → Elt F .bf16 :=
  if k0_cond2 (v1 m c t) = 1#1 then
    k0_pay2 (iblk m c 0 t) (mat3 (Memref.whole main_arg4) (v4 m c t) c (w5 m c)) (mat3 (Memref.whole main_arg5) (v4 m c t) c (w6 m c))
      (mat4 (Memref.whole main_arg6) (v4 m c t) c (w7 m c)) (gate (iblk m c 1 t))
  else k0_pay3

/-- The tables, as the body holds them. -/
def tbls (c : Dev nD) : sProp 𝕄 :=
  iprop(((c : Thread nD τ).loc main_arg3 ↦{fullShare.right} tv m c) ∗ ((c : Thread nD τ).loc main_arg2 ↦{fullShare.right} te m c))

/-- The invariant. -/
def inv (c : Dev nD) (t : Fin (grid0.N + 1)) : sProp 𝕄 :=
  iprop(tbls m c ∗ (∃ r, prngReg c r)
    ∗ idles (Memref.whole cc0_scoped0) cc0_scoped1 (Memref.whole cc0_scoped2) cc0_scoped3 (Memref.whole cc0_scoped4) cc0_scoped5 c
    ∗ wts (Memref.whole main_arg4) (Memref.whole main_arg5) (Memref.whole main_arg6) c (w5 m c) (w6 m c) (w7 m c)
    ∗ scr (Memref.whole cc0_scratch0) (Memref.whole cc0_scratch1) (Memref.whole cc0_scratch2) c (said m c t))

/-- The proof data. -/
def dats (_ : Fin 1) (c : Dev nD) : Dat τ (Elt F) Unit ℕ (UD sig nD τ) ℕ (cfgA m) c where
  A w := V m c (Pipeline.arrRef spec0 w)
  after w t := match w with
    | ⟨0, _⟩ => iblk m c 0 t
    | ⟨1, _⟩ => iblk m c 1 t
    | ⟨2, _⟩ => out m c t
  Φ t := inv m c t
  q _ := fullShare
  owed _ := 0

theorem A_eq (c : Dev nD) (w) : (dats m 0 c).A w = V m c (Pipeline.arrRef spec0 w) := rfl
theorem after0 (c : Dev nD) (t) : (dats m 0 c).after 0 t = iblk m c 0 t := by dsimp only [dats]; rfl
theorem after1 (c : Dev nD) (t) : (dats m 0 c).after 1 t = iblk m c 1 t := by dsimp only [dats]; rfl
theorem after2 (c : Dev nD) (t) : (dats m 0 c).after 2 t = out m c t := by dsimp only [dats]; rfl

theorem before0 (c : Dev nD) (t) (d) : (dats m 0 c).before 0 t d = iblk m c 0 t :=
  ((dats m 0 c).before_in_eq_fetched 0 rfl (fun _ => rfl) (fun _ _ _ => rfl)
    (fun t => by rw [after0]; unfold Dat.blockOf iblk; rw [A_eq]) t d).trans
    (by unfold Dat.fetched Dat.blockOf iblk; rw [A_eq]; try rfl)
theorem before1 (c : Dev nD) (t) (d) : (dats m 0 c).before 1 t d = iblk m c 1 t :=
  ((dats m 0 c).before_in_eq_fetched 1 rfl (fun _ => rfl) (fun _ _ _ => rfl)
    (fun t => by rw [after1]; unfold Dat.blockOf iblk; rw [A_eq]) t d).trans
    (by unfold Dat.fetched Dat.blockOf iblk; rw [A_eq]; try rfl)

/-- The output window is never idle. -/
theorem idle2 (t : Fin grid0.N) : (cfgA m).idle 2 ((cfgA m).grid.coords t) = false := by
  show (!(k0_cond2 ((adm m).1.atD 1 (k0_off1 (grid0.coords t))) == 1#1)
    && !(k0_cond3 ((adm m).1.atD 1 (k0_off1 (grid0.coords t))) == 1#1)) = false
  generalize (adm m).1.atD 1 (k0_off1 (grid0.coords t)) = v
  by_cases h : k0_cond2 v = 1#1
  · rw [h]; rfl
  · rw [cond3_iff.mpr h]; simp

/-! ## The body -/

/-- What the precondition says on every device. -/
def Ok : Prop := ∀ c : Dev nD, Routed (te m c) (tv m c)

theorem mat3_eq (arg5 : Memref sig .tc .hbm S2x8x1024x3584 .f32) (e : BitVec 32) (c : Dev nD)
    (w : Buf (Elt F) (arg5.view.loc (c.tc : Thread nD τ))) (h) : cut3 arg5 e h c w = mat3 arg5 e c w := by
  unfold mat3; rw [dif_pos h]
theorem mat4_eq (arg7 : Memref sig .tc .hbm S2x8x3584x1024 .f32) (e : BitVec 32) (c : Dev nD)
    (w : Buf (Elt F) (arg7.view.loc (c.tc : Thread nD τ))) (h) : cut4 arg7 e h c w = mat4 arg7 e c w := by
  unfold mat4; rw [dif_pos h]

/-- The body's current staging buffers. -/
abbrev st (t : Fin grid0.N) (w : Fin 3) := ((cfgA m).win w).stage ((cfgA m).slots t w)

/-- The kernel's body at a point. -/
abbrev bodyAt (t : Fin grid0.N) : Prog (TpuEff nD τ sig (Elt F) Λ₀ .tc) PUnit :=
  defs₀ (F := F) .tc (cfgA m).body ((cfgA m).bodyArgs t ((cfgA m).slots t))

theorem read3 (c : Dev nD) (f : Buf (Elt F) ((c : Thread nD τ).loc main_arg3)) (off : Fin 1 → ℕ) (inb) (k : ℕ) (hk : k < 178) (h : off = ![k]) :
    ((Memref.whole main_arg3).access (Rect.unit (s := S178) off S1.size inb)).read (Elt F) f (Shape.Idx.first (numel1_S1.symm ▸ Nat.one_pos))
      = (show S178.Idx → BitVec 32 from f) (at0 k hk) := by
  subst h
  refine congrArg (show S178.Idx → BitVec 32 from f) (funext fun a => ?_)
  match a with
  | ⟨0, _⟩ => exact Fin.ext (show k + 1 * 0 = k by omega)

theorem read2 (c : Dev nD) (f : Buf (Elt F) ((c : Thread nD τ).loc main_arg2)) (off : Fin 1 → ℕ) (inb) (k : ℕ) (hk : k < 178) (h : off = ![k]) :
    ((Memref.whole main_arg2).access (Rect.unit (s := S178) off S1.size inb)).read (Elt F) f (Shape.Idx.first (numel1_S1.symm ▸ Nat.one_pos))
      = (show S178.Idx → BitVec 32 from f) (at0 k hk) := by
  subst h
  refine congrArg (show S178.Idx → BitVec 32 from f) (funext fun a => ?_)
  match a with
  | ⟨0, _⟩ => exact Fin.ext (show k + 1 * 0 = k by omega)

theorem off1 (t : Fin grid0.N) : k0_off1 (grid0.coords t) = ![t.val] := by rw [k0_off1_eq, coord]

theorem load_said (c : Dev nD) (t : Fin grid0.N) (h3) (h4) :
    said m c t.succ (cut3 (Memref.whole main_arg4) (v4 m c t) h3 c (w5 m c)) (cut3 (Memref.whole main_arg5) (v4 m c t) h3 c (w6 m c))
      (cut4 (Memref.whole main_arg6) (v4 m c t) h4 c (w7 m c)) := by
  intro t' ht _
  obtain rfl : t' = t := Fin.ext (by simpa using ht)
  exact ⟨mat3_eq _ _ _ _ _, mat3_eq _ _ _ _ _, mat4_eq _ _ _ _ _⟩

theorem keep_said (hok : Ok m) (c : Dev nD) (t : Fin grid0.N)
    (hc : ¬ k0_cond1 (grid0.coords t) (v1 m c t) (v4 m c t) (v9 m c t) = 1#1) (x y z) (hs : said m c t.castSucc x y z) :
    said m c t.succ x y z := by
  intro t' ht hv
  obtain rfl : t' = t := Fin.ext (by simpa using ht)
  rw [cond1_iff, coord] at hc
  have h0 : t'.val ≠ 0 := fun h => hc ⟨hv, .inl h⟩
  have he : v4 m c t' = v9 m c t' := Classical.not_not.mp fun h => hc ⟨hv, .inr h⟩
  have hp : t'.val - 1 < grid0.N := lt_of_le_of_lt (Nat.sub_le _ _) t'.isLt
  have h := hs ⟨t'.val - 1, hp⟩ (by simp; omega)
    ((hok c).keep (at0 (t'.val - 1) _) (at0 t'.val _) (by show t'.val - 1 + 1 = t'.val; omega) hv he)
  unfold holds at h ⊢
  rw [he]
  exact h

theorem out_pos (c : Dev nD) (t : Fin grid0.N) (hc : k0_cond2 (v1 m c t) = 1#1) (x y z) (hs : said m c t.succ x y z) :
    k0_pay2 (iblk m c 0 t) x y z (gate (iblk m c 1 t)) = out m c t := by
  obtain ⟨rfl, rfl, rfl⟩ := hs t (by simp) ((cond2_iff _).mp hc)
  unfold out
  rw [if_pos hc]

theorem out_neg (c : Dev nD) (t : Fin grid0.N) (hc : ¬ k0_cond2 (v1 m c t) = 1#1) : k0_pay3 = out m c t := by
  unfold out
  rw [if_neg hc]

theorem owes_in (c : Dev nD) (t) : (dats m 0 c).owesAt () t ⊢ (iprop(∃ W, owes (c.tc : Thread nD τ) 0 W) : sProp 𝕄) := by
  iintro ⟨%W, -, H⟩
  iexists W
  iexact H

theorem owes_out (c : Dev nD) (t) : (iprop(∃ W, owes (c.tc : Thread nD τ) 0 W) : sProp 𝕄) ⊢ (dats m 0 c).owesAt () t := by
  iintro ⟨%W, H⟩
  iexists W
  isplitr
  · ipureintro; exact fun _ _ => .inl trivial
  iexact H

set_option maxHeartbeats 800000 in
theorem sound_body (hok : Ok m) (c : Dev nD) (t : Fin grid0.N) :
    iprop(inv m c t.castSucc ∗ (dats m 0 c).owesAt () t.castSucc
      ∗ (∃ d, owns (c : Thread nD τ) (st m t 0) fullShare ((dats m 0 c).before 0 t d))
      ∗ (∃ d, owns (c : Thread nD τ) (st m t 1) fullShare ((dats m 0 c).before 1 t d))
      ∗ (∃ d, owns (c : Thread nD τ) (st m t 2) fullShare ((dats m 0 c).before 2 t d)))
    ⊢ wp frame (wpE (defs₀ (F := F)) Variants.none c none) Set.univ (bodyAt m t) fun _ =>
      iprop(inv m c t.succ ∗ (dats m 0 c).owesAt () t.succ
        ∗ owns (c : Thread nD τ) (st m t 0) fullShare (iblk m c 0 t)
        ∗ owns (c : Thread nD τ) (st m t 1) fullShare (iblk m c 1 t)
        ∗ owns (c : Thread nD τ) (st m t 2) fullShare (out m c t)) := by
  have hQ : iprop(((c : Thread nD τ).loc main_arg3 ↦{fullShare.right} tv m c) ∗ ((c : Thread nD τ).loc main_arg2 ↦{fullShare.right} te m c)
      ∗ (∃ r, prngReg c r)
      ∗ owns (c : Thread nD τ) (st m t 0) fullShare (iblk m c 0 t) ∗ owns (c : Thread nD τ) (st m t 1) fullShare (iblk m c 1 t)
      ∗ owns (c : Thread nD τ) (st m t 2) fullShare (out m c t)
      ∗ Work (Memref.whole main_arg4) (Memref.whole main_arg5) (Memref.whole main_arg6) (Memref.whole cc0_scratch0) (Memref.whole cc0_scratch1) (Memref.whole cc0_scratch2) (Memref.whole cc0_scoped0) cc0_scoped1 (Memref.whole cc0_scoped2) cc0_scoped3 (Memref.whole cc0_scoped4) cc0_scoped5 c (w5 m c) (w6 m c) (w7 m c) (said m c t.succ))
      ⊢ iprop(inv m c t.succ ∗ (dats m 0 c).owesAt () t.succ
        ∗ owns (c : Thread nD τ) (st m t 0) fullShare (iblk m c 0 t)
        ∗ owns (c : Thread nD τ) (st m t 1) fullShare (iblk m c 1 t)
        ∗ owns (c : Thread nD τ) (st m t 2) fullShare (out m c t)) := by
    unfold inv tbls Work
    iintro ⟨T3, T2, HP, H0, H1, H2, HI, HW, Ho, HS⟩
    isplitl [T3 T2 HP HI HW HS]
    · isplitl [T3 T2]
      · isplitl [T3]; · iexact T3
        iexact T2
      isplitl [HP]; · iexact HP
      isplitl [HI]; · iexact HI
      isplitl [HW]; · iexact HW
      iexact HS
    isplitl [Ho]
    · iapply (owes_out m c t.succ); iexact Ho
    isplitl [H0]; · iexact H0
    isplitl [H1]; · iexact H1
    iexact H2

  have hb := body (F := F) (U := UD sig nD τ) (grid0.coords t) (Memref.whole main_arg2) (Memref.isWhole_whole _) (Memref.whole main_arg3) (Memref.isWhole_whole _)
    (spec0_0.stage ((cfgA m).slots t 0)) (hstage0_0 (((cfgA m).slots t 0).cast nbuf0_0)) (spec0_1.stage ((cfgA m).slots t 1)) (hstage0_1 (((cfgA m).slots t 1).cast nbuf0_1))
    (Memref.whole main_arg4) (Memref.isWhole_whole _) (Memref.whole main_arg5) (Memref.isWhole_whole _) (Memref.whole main_arg6) (Memref.isWhole_whole _)
    (spec0_2.stage ((cfgA m).slots t 2)) (hstage0_2 (((cfgA m).slots t 2).cast nbuf0_2))
    (Memref.whole cc0_scratch0) (Memref.isWhole_whole _) (Memref.whole cc0_scratch1) (Memref.isWhole_whole _) (Memref.whole cc0_scratch2) (Memref.isWhole_whole _)
    (Memref.whole cc0_scoped0) (Memref.isWhole_whole _) cc0_scoped1 (Memref.whole cc0_scoped2) (Memref.isWhole_whole _) cc0_scoped3 (Memref.whole cc0_scoped4) (Memref.isWhole_whole _) cc0_scoped5
    (v1 := v1 m c t) (v4 := v4 m c t) (v9 := v9 m c t) (defs := defs₀) (𝒱 := Variants.none) c (w5 m c) (w6 m c) (w7 m c)
    (S := said m c t.castSucc) (S' := said m c t.succ) (iblk m c 0 t) (iblk m c 1 t) (out m c t)
    (q1 := fullShare.right) (q2 := fullShare.right) (f1 := te m c) (f2 := tv m c)
    (R := iprop(∃ r, prngReg c r))
    (Q := fun _ => iprop(inv m c t.succ ∗ (dats m 0 c).owesAt () t.succ
        ∗ owns (c : Thread nD τ) (st m t 0) fullShare (iblk m c 0 t)
        ∗ owns (c : Thread nD τ) (st m t 1) fullShare (iblk m c 1 t)
        ∗ owns (c : Thread nD τ) (st m t 2) fullShare (out m c t)))
    (read3 c _ _ _ _ _ (off1 t)) (read2 c _ _ _ _ _ (off1 t)) (read2 c _ _ _ _ _ (off2 t))
    (chk _ _ _ _ fun h => (hok c).lt _ h)
    (fun _ h3 h4 => load_said m c t h3 h4) (fun h => keep_said m hok c t h) (fun h => out_pos m c t h) (fun h => out_neg m c t h) hQ
  · simp only [before0, before1]
    refine .trans ?_ hb
    unfold inv tbls Work
    iintro ⟨⟨⟨T3, T2⟩, HP, HI, HW, HS⟩, Ho, ⟨%d0, H0⟩, ⟨%d1, H1⟩, ⟨%d2, H2⟩⟩
    isplitl [T3]; · iexact T3
    isplitl [T2]; · iexact T2
    isplitl [HP]; · iexact HP
    isplitl [H0]; · iexact H0
    isplitl [H1]; · iexact H1
    isplitl [H2]
    · iexists _; iexact H2
    isplitl [HI]; · iexact HI
    isplitl [HW]; · iexact HW
    isplitl [Ho]
    · iapply (owes_in m c t.castSucc); iexact Ho
    iexact HS

end Cert.Kernel3Ideal.Gmm
-- ==== Proof.NextLaunch.lean ====
module

public import proofs.«01_k».proof.Proof.NextFrame

@[expose] public section

set_option maxRecDepth 16384

noncomputable section

namespace Cert.Kernel3Ideal.Gmm

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf UD)

variable {F : FTy → Type} [FloatOps F]

local notation "𝕄" => MT nD τ sig Unit (Elt F) ℕ (UD sig nD τ) ℕ

variable (m : (ℓ : Loc nD τ sig) → Buf (Elt F) ℓ) (ρ : Dev nD → PrngReg)

theorem body_obligation (hok : Ok m) (c : Dev nD) :
    BodyObligation (dats m 0 c) (defs₀ (F := F)) Variants.none () Set.univ := fun t => by
  rw [bigSep_W0, bigSep_W0]
  refine triple_restated (sound_body m hok c t) rfl .rfl fun _ => ?_
  refine sep_mono .rfl (sep_mono .rfl (sep_mono .rfl (sep_mono .rfl ?_)))
  show _ ⊢ (dats m 0 c).leavesExact 2 t
  unfold Dat.leavesExact
  rw [idle2 m t]
  exact .rfl

/-- The rings' semaphores. -/
def osem (k : Fin 3 × Fin 6) : SemLoc sig :=
  match k.1 with
  | 0 => .dma (GmmStep.semM cc0_scoped1 squeezes_S1_S_ k.2)
  | 1 => .dma (GmmStep.semM cc0_scoped3 squeezes_S1_S_ k.2)
  | 2 => .dma (GmmStep.semM cc0_scoped5 squeezes_S1_S_ k.2)

theorem osem_facts : Pipeline.OwnSemFacts spec0 osem := by decide

theorem ownSems_eq (c : Dev nD) :
    (Pipeline.ownSems0 (Ix := Unit) (Name := ℕ) (U := UD sig nD τ) (Lvl := ℕ) (Val := Elt F) (τ := τ) osem c : sProp 𝕄)
      = iprop((bigSep Finset.univ fun s : Fin 6 => semVal (c.tc, .dma (GmmStep.semM cc0_scoped1 squeezes_S1_S_ s)) 0)
        ∗ (bigSep Finset.univ fun s : Fin 6 => semVal (c.tc, .dma (GmmStep.semM cc0_scoped3 squeezes_S1_S_ s)) 0)
        ∗ (bigSep Finset.univ fun s : Fin 6 => semVal (c.tc, .dma (GmmStep.semM cc0_scoped5 squeezes_S1_S_ s)) 0)) := by
  unfold Pipeline.ownSems0
  rw [bigSep_univ_prod, bigSep_W0]
  rfl

/-- The stacks of weights, which the body's copies read. -/
abbrev H : Finset (Ref sig .tc) := {main_arg4, main_arg5, main_arg6}

theorem bigSep_H (Φ : Ref sig .tc → sProp 𝕄) : bigSep H Φ = iprop(Φ main_arg4 ∗ Φ main_arg5 ∗ Φ main_arg6) := by
  rw [show H = insert main_arg4 (insert main_arg5 {main_arg6}) from rfl, bigSep_insert (by decide), bigSep_insert (by decide), bigSep_singleton]
  rfl

theorem tables_eq (c : Dev nD) :
    (Pipeline.ΦT (U := UD sig nD τ) pre0 (adm m).1 c : sProp 𝕄)
      = iprop(((c : Thread nD τ).loc main_arg2 ↦{fullShare.right} te m c) ∗ ((c : Thread nD τ).loc main_arg3 ↦{fullShare.right} tv m c)) := by
  obtain rfl : c = 0 := Subsingleton.elim _ _
  unfold Pipeline.ΦT Pipeline.prefHeld
  rw [show (Finset.univ : Finset (Fin pre0.K)) = insert (0 : Fin 2) {(1 : Fin 2)} from by decide, bigSep_insert (by decide), bigSep_singleton]
  rfl

theorem own_in (c : Dev nD) {cs : CoreSpace} {s : Shape} {e : EltTy} {b : Memref sig .tc cs s e} (h : b.IsWhole) :
    (iprop(∃ f, b.view.loc (c.tc : Thread nD τ) ↦{fullShare} f) : sProp 𝕄) ⊢ iprop(∃ x, owns (c.tc : Thread nD τ) b fullShare x) := by
  iintro ⟨%f, H⟩
  iexists b.view.read (Elt F) f
  rw [GmmStep.owns_whole c h]
  iexists f
  isplitr
  · ipureintro; rfl
  iexact H

theorem own_out (c : Dev nD) {cs : CoreSpace} {s : Shape} {e : EltTy} {b : Memref sig .tc cs s e} (h : b.IsWhole) {x : s.Idx → Elt F e} :
    (owns (c.tc : Thread nD τ) b fullShare x : sProp 𝕄) ⊢ iprop(∃ f, b.view.loc (c.tc : Thread nD τ) ↦{fullShare} f) := by
  rw [GmmStep.owns_whole c h]
  iintro ⟨%f, -, H⟩
  iexists f
  iexact H

theorem phi_in (c : Dev nD) :
    iprop(Pipeline.ΦD (Val := Elt F) osem spec0 H (V m) c ∗ Pipeline.ΦT (U := UD sig nD τ) pre0 (adm m).1 c) ⊢ inv m c 0 := by
  rw [Pipeline.ΦD_eq, ownSems_eq, bigSep_H, tables_eq, scopedRest0_eq]
  unfold inv tbls idles wts scr GmmStep.Idle
  iintro ⟨⟨⟨A0, A1, A2, R0, R1, R2⟩, HP, ⟨S0, S1, S2⟩, W⟩, ⟨T2, T3⟩⟩
  ihave B0 := (own_in (F := F) c (b := Memref.whole cc0_scratch0) (Memref.isWhole_whole _)) $$ A0
  ihave B1 := (own_in (F := F) c (b := Memref.whole cc0_scratch1) (Memref.isWhole_whole _)) $$ A1
  ihave B2 := (own_in (F := F) c (b := Memref.whole cc0_scratch2) (Memref.isWhole_whole _)) $$ A2
  icases B0 with ⟨%x, B0⟩
  icases B1 with ⟨%y, B1⟩
  icases B2 with ⟨%z, B2⟩
  isplitl [T2 T3]
  · isplitl [T3]; · iexact T3
    iexact T2
  isplitl [HP]; · iexact HP
  isplitl [R0 R1 R2 S0 S1 S2]
  · isplitl [R0 S0]
    · isplitl [R0]; · iexact R0
      iexact S0
    isplitl [R1 S1]
    · isplitl [R1]; · iexact R1
      iexact S1
    isplitl [R2]; · iexact R2
    iexact S2
  isplitl [W]; · iexact W
  iexists x, y, z
  isplitr
  · ipureintro
    intro t' ht
    exact absurd ht (Nat.succ_ne_zero _)
  isplitl [B0]; · iexact B0
  isplitl [B1]; · iexact B1
  iexact B2

theorem phi_out (c : Dev nD) (t) : inv m c t ⊢ Pipeline.ΦD (Val := Elt F) osem spec0 H (V m) c := by
  rw [Pipeline.ΦD_eq, ownSems_eq, bigSep_H, scopedRest0_eq]
  unfold inv tbls idles wts scr GmmStep.Idle
  iintro ⟨-, HP, ⟨⟨R0, S0⟩, ⟨R1, S1⟩, ⟨R2, S2⟩⟩, W, ⟨%x, %y, %z, -, B0, B1, B2⟩⟩
  isplitl [R0 R1 R2 B0 B1 B2]
  · isplitl [B0]; · iapply (own_out (F := F) c (b := Memref.whole cc0_scratch0) (Memref.isWhole_whole _)); iexact B0
    isplitl [B1]; · iapply (own_out (F := F) c (b := Memref.whole cc0_scratch1) (Memref.isWhole_whole _)); iexact B1
    isplitl [B2]; · iapply (own_out (F := F) c (b := Memref.whole cc0_scratch2) (Memref.isWhole_whole _)); iexact B2
    isplitl [R0]; · iexact R0
    isplitl [R1]; · iexact R1
    iexact R2
  isplitl [HP]; · iexact HP
  isplitl [S0 S1 S2]
  · isplitl [S0]; · iexact S0
    isplitl [S1]; · iexact S1
    iexact S2
  iexact W

theorem H_sub : H ⊆ Pipeline.restRefsP sig pre0 spec0 := by decide

theorem rest_mem (b : Ref sig .tc) (hs : b.isScoped = false) (ha : ∀ w, (spec0 w).arr.view.ref ≠ b) : b ∈ Pipeline.restRefs sig spec0 :=
  Pipeline.mem_restRefs_of b hs ha

set_option backward.isDefEq.respectTransparency.types false in
set_option maxHeartbeats 800000 in
/-- Every execution ends, the windows' arrays at what the data compute, every counter at zero. -/
theorem run_main (hok : Ok m) : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_dma (Q' := _) pcfgs (fun _ => adm m) (dats m) (0 : Fin 1) launch0 osem defs₀ Variants.none osem_facts H
    H_sub m ρ main (hbody := fun c => (body_obligation m hok c).loose) (hshare := fun c => (dats m 0 c).share_full fun _ => rfl)
    (howed := fun _ _ => rfl) (V := V m) (hmain := hmain m Variants.none) (hA := A_eq m)
    (hpf := fun c k => by obtain rfl : c = 0 := Subsingleton.elim _ _; rfl)
    (hin := phi_in m) (hout := fun c => phi_out m c _) (hQ' := fun _ h => h)

/-- The arguments' arrays end unchanged, every counter at zero. -/
theorem run (hok : Ok m) : θ_run defs (onTc (τ := τ) (main (F := F))) ⟨m, fun _ => 0, ρ⟩ (fun r =>
    (∀ c : Dev nD, r.2.mem ((c.tc : Thread nD τ).loc main_v0) = (dats m 0 c).arrAt 2 (cfgA m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨fun c => ⟨(h.1 c).1 2,
      ((h.1 c).1 0).trans (((dats m 0 c).arrAt_in 0 rfl _).trans (A_eq m c 0)),
      ((h.1 c).1 1).trans (((dats m 0 c).arrAt_in 1 rfl _).trans (A_eq m c 1)),
      (h.1 c).2 main_arg2 (rest_mem main_arg2 (by decide) (by decide)),
      (h.1 c).2 main_arg3 (rest_mem main_arg3 (by decide) (by decide)),
      (h.1 c).2 main_arg4 (rest_mem main_arg4 (by decide) (by decide)),
      (h.1 c).2 main_arg5 (rest_mem main_arg5 (by decide) (by decide)),
      (h.1 c).2 main_arg6 (rest_mem main_arg6 (by decide) (by decide))⟩, h.2⟩) (run_main m ρ hok)

end Cert.Kernel3Ideal.Gmm
-- ==== Proof.NextValue.lean ====
/- The grouped product's result array, index by index, of its arguments. -/
module

public import proofs.«01_k».proof.Proof.NextLaunch
public import Idealize.ShloMosaic.Lib.Pointwise
public import Idealize.ShloMosaic.Lib.ValueIdx
public import Idealize.ShloMosaic.Lib.Pipeline.ValueKit.Point

@[expose] public section

set_option maxRecDepth 16384

noncomputable section

namespace Cert.Kernel3Ideal.Gmm

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One expert's layer of a row, at a lane. -/
def layer (h : Fin 1024 → EReal) (a b : Fin 1024 → Fin 3584 → EReal) (d : Fin 3584 → EReal) : EReal :=
  ∑ f : Fin 3584, (∑ k, h k * a k f) * Ideal.logistic (∑ k, h k * a k f) * (∑ k, h k * b k f) * d f

theorem pay2_apply (x : Vec Ideal S256x1024 .bf16) (a b : Vec Ideal S1024x3584 .bf16) (d : Vec Ideal S3584x1024 .bf16)
    (g : Vec Ideal S256x1 .f32) (r : Fin 256) (l : Fin 1024) :
    k0_pay2 (F := Ideal) x a b d g (ix2 r l)
      = layer (fun k => x (ix2 r k)) (fun k f => a (ix2 k f)) (fun k f => b (ix2 k f)) (fun f => d (ix2 f l)) * g (ix2 r (0 : Fin 1)) := by
  unfold k0_pay2 layer
  pointwise

theorem in3 (e : BitVec 32) (he : e.toNat < 8) : ∀ a, (k0_off3 e) a + S1x1x1024x3584.size a ≤ S2x8x1024x3584.size a := fun a =>
  match a with
  | ⟨0, _⟩ => show 1 + 1 ≤ 2 by omega
  | ⟨1, _⟩ => show e.toNat + 1 ≤ 8 by omega
  | ⟨2, _⟩ => show 0 + 1024 ≤ 1024 by omega
  | ⟨3, _⟩ => show 0 + 3584 ≤ 3584 by omega

theorem in4 (e : BitVec 32) (he : e.toNat < 8) : ∀ a, (k0_off4 e) a + S1x1x3584x1024.size a ≤ S2x8x3584x1024.size a := fun a =>
  match a with
  | ⟨0, _⟩ => show 1 + 1 ≤ 2 by omega
  | ⟨1, _⟩ => show e.toNat + 1 ≤ 8 by omega
  | ⟨2, _⟩ => show 0 + 3584 ≤ 3584 by omega
  | ⟨3, _⟩ => show 0 + 1024 ≤ 1024 by omega

theorem wg_read (c : Dev nD) (e : BitVec 32) (he : e.toNat < 8) (k : Fin 1024) (f : Fin 3584) :
    mat3 (F := Ideal) (Memref.whole main_arg4) e c (w5 m c) (ix2 k f) = w5 m c (ix4 (1 : Fin 2) (⟨e.toNat, he⟩ : Fin 8) k f) := by
  rw [← mat3_eq _ _ _ _ (in3 e he)]
  show w5 m c ((Rect.unit (s := S2x8x1024x3584) (k0_off3 e) S1x1x1024x3584.size (in3 e he)).emb (Shape.reshapeEquiv _ (ix2 k f))) = _
  refine congrArg (w5 m c) ?_
  have hj : ∀ h, Shape.reshapeEquiv h (ix2 k f) = ix4 (0 : Fin 1) (0 : Fin 1) k f := fun h => Shape.reshapeEquiv_eq_of_rowMajor h (by
    rw [Shape.rowMajor_val_four, Shape.rowMajor_val_two]
    show ((0 * 1 + 0) * 1024 + k.val) * 3584 + f.val = k.val * 3584 + f.val
    omega)
  rw [hj]
  funext a
  apply Fin.ext
  rw [Rect.emb_apply]
  match a with
  | ⟨0, _⟩ => rfl
  | ⟨1, _⟩ => show e.toNat + 1 * 0 = e.toNat; omega
  | ⟨2, _⟩ => show 0 + 1 * k.val = k.val; omega
  | ⟨3, _⟩ => show 0 + 1 * f.val = f.val; omega

theorem wu_read (c : Dev nD) (e : BitVec 32) (he : e.toNat < 8) (k : Fin 1024) (f : Fin 3584) :
    mat3 (F := Ideal) (Memref.whole main_arg5) e c (w6 m c) (ix2 k f) = w6 m c (ix4 (1 : Fin 2) (⟨e.toNat, he⟩ : Fin 8) k f) := by
  rw [← mat3_eq _ _ _ _ (in3 e he)]
  show w6 m c ((Rect.unit (s := S2x8x1024x3584) (k0_off3 e) S1x1x1024x3584.size (in3 e he)).emb (Shape.reshapeEquiv _ (ix2 k f))) = _
  refine congrArg (w6 m c) ?_
  have hj : ∀ h, Shape.reshapeEquiv h (ix2 k f) = ix4 (0 : Fin 1) (0 : Fin 1) k f := fun h => Shape.reshapeEquiv_eq_of_rowMajor h (by
    rw [Shape.rowMajor_val_four, Shape.rowMajor_val_two]
    show ((0 * 1 + 0) * 1024 + k.val) * 3584 + f.val = k.val * 3584 + f.val
    omega)
  rw [hj]
  funext a
  apply Fin.ext
  rw [Rect.emb_apply]
  match a with
  | ⟨0, _⟩ => rfl
  | ⟨1, _⟩ => show e.toNat + 1 * 0 = e.toNat; omega
  | ⟨2, _⟩ => show 0 + 1 * k.val = k.val; omega
  | ⟨3, _⟩ => show 0 + 1 * f.val = f.val; omega

theorem wd_read (c : Dev nD) (e : BitVec 32) (he : e.toNat < 8) (f : Fin 3584) (l : Fin 1024) :
    mat4 (F := Ideal) (Memref.whole main_arg6) e c (w7 m c) (ix2 f l) = w7 m c (ix4 (1 : Fin 2) (⟨e.toNat, he⟩ : Fin 8) f l) := by
  rw [← mat4_eq _ _ _ _ (in4 e he)]
  show w7 m c ((Rect.unit (s := S2x8x3584x1024) (k0_off4 e) S1x1x3584x1024.size (in4 e he)).emb (Shape.reshapeEquiv _ (ix2 f l))) = _
  refine congrArg (w7 m c) ?_
  have hj : ∀ h, Shape.reshapeEquiv h (ix2 f l) = ix4 (0 : Fin 1) (0 : Fin 1) f l := fun h => Shape.reshapeEquiv_eq_of_rowMajor h (by
    rw [Shape.rowMajor_val_four, Shape.rowMajor_val_two]
    show ((0 * 1 + 0) * 3584 + f.val) * 1024 + l.val = f.val * 1024 + l.val
    omega)
  rw [hj]
  funext a
  apply Fin.ext
  rw [Rect.emb_apply]
  match a with
  | ⟨0, _⟩ => rfl
  | ⟨1, _⟩ => show e.toNat + 1 * 0 = e.toNat; omega
  | ⟨2, _⟩ => show 0 + 1 * f.val = f.val; omega
  | ⟨3, _⟩ => show 0 + 1 * l.val = l.val; omega

theorem idx0 : ∀ t : Fin grid0.N, cc0_transform_0 (grid0.coords t) = ![t.val, 0] := by decide +kernel
theorem idx1 : ∀ t : Fin grid0.N, cc0_transform_1 (grid0.coords t) = ![t.val, 0] := by decide +kernel
theorem idx2 : ∀ t : Fin grid0.N, cc0_transform_5 (grid0.coords t) = ![t.val, 0] := by decide +kernel

theorem idx (t : Fin (cfgA m).N) :
    (pcfg0.win (adm m) 0).index t = ![t.val, 0] ∧ (pcfg0.win (adm m) 1).index t = ![t.val, 0] ∧ (pcfg0.win (adm m) 2).index t = ![t.val, 0] :=
  ⟨idx0 t, idx1 t, idx2 t⟩

theorem h_read (c : Dev nD) (t : Fin (cfgA m).N) (p : Fin 256) (l : Fin 1024) (r : Fin 45568) (hr : r.val = t.val * 256 + p.val) :
    iblk m c 0 t (ix2 p l) = m ((c : Thread nD τ).loc main_arg0) (ix2 r l) := by
  have ht := lt178 t
  blk_ext! [iblk, V, hr]
  · exact congrArg (· * 256 + p.val) (congrFun (idx m t).1 0)
  · exact (congrArg (· * 1024 + l.val) (congrFun (idx m t).1 1)).trans (by show 0 * 1024 + l.val = l.val; omega)

theorem g_read (c : Dev nD) (t : Fin (cfgA m).N) (p : Fin 256) (l : Fin 128) (r : Fin 45568) (hr : r.val = t.val * 256 + p.val) :
    iblk m c 1 t (ix2 p l) = m ((c : Thread nD τ).loc main_arg1) (ix2 r l) := by
  have ht := lt178 t
  blk_ext! [iblk, V, hr]
  · exact congrArg (· * 256 + p.val) (congrFun (idx m t).2.1 0)
  · exact (congrArg (· * 128 + l.val) (congrFun (idx m t).2.1 1)).trans (by show 0 * 128 + l.val = l.val; omega)

def adm0 : (pcfg0 (F := Ideal)).Adm := ⟨fun k => match k with | ⟨0, _⟩ => fun _ => 0#32 | ⟨1, _⟩ => fun _ => 0#32, trivial⟩

theorem cover0 : ((pcfg0 (F := Ideal)).win adm0 2).Covers := by decide +kernel
theorem cover : ((cfgA m).win 2).Covers := cover0

/-- The tile of a row, and the expert a word names. -/
def tile (r : Fin 45568) : S178.Idx := at0 (r.val / 256) (by omega)
def expert (e : BitVec 32) : Fin 8 := ⟨e.toNat % 8, Nat.mod_lt _ (by decide)⟩

/-- The result at a row and a lane: the layer of the expert of the row's tile, times the row's gate; zero in a tile that is not valid. -/
def moe (x0 : FVec Ideal S45568x1024 .bf16) (x1 : FVec Ideal S45568x128 .f32) (x2 x3 : IVec S178 32)
    (x4 x5 : FVec Ideal S2x8x1024x3584 .f32) (x6 : FVec Ideal S2x8x3584x1024 .f32) (r : Fin 45568) (l : Fin 1024) : EReal :=
  if x3 (tile r) ≠ 0 then
    layer (fun k => x0 (ix2 r k)) (fun k f => x4 (ix4 (1 : Fin 2) (expert (x2 (tile r))) k f))
      (fun k f => x5 (ix4 (1 : Fin 2) (expert (x2 (tile r))) k f)) (fun f => x6 (ix4 (1 : Fin 2) (expert (x2 (tile r))) f l))
      * x1 (ix2 r (0 : Fin 128))
  else 0

/-- The result array. -/
def result (c : Dev nD) : Buf (Elt Ideal) ((c : Thread nD τ).loc main_v0) := fun i : S45568x1024.Idx =>
  moe (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

theorem gate_apply (x : S256x128.Idx → Elt Ideal .f32) (p : Fin 256) :
    gate (F := Ideal) x (ix2 p (0 : Fin 1)) = x (ix2 p (0 : Fin 128)) := by
  refine congrArg x ?_
  funext a
  match a with
  | ⟨0, _⟩ => exact Fin.ext (by show 0 + 1 * p.val = p.val; omega)
  | ⟨1, _⟩ => rfl

theorem zero_apply (i : S256x1024.Idx) : k0_pay3 (F := Ideal) i = 0 := by
  unfold k0_pay3
  pointwise

/-- The body's block of the result at a grid point. -/
theorem block_moe (hok : Ok m) (c : Dev nD) (t : Fin (cfgA m).N) (p : Fin 256) (l : Fin 1024) (r : Fin 45568)
    (hr : r.val = t.val * 256 + p.val) : out m c t (ix2 p l) = result m c (ix2 r l) := by
  have ht := lt178 t
  have e : tile r = at0 t.val ht := by
    unfold tile
    funext a
    match a with
    | ⟨0, _⟩ => exact Fin.ext (by show r.val / 256 = t.val; omega)
  unfold out result moe
  show _ = ite (tv m c (tile r) ≠ 0) _ _
  by_cases h : v1 m c t = 0
  · rw [if_neg (fun h' => (cond2_iff _).mp h' h), if_neg (by rw [e]; exact fun h' => h' h)]
    exact zero_apply _
  have he : (v4 m c t).toNat < 8 := (hok c).lt _ h
  have hx : expert (te m c (tile r)) = ⟨(v4 m c t).toNat, he⟩ := by
    rw [e]
    exact Fin.ext (Nat.mod_eq_of_lt he)
  rw [if_pos ((cond2_iff _).mpr h), if_pos (by rw [e]; exact h)]
  refine (pay2_apply _ _ _ _ _ p l).trans (congrArg₂ (· * ·) ?_ ((gate_apply _ p).trans (g_read m c t p 0 r hr)))
  have h0 := fun k => h_read m c t p k r hr
  have h4 := fun k f => wg_read m c (v4 m c t) he k f
  have h5 := fun k f => wu_read m c (v4 m c t) he k f
  have h6 := fun f => wd_read m c (v4 m c t) he f l
  refine congr (congr (congr (congrArg layer ?_) ?_) ?_) ?_
  · exact funext h0
  · exact funext fun k => funext fun f => (h4 k f).trans (by rw [← hx]; rfl)
  · exact funext fun k => funext fun f => (h5 k f).trans (by rw [← hx]; rfl)
  · exact funext fun f => (h6 f).trans (by rw [← hx]; rfl)

theorem final (hok : Ok m) (c : Dev nD) : (dats m 0 c).arrAt 2 (cfgA m).N = result m c := by
  refine (dats m 0 c).arrAt_eq_of_covers 2 (result m c) (cover m) fun t _ (y : S256x1024.Idx) => ?_
  have ht := lt178 t
  show (dats m 0 c).after 2 t _ = _
  rw [after2]
  have e : ∀ (z : S256x1024.Idx), z = ix2 (z 0) (z 1) := fun z => by
    funext a
    match a with
    | ⟨0, _⟩ => rfl
    | ⟨1, _⟩ => rfl
  refine (congrArg (out m c t) (e _)).trans ?_
  have hy : (y 0).val < 256 := (y 0).isLt
  refine (block_moe m hok c t _ _ ⟨t.val * 256 + (y 0).val, by omega⟩ rfl).trans ?_
  refine congrArg (result m c) ?_
  blk_ext []
  · exact (congrArg (· * 256 + (y 0).val) (congrFun (idx m t).2.2 0)).symm
  · exact ((congrArg (· * 1024 + (y 1).val) (congrFun (idx m t).2.2 1)).trans (by show 0 * 1024 + (y 1).val = (y 1).val; omega)).symm

end Cert.Kernel3Ideal.Gmm
-- ==== Proof.NextRef.lean ====
/- The reference of the grouped product, at an index: the sum over the experts has one term. -/
module

public import proofs.«01_k».proof.Proof.NextValue
public import proofs.«01_k».proof.Proof.Gen.Reference3Ideal.Read
public import Idealize.ShloMosaic.Lib.WordCmp

@[expose] public section

set_option maxRecDepth 16384

noncomputable section

namespace Cert.Reference3Ideal.Gmm

open Cert.Reference3Ideal Cert.Reference3Ideal.Gen Cert.Reference3Ideal.Read Idealize.ShloMosaic Idealize.ShloMosaic.TcCoe Idealize.SL.Sem
open Cert.Kernel3Ideal.Gmm (layer moe tile expert at0)

variable (x0 : (⟨S45568x1024, .bf16⟩ : BufTy).Contents (Elt Ideal)) (x1 : (⟨S45568x128, .f32⟩ : BufTy).Contents (Elt Ideal))
  (x2 x3 : (⟨S178, .i32⟩ : BufTy).Contents (Elt Ideal)) (x4 x5 : (⟨S2x8x1024x3584, .f32⟩ : BufTy).Contents (Elt Ideal))
  (x6 : (⟨S2x8x3584x1024, .f32⟩ : BufTy).Contents (Elt Ideal))

/-- The second layer's matrices. -/
theorem wg_apply (e : Fin 8) (k : Fin 1024) (f : Fin 3584) :
    val_main_v23 (F := Ideal) x4 (ix3 e k f) = x4 (ix4 (1 : Fin 2) e k f) := by
  rw [val_main_v23_apply, val_main_v22_apply]
  refine congrArg x4 (funext fun a => Fin.ext ?_)
  match a with
  | ⟨0, _⟩ => rfl
  | ⟨1, _⟩ => show ((e.val * 1024 + k.val) * 3584 + f.val) / 3670016 % 8 = e.val; omega
  | ⟨2, _⟩ => show ((e.val * 1024 + k.val) * 3584 + f.val) / 3584 % 1024 = k.val; omega
  | ⟨3, _⟩ => show ((e.val * 1024 + k.val) * 3584 + f.val) % 3584 = f.val; omega

theorem wu_apply (e : Fin 8) (k : Fin 1024) (f : Fin 3584) :
    val_main_v28 (F := Ideal) x5 (ix3 e k f) = x5 (ix4 (1 : Fin 2) e k f) := wg_apply x5 e k f

theorem wd_apply (e : Fin 8) (f : Fin 3584) (l : Fin 1024) :
    val_main_v33 (F := Ideal) x6 (ix3 e f l) = x6 (ix4 (1 : Fin 2) e f l) := by
  rw [val_main_v33_apply, val_main_v32_apply]
  refine congrArg x6 (funext fun a => Fin.ext ?_)
  match a with
  | ⟨0, _⟩ => rfl
  | ⟨1, _⟩ => show ((e.val * 3584 + f.val) * 1024 + l.val) / 3670016 % 8 = e.val; omega
  | ⟨2, _⟩ => show ((e.val * 3584 + f.val) * 1024 + l.val) / 1024 % 3584 = f.val; omega
  | ⟨3, _⟩ => show ((e.val * 3584 + f.val) * 1024 + l.val) % 1024 = l.val; omega

/-- The two products into the hidden lanes. -/
theorem hid_apply (e : Fin 8) (r : Fin 45568) (f : Fin 3584) :
    val_main_v25 (F := Ideal) x0 x4 (ix3 e r f) = ∑ k : Fin 1024, x0 (ix2 r k) * x4 (ix4 (1 : Fin 2) e k f) := by
  rw [val_main_v25_apply, val_main_v24_apply]
  refine Finset.sum_congr rfl fun k _ => ?_
  refine (mul_comm _ _).trans (congrArg₂ (· * ·) ?_ ?_)
  · exact congrArg x0 (funext fun a => match a with | ⟨0, _⟩ => rfl | ⟨1, _⟩ => rfl)
  · refine Eq.trans ?_ (wg_apply x4 e k f)
    exact congrArg (val_main_v23 (F := Ideal) x4) (funext fun a => match a with | ⟨0, _⟩ => rfl | ⟨1, _⟩ => rfl | ⟨2, _⟩ => rfl)

theorem up_apply (e : Fin 8) (r : Fin 45568) (f : Fin 3584) :
    val_main_v30 (F := Ideal) x0 x5 (ix3 e r f) = ∑ k : Fin 1024, x0 (ix2 r k) * x5 (ix4 (1 : Fin 2) e k f) := hid_apply x0 x5 e r f

theorem one : Ideal.ofBits FTy.f32 0x3F800000#32 = 1 := by
  simp [Ideal.ofBits, Ideal.ieee]
  rw [← EReal.coe_mul]
  norm_num

/-- The gated hidden lanes. -/
theorem act_apply (e : Fin 8) (r : Fin 45568) (f : Fin 3584) :
    val_main_v31 (F := Ideal) x0 x4 x5 (ix3 e r f)
      = (∑ k : Fin 1024, x0 (ix2 r k) * x4 (ix4 (1 : Fin 2) e k f)) * Ideal.logistic (∑ k : Fin 1024, x0 (ix2 r k) * x4 (ix4 (1 : Fin 2) e k f))
        * (∑ k : Fin 1024, x0 (ix2 r k) * x5 (ix4 (1 : Fin 2) e k f)) := by
  rw [val_main_v31_apply, val_main_v26_apply, val_main_call1_v5_apply, val_main_call1_v3_apply, val_main_call1_v4_apply, val_main_call1_v2_apply,
    val_main_call1_v1_apply, val_main_call1_v0_apply, val_main_call1_cst_apply, val_main_call1_cst_0_apply, hid_apply, up_apply]
  show _ * Ideal.div (Ideal.ofBits FTy.f32 0x3F800000#32) (Ideal.ofBits FTy.f32 0x3F800000#32 + Ideal.exp (-_)) * _ = _
  rw [one]
  rfl

/-- Every expert's layer of a row. -/
theorem layer_apply (e : Fin 8) (r : Fin 45568) (l : Fin 1024) :
    val_main_v34 (F := Ideal) x0 x4 x5 x6 (ix3 e r l)
      = layer (fun k => x0 (ix2 r k)) (fun k f => x4 (ix4 (1 : Fin 2) e k f)) (fun k f => x5 (ix4 (1 : Fin 2) e k f))
          (fun f => x6 (ix4 (1 : Fin 2) e f l)) := by
  rw [val_main_v34_apply]
  unfold layer
  refine Finset.sum_congr rfl fun f _ => congrArg₂ (· * ·) ?_ ?_
  · refine Eq.trans ?_ (act_apply x0 x4 x5 e r f)
    exact congrArg (val_main_v31 (F := Ideal) x0 x4 x5) (funext fun a => match a with | ⟨0, _⟩ => rfl | ⟨1, _⟩ => rfl | ⟨2, _⟩ => rfl)
  · refine Eq.trans ?_ (wd_apply x6 e f l)
    exact congrArg (val_main_v33 (F := Ideal) x6) (funext fun a => match a with | ⟨0, _⟩ => rfl | ⟨1, _⟩ => rfl | ⟨2, _⟩ => rfl)

/-- The tables, row by row. -/
theorem te_apply (i : S45568.Idx) : val_main_v3 (F := Ideal) x2 i = x2 (tile (i 0)) := by
  rw [val_main_v3_apply, val_main_v2_apply, val_main_v1_apply]
  refine congrArg x2 (funext fun a => ?_)
  have h : (i 0).val < 45568 := (i 0).isLt
  match a with
  | ⟨0, _⟩ => exact Fin.ext (by first | rfl | (show (i 0).val / 256 % 178 = (i 0).val / 256; omega))

theorem tv_apply (i : S45568.Idx) : val_main_v6 (F := Ideal) x3 i = x3 (tile (i 0)) := te_apply x3 i

/-- The gate of a row for an expert. -/
theorem gate_apply (e : Fin 8) (r : Fin 45568) (l : Fin 1024) :
    val_main_v36 (F := Ideal) x1 x2 x3 (ix3 e r l)
      = if x3 (tile r) ≠ 0 ∧ x2 (tile r) = BitVec.ofNat 32 e.val then x1 (ix2 r (0 : Fin 128)) else 0 := by
  rw [val_main_v36_apply, val_main_v35_apply, val_main_v21_apply, val_main_call0_v1_apply, val_main_call0_v2_apply, val_main_v17_apply,
    val_main_v16_apply, val_main_v15_apply, val_main_v9_apply, val_main_v8_apply, val_main_v13_apply, val_main_v14_apply,
    val_main_v10_apply, te_apply, tv_apply, val_main_v12_apply, val_main_v20_apply, val_main_v19_apply, val_main_v18_apply]
  have hz : Ideal.ofBits FTy.f32 0x00000000#32 = 0 := by simp [Ideal.ofBits, Ideal.ieee]
  have hg : idx_main_v18 (idx_main_v19 (idx_main_v20 (idx_main_call0_v1 (idx_main_v35 (idx_main_v36 (ix3 e r l)))))) = ix2 r (0 : Fin 128) :=
    funext fun a => Fin.ext (by
      have := r.isLt
      match a with
      | ⟨0, _⟩ => show r.val / 1 = r.val; omega
      | ⟨1, _⟩ => rfl)
  rw [hg]
  show Scalar.select (IntOp.andi (IntOp.cmpi .ne (x3 (tile r)) 0#32) (IntOp.cmpi .eq (x2 (tile r)) (BitVec.ofNat 32 e.val)))
    (x1 (ix2 r (0 : Fin 128))) (Ideal.ofBits FTy.f32 0x00000000#32) = _
  rw [hz, WordCmp.cmpi_ne_eq, WordCmp.cmpi_eq_eq, WordCmp.andi_ofBool]
  unfold Scalar.select
  by_cases h : x3 (tile r) ≠ 0 ∧ x2 (tile r) = BitVec.ofNat 32 e.val
  · rw [if_pos h, if_pos (by rw [WordCmp.ofBool_eq_one_iff', Bool.and_eq_true, decide_eq_true_eq, decide_eq_true_eq]; exact h)]
  · rw [if_neg h, if_neg (by rw [WordCmp.ofBool_eq_one_iff', Bool.and_eq_true, decide_eq_true_eq, decide_eq_true_eq]; exact h)]

theorem ref_apply (r : Fin 45568) (l : Fin 1024) (h : x3 (tile r) ≠ 0 → (x2 (tile r)).toNat < 8) :
    val_main_v39 (F := Ideal) x0 x1 x2 x3 x4 x5 x6 (ix2 r l) = moe x0 x1 x2 x3 x4 x5 x6 r l := by
  show val_main_v38 (F := Ideal) x0 x1 x2 x3 x4 x5 x6 (ix2 r l) = _
  rw [val_main_v38_apply]
  have hz : (val_main_cst_0 (F := Ideal)) (Shape.Idx.first h_S_) = 0 := by unfold val_main_cst_0; pointwise
  rw [hz, zero_add]
  have ht : ∀ e : Fin 8, val_main_v37 (F := Ideal) x0 x1 x2 x3 x4 x5 x6 (idx_main_v38 (ix2 r l) e)
      = (if x3 (tile r) ≠ 0 ∧ x2 (tile r) = BitVec.ofNat 32 e.val then x1 (ix2 r (0 : Fin 128)) else 0)
        * layer (fun k => x0 (ix2 r k)) (fun k f => x4 (ix4 (1 : Fin 2) e k f)) (fun k f => x5 (ix4 (1 : Fin 2) e k f))
          (fun f => x6 (ix4 (1 : Fin 2) e f l)) := fun e => by
    have hi : idx_main_v38 (ix2 r l) e = ix3 e r l := funext fun a => match a with | ⟨0, _⟩ => rfl | ⟨1, _⟩ => rfl | ⟨2, _⟩ => rfl
    rw [hi, val_main_v37_apply, gate_apply, layer_apply]
    rfl
  rw [Finset.sum_congr rfl fun e _ => ht e]
  unfold moe
  by_cases hv : x3 (tile r) = 0
  · rw [if_neg (fun h' => h' hv)]
    exact Finset.sum_eq_zero fun e _ => by rw [if_neg (fun h' => h'.1 hv), zero_mul]
  have he := h hv
  have hx : ∀ e : Fin 8, x2 (tile r) = BitVec.ofNat 32 e.val ↔ e = expert (x2 (tile r)) := fun e => by
    rw [← BitVec.toNat_inj, BitVec.toNat_ofNat, Fin.ext_iff]
    unfold expert
    have := e.isLt
    show _ ↔ e.val = (x2 (tile r)).toNat % 8
    omega
  rw [if_pos hv, Finset.sum_eq_single (expert (x2 (tile r)))]
  · rw [if_pos ⟨hv, (hx _).mpr rfl⟩]
    exact mul_comm _ _
  · intro e _ hne
    rw [if_neg (fun h' => hne ((hx e).mp h'.2)), zero_mul]
  · intro hn
    exact absurd (Finset.mem_univ _) hn

end Cert.Reference3Ideal.Gmm

end
-- ==== Proof.GmmPre.lean ====
/- What the precondition `routed` says of the tables' words. -/
module

public import proofs.«01_k».proof.Pre_routed
public import Idealize.ShloMosaic.Lib.WordCmp
public import Idealize.ShloMosaic.Lib.Pointwise
public import Idealize.ShloMosaic.Lib.ValueIdx

@[expose] public section

set_option maxRecDepth 16384

noncomputable section

namespace Cert.Gmm

open Idealize.ShloMosaic Idealize.ShloMosaic.WordCmp
open Cert.Pre_routed (S45568x1024 S45568x128 S178 S177 S2x8x1024x3584 S2x8x3584x1024)

/-- The precondition's side conditions. -/
theorem routedFacts : Cert.Pre_routed.Facts where
  bcast_S_S178 := by decide
  slices_S178_S177_1 := by decide
  bcast_S_S177 := by decide
  slices_S178_S177_0 := by decide

variable {F : FTy → Type} [FloatOps F]
variable (x0 : FVec F S45568x1024 .bf16) (x1 : FVec F S45568x128 .f32) (te tv : IVec S178 32)
  (x4 x5 : FVec F S2x8x1024x3584 .f32) (x6 : FVec F S2x8x3584x1024 .f32)

/-- A valid tile's expert exists. -/
theorem exists_of (h : (@Cert.Pre_routed.fn routedFacts F _ x0 x1 te tv x4 x5 x6).1 = fun _ => 1#1) (x : S178.Idx) (hx : tv x ≠ 0) :
    (te x).toNat < 8 := by
  have e : IntOp.ori (IntOp.cmpi .eq (tv x) 0#32) (IntOp.andi (IntOp.cmpi .sge (te x) 0#32) (IntOp.cmpi .slt (te x) 8#32)) = 1#1 := congrFun h x
  rw [cmpi_eq_eq, cmpi_sge_eq, cmpi_slt_eq, andi_ofBool, ori_ofBool, ofBool_eq_one_iff] at e
  have h8 : (8#32 : BitVec 32).toInt = 8 := by decide
  have h0 : (0#32 : BitVec 32).toInt = 0 := by decide
  rw [h8, h0] at e
  simp only [Bool.or_eq_true, Bool.and_eq_true, decide_eq_true_eq] at e
  rcases e with e | ⟨a, b⟩
  · exact absurd e hx
  · rw [BitVec.toInt_eq_toNat_cond] at a b
    have := (te x).isLt
    split at a <;> omega

/-- A valid tile that keeps its predecessor's expert follows a valid tile. -/
theorem keeps_of (h : (@Cert.Pre_routed.fn routedFacts F _ x0 x1 te tv x4 x5 x6).2 = fun _ => 1#1) (x y : S178.Idx)
    (hxy : (x 0).val + 1 = (y 0).val) (hy : tv y ≠ 0) (he : te y = te x) : tv x ≠ 0 := by
  have hy178 : (y 0).val < 178 := (y 0).isLt
  have hx177 : (x 0).val < 177 := by omega
  have e : IntOp.ori (IntOp.ori (IntOp.cmpi .eq (tv (ix1 ⟨1 + (x 0).val, by omega⟩)) 0#32)
      (IntOp.cmpi .ne (te (ix1 ⟨1 + (x 0).val, by omega⟩)) (te (ix1 ⟨0 + (x 0).val, by omega⟩))))
      (IntOp.cmpi .ne (tv (ix1 ⟨0 + (x 0).val, by omega⟩)) 0#32) = 1#1 := by
    refine Eq.trans ?_ (congrFun h (ix1 ⟨(x 0).val, hx177⟩))
    unfold Cert.Pre_routed.fn
    pointwise
  have ex : (ix1 (⟨0 + (x 0).val, by omega⟩ : Fin 178) : S178.Idx) = x := funext fun a => match a with
    | ⟨0, _⟩ => Fin.ext (by show 0 + (x 0).val = (x 0).val; omega)
  have ey : (ix1 (⟨1 + (x 0).val, by omega⟩ : Fin 178) : S178.Idx) = y := funext fun a => match a with
    | ⟨0, _⟩ => Fin.ext (by show 1 + (x 0).val = (y 0).val; omega)
  rw [ex, ey, cmpi_eq_eq, cmpi_ne_eq, cmpi_ne_eq, ori_ofBool, ori_ofBool, ofBool_eq_one_iff] at e
  simp only [Bool.or_eq_true, decide_eq_true_eq] at e
  rcases e with (e | e) | e
  · exact absurd e hy
  · exact absurd he e
  · exact e

end Cert.Gmm

end
-- ==== Proof.lean ====
/- The proof of the certificate's claims: the attention kernel and the grouped products of both
expert layers run and compute their references. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2
public import proofs.«01_k».proof.Proof.Gen.Kernel3
public import proofs.«01_k».proof.Proof.Gen.Kernel2.Skeleton
public import proofs.«01_k».proof.Proof.Gen.Kernel3.Skeleton
public import proofs.«01_k».proof.Proof.Gen.Kernel2.Launch
public import proofs.«01_k».proof.Proof.Gen.Kernel3.Launch
public import proofs.«01_k».proof.Proof.Gen.Kernel2Ideal
public import proofs.«01_k».proof.Proof.Gen.Kernel3Ideal
public import proofs.«01_k».proof.Proof.Gen.Kernel2Ideal.Skeleton
public import proofs.«01_k».proof.Proof.Gen.Kernel3Ideal.Skeleton
public import proofs.«01_k».proof.Proof.Gen.Kernel2Ideal.Launch
public import proofs.«01_k».proof.Proof.Gen.Kernel3Ideal.Launch
public import proofs.«01_k».proof.Proof.Gen.Reference2Ideal
public import proofs.«01_k».proof.Proof.Gen.Reference3Ideal
public import proofs.«01_k».proof.Proof.Gen.Reference2Ideal.Run
public import proofs.«01_k».proof.Proof.Gen.Reference3Ideal.Run
public import proofs.«01_k».proof.Proof.Gen.Reference2Ideal.Read
public import proofs.«01_k».proof.Proof.Gen.Reference3Ideal.Read
public import proofs.«01_k».proof.Proof.Equal
public import proofs.«01_k».proof.Proof.GmmRef
public import proofs.«01_k».proof.Proof.NextRef
public import proofs.«01_k».proof.Proof.GmmPre
public import proofs.«01_k».proof.Proof.RoundedLaunch
public import proofs.«01_k».proof.Proof.NextRoundedLaunch
public import Idealize.ShloMosaic.Adequacy
public import Idealize.ShloMosaic.Init

@[expose] public section

noncomputable section

namespace Cert.Proof

open Idealize.ShloMosaic Idealize.SL.Sem

theorem referenceFrame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal_pre_finite (hPre_finite := Cert.Attn.finiteFacts) := by
  intro m ρ m' ρ' hpre hagree
  refine ⟨fun c => Cert.KernelIdeal.Attn.result m c,
    (θ_run Cert.KernelIdeal.defs _ _).mono (fun r h c => ⟨(h c).1.trans (Cert.KernelIdeal.Attn.final m c), (h c).2⟩)
      (Cert.KernelIdeal.Value.run_blocks (F := Ideal) m ρ),
    (θ_run Cert.ReferenceIdeal.defs _ _).mono (fun r h c => ⟨(h c).1.trans ?_, (h c).2⟩)
      (Cert.ReferenceIdeal.Value.run (F := Ideal) m' ρ')⟩
  obtain ⟨e0, e1, e2, e3, e4⟩ := hagree c
  obtain ⟨p0, p1, p3⟩ := hpre c
  rw [Cert.ReferenceIdeal.Read.val_main_v29_eq, e0, e1, e2, e3, e4]
  funext i
  have hi : i = ix3 (i 0) (i 1) (i 2) := by
    funext a
    match a with
    | ⟨0, _⟩ => rfl
    | ⟨1, _⟩ => rfl
    | ⟨2, _⟩ => rfl
  rw [hi]
  exact (Cert.Attn.attn_eq _ _ _ _ _ (Cert.Attn.reals_q _ _ _ _ _ p0) (Cert.Attn.reals_k _ _ _ _ _ p1) (Cert.Attn.reals_kc _ _ _ _ _ p3) _ _ _).symm

theorem okRounded (m : (ℓ : Loc Cert.Kernel2.nD Cert.Kernel2.τ Cert.Kernel2.sig) → Buf (Elt Bits) ℓ)
    (h : Cert.Pre_Kernel2 (hPre_routed := Cert.Gmm.routedFacts) m) : Cert.Kernel2.Gmm.Ok m := fun c =>
  ⟨Cert.Gmm.exists_of _ _ _ _ _ _ _ (h c).1, Cert.Gmm.keeps_of _ _ _ _ _ _ _ (h c).2⟩

theorem okIdeal (m : (ℓ : Loc Cert.Kernel2Ideal.nD Cert.Kernel2Ideal.τ Cert.Kernel2Ideal.sig) → Buf (Elt Ideal) ℓ)
    (h : Cert.Pre_Kernel2Ideal (hPre_routed := Cert.Gmm.routedFacts) m) : Cert.Kernel2Ideal.Gmm.Ok m := fun c =>
  ⟨Cert.Gmm.exists_of _ _ _ _ _ _ _ (h c).1, Cert.Gmm.keeps_of _ _ _ _ _ _ _ (h c).2⟩

theorem gmmFrame : Cert.quiescent_Kernel2 (hPre_routed := Cert.Gmm.routedFacts) := fun m ρ h =>
  (θ_run Cert.Kernel2.defs _ _).mono (fun _ h => ⟨fun c => (h.1 c).2, h.2⟩) (Cert.Kernel2.Gmm.run m ρ (okRounded m h))

theorem gmmFrameIdeal : Cert.quiescent_Kernel2Ideal (hPre_routed := Cert.Gmm.routedFacts) := fun m ρ h =>
  (θ_run Cert.Kernel2Ideal.defs _ _).mono (fun _ h => ⟨fun c => (h.1 c).2, h.2⟩) (Cert.Kernel2Ideal.Gmm.run m ρ (okIdeal m h))

theorem reference2Frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic2 : Cert.algebraic_Kernel2Ideal_Reference2Ideal (hPre_routed := Cert.Gmm.routedFacts) := by
  intro m ρ m' ρ' hpre hagree
  have hok := okIdeal m hpre
  refine ⟨fun c => Cert.Kernel2Ideal.Gmm.result m c,
    (θ_run Cert.Kernel2Ideal.defs _ _).mono (fun r h c => ⟨(h.1 c).1.trans (Cert.Kernel2Ideal.Gmm.final m hok c), (h.1 c).2⟩)
      (Cert.Kernel2Ideal.Gmm.run m ρ hok),
    (θ_run Cert.Reference2Ideal.defs _ _).mono (fun r h c => ⟨(h c).1.trans ?_, (h c).2⟩)
      (Cert.Reference2Ideal.Value.run (F := Ideal) m' ρ')⟩
  obtain ⟨e0, e1, e2, e3, e4, e5, e6⟩ := hagree c
  rw [Cert.Reference2Ideal.Read.val_main_v39_eq, e0, e1, e2, e3, e4, e5, e6]
  funext i
  have hi : i = ix2 (i 0) (i 1) := by
    funext a
    match a with
    | ⟨0, _⟩ => rfl
    | ⟨1, _⟩ => rfl
  rw [hi]
  exact Cert.Reference2Ideal.Gmm.ref_apply _ _ _ _ _ _ _ _ _ ((hok c).lt _)

theorem okRounded3 (m : (ℓ : Loc Cert.Kernel3.nD Cert.Kernel3.τ Cert.Kernel3.sig) → Buf (Elt Bits) ℓ)
    (h : Cert.Pre_Kernel3 (hPre_routed := Cert.Gmm.routedFacts) m) : Cert.Kernel3.Gmm.Ok m := fun c =>
  ⟨Cert.Gmm.exists_of _ _ _ _ _ _ _ (h c).1, Cert.Gmm.keeps_of _ _ _ _ _ _ _ (h c).2⟩

theorem okIdeal3 (m : (ℓ : Loc Cert.Kernel3Ideal.nD Cert.Kernel3Ideal.τ Cert.Kernel3Ideal.sig) → Buf (Elt Ideal) ℓ)
    (h : Cert.Pre_Kernel3Ideal (hPre_routed := Cert.Gmm.routedFacts) m) : Cert.Kernel3Ideal.Gmm.Ok m := fun c =>
  ⟨Cert.Gmm.exists_of _ _ _ _ _ _ _ (h c).1, Cert.Gmm.keeps_of _ _ _ _ _ _ _ (h c).2⟩

theorem gmmFrame3 : Cert.quiescent_Kernel3 (hPre_routed := Cert.Gmm.routedFacts) := fun m ρ h =>
  (θ_run Cert.Kernel3.defs _ _).mono (fun _ h => ⟨fun c => (h.1 c).2, h.2⟩) (Cert.Kernel3.Gmm.run m ρ (okRounded3 m h))

theorem gmmFrameIdeal3 : Cert.quiescent_Kernel3Ideal (hPre_routed := Cert.Gmm.routedFacts) := fun m ρ h =>
  (θ_run Cert.Kernel3Ideal.defs _ _).mono (fun _ h => ⟨fun c => (h.1 c).2, h.2⟩) (Cert.Kernel3Ideal.Gmm.run m ρ (okIdeal3 m h))

theorem reference3Frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic3 : Cert.algebraic_Kernel3Ideal_Reference3Ideal (hPre_routed := Cert.Gmm.routedFacts) := by
  intro m ρ m' ρ' hpre hagree
  have hok := okIdeal3 m hpre
  refine ⟨fun c => Cert.Kernel3Ideal.Gmm.result m c,
    (θ_run Cert.Kernel3Ideal.defs _ _).mono (fun r h c => ⟨(h.1 c).1.trans (Cert.Kernel3Ideal.Gmm.final m hok c), (h.1 c).2⟩)
      (Cert.Kernel3Ideal.Gmm.run m ρ hok),
    (θ_run Cert.Reference3Ideal.defs _ _).mono (fun r h c => ⟨(h c).1.trans ?_, (h c).2⟩)
      (Cert.Reference3Ideal.Value.run (F := Ideal) m' ρ')⟩
  obtain ⟨e0, e1, e2, e3, e4, e5, e6⟩ := hagree c
  rw [Cert.Reference3Ideal.Read.val_main_v39_eq, e0, e1, e2, e3, e4, e5, e6]
  funext i
  have hi : i = ix2 (i 0) (i 1) := by
    funext a
    match a with
    | ⟨0, _⟩ => rfl
    | ⟨1, _⟩ => rfl
  rw [hi]
  exact Cert.Reference3Ideal.Gmm.ref_apply _ _ _ _ _ _ _ _ _ ((hok c).lt _)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Attn.finiteFacts, Cert.Gmm.routedFacts,
    fun m ρ _ => Cert.Kernel.Gen.frame m ρ, fun m ρ _ => Cert.KernelIdeal.Gen.frame m ρ, fun m ρ _ => Cert.KernelIdeal.Gen.frame m ρ,
    referenceFrame, fun m ρ _ => referenceFrame m ρ trivial, gmmFrame, gmmFrameIdeal, reference2Frame,
    fun m ρ _ => reference2Frame m ρ trivial, gmmFrame3, gmmFrameIdeal3, reference3Frame, fun m ρ _ => reference3Frame m ρ trivial,
    trivial, algebraic, trivial, algebraic2, trivial, algebraic3⟩

end Cert.Proof

end
